-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S2x96x512x512 : Shape := ⟨4, ![2, 96, 512, 512]⟩
abbrev S2x512x512 : Shape := ⟨3, ![2, 512, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel

variable [Facts]

def fn {F : FTy → Type} [FloatOps F] (main_arg0 : FVec F S2x96x512x512 .f32) (main_arg1 : IVec S2x512x512 32) : IVec S_ 1 :=
  let main_c : IVec S_ 32 := constantI S_ 32 0#32
  let main_v0 : IVec S2x512x512 32 := broadcastInDim S2x512x512 ![] bcast_S_S2x512x512 main_c
  let main_v1 : IVec S2x512x512 1 := cmpi .sge main_arg1 main_v0
  let main_c_0 : IVec S_ 32 := constantI S_ 32 1024#32
  let main_v2 : IVec S2x512x512 32 := broadcastInDim S2x512x512 ![] bcast_S_S2x512x512 main_c_0
  let main_v3 : IVec S2x512x512 1 := cmpi .slt main_arg1 main_v2
  let main_v4 : IVec S2x512x512 1 := andi main_v1 main_v3
  let main_c_1 : IVec S_ 1 := constantI S_ 1 1#1
  let main_v5 : IVec S_ 1 := (fun x v => Host.reduce IntOp.andi x v reducesTo_S2x512x512_S_d0_1_2 h_S_) main_v4 main_c_1
  main_v5
-- ==== Kernel.lean ====
abbrev S2x96x512x512 : Shape := ⟨4, ![2, 96, 512, 512]⟩
abbrev S2x512x512 : Shape := ⟨3, ![2, 512, 512]⟩
abbrev S192x262144 : Shape := ⟨2, ![192, 262144]⟩
abbrev S2x262144 : Shape := ⟨2, ![2, 262144]⟩
abbrev S192x1024 : Shape := ⟨2, ![192, 1024]⟩
abbrev S2x4096 : Shape := ⟨2, ![2, 4096]⟩
abbrev S2x3x4096 : Shape := ⟨3, ![2, 3, 4096]⟩
abbrev S8192 : Shape := ⟨1, ![8192]⟩
abbrev S1024 : Shape := ⟨1, ![1024]⟩
abbrev S16 : Shape := ⟨1, ![16]⟩
abbrev S_ : Shape := ⟨0, ![]⟩
abbrev S1x4096 : Shape := ⟨2, ![1, 4096]⟩
abbrev S4096 : Shape := ⟨1, ![4096]⟩
abbrev S1x3x4096 : Shape := ⟨3, ![1, 3, 4096]⟩
abbrev S3x4096 : Shape := ⟨2, ![3, 4096]⟩
abbrev S1x16 : Shape := ⟨2, ![1, 16]⟩
abbrev S1x1x16 : Shape := ⟨3, ![1, 1, 16]⟩
abbrev S1x1024 : Shape := ⟨2, ![1, 1024]⟩
abbrev S2x96x1024 : Shape := ⟨3, ![2, 96, 1024]⟩

abbrev nBuf : Table → Nat
  | .hbm => 6
  | .local .scVector .vmem => 14
  | _ => 0

abbrev bufTy : (tb : Table) → Fin (nBuf tb) → BufTy
  | .hbm, ⟨0, _⟩ => ⟨S2x96x512x512, .f32⟩
  | .hbm, ⟨1, _⟩ => ⟨S2x512x512, .i32⟩
  | .hbm, ⟨2, _⟩ => ⟨S192x262144, .f32⟩
  | .hbm, ⟨3, _⟩ => ⟨S2x262144, .i32⟩
  | .hbm, ⟨4, _⟩ => ⟨S192x1024, .f32⟩
  | .hbm, ⟨5, _⟩ => ⟨S2x96x1024, .f32⟩
  | .local .scVector .vmem, ⟨0, _⟩ => ⟨S2x4096, .i32⟩
  | .local .scVector .vmem, ⟨1, _⟩ => ⟨S2x3x4096, .f32⟩
  | .local .scVector .vmem, ⟨2, _⟩ => ⟨S8192, .f32⟩
  | .local .scVector .vmem, ⟨3, _⟩ => ⟨S8192, .f32⟩
  | .local .scVector .vmem, ⟨4, _⟩ => ⟨S8192, .f32⟩
  | .local .scVector .vmem, ⟨5, _⟩ => ⟨S8192, .f32⟩
  | .local .scVector .vmem, ⟨6, _⟩ => ⟨S8192, .f32⟩
  | .local .scVector .vmem, ⟨7, _⟩ => ⟨S8192, .f32⟩
  | .local .scVector .vmem, ⟨8, _⟩ => ⟨S8192, .f32⟩
  | .local .scVector .vmem, ⟨9, _⟩ => ⟨S8192, .f32⟩
  | .local .scVector .vmem, ⟨10, _⟩ => ⟨S8192, .f32⟩
  | .local .scVector .vmem, ⟨11, _⟩ => ⟨S1024, .f32⟩
  | .local .scVector .vmem, ⟨12, _⟩ => ⟨S16, .i32⟩
  | .local .scVector .vmem, ⟨13, _⟩ => ⟨S16, .f32⟩
  | _, _ => ⟨S2x96x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_7 : BitVec 32 := 0#32
  let c128_i32 : BitVec 32 := 128#32
  let v30 : BitVec 32 := Scalar.addi c0_i32_7 c128_i32
  let c1_i32_8 : BitVec 32 := 1#32
  ⟨c0_i32_7, v30, c1_i32_8⟩
def k0_off1 (k0_t1 : Fin k0_t1_loop.trips) (c0_i32_92 : BitVec 32) : Fin 1 → Nat :=
  let c0_i32_7 : BitVec 32 := 0#32
  let c1_i32_8 : BitVec 32 := 1#32
  let arg23 : BitVec 32 := Scf.iv c0_i32_7 c1_i32_8 k0_t1
  let c64_i32_91 : BitVec 32 := 64#32
  let v103 : BitVec 32 := Scalar.muli arg23 c64_i32_91
  let v104 : BitVec 32 := Scalar.addi v103 c0_i32_92
  let v105 : Index := Scalar.indexCast v104
  ![v105.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c96_i32 : BitVec 32 := 96#32
  let c0_i32_3 : BitVec 32 := 0#32
  let v19 : BitVec 1 := Scalar.cmpi .sgt c96_i32 c0_i32_3
  let v20 : BitVec 32 := Scalar.extui v19
  let c0_i32_4 : BitVec 32 := 0#32
  let v21 : BitVec 1 := Scalar.cmpi .slt c96_i32 c0_i32_4
  let v22 : BitVec 32 := Scalar.extui v21
  let v23 : BitVec 32 := Scalar.subi v20 v22
  let v24 : BitVec 1 := Scalar.cmpi .ne v18 v23
  let v25 : BitVec 32 := Scalar.remsi v12 c96_i32
  let c0_i32_5 : BitVec 32 := 0#32
  let v26 : BitVec 1 := Scalar.cmpi .ne v25 c0_i32_5
  let v27 : BitVec 1 := Scalar.andi v24 v26
  let v13 : BitVec 32 := Scalar.divsi v12 c96_i32
  let c1_i32 : BitVec 32 := 1#32
  let v28 : BitVec 32 := Scalar.subi v13 c1_i32
  let v29 : BitVec 32 := Scalar.select v27 v28 v13
  let c0_i32_12 : BitVec 32 := 0#32
  ![v29.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_18 : BitVec 32 := 0#32
  ![v12.toNat, 0]
@[reducible] def k0_t2_loop : Scf.Loop 32 :=
  let c0_i32_23 : BitVec 32 := 0#32
  let c32_i32 : BitVec 32 := 32#32
  let v46 : BitVec 32 := Scalar.addi c0_i32_23 c32_i32
  let c1_i32_24 : BitVec 32 := 1#32
  ⟨c0_i32_23, v46, c1_i32_24⟩
def k0_off4 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c96_i32 : BitVec 32 := 96#32
  let c0_i32_3 : BitVec 32 := 0#32
  let v19 : BitVec 1 := Scalar.cmpi .sgt c96_i32 c0_i32_3
  let v20 : BitVec 32 := Scalar.extui v19
  let c0_i32_4 : BitVec 32 := 0#32
  let v21 : BitVec 1 := Scalar.cmpi .slt c96_i32 c0_i32_4
  let v22 : BitVec 32 := Scalar.extui v21
  let v23 : BitVec 32 := Scalar.subi v20 v22
  let v24 : BitVec 1 := Scalar.cmpi .ne v18 v23
  let v25 : BitVec 32 := Scalar.remsi v12 c96_i32
  let c0_i32_5 : BitVec 32 := 0#32
  let v26 : BitVec 1 := Scalar.cmpi .ne v25 c0_i32_5
  let v27 : BitVec 1 := Scalar.andi v24 v26
  let v13 : BitVec 32 := Scalar.divsi v12 c96_i32
  let c1_i32 : BitVec 32 := 1#32
  let v28 : BitVec 32 := Scalar.subi v13 c1_i32
  let v29 : BitVec 32 := Scalar.select v27 v28 v13
  let c0_i32_23 : BitVec 32 := 0#32
  let c1_i32_24 : BitVec 32 := 1#32
  let arg23 : BitVec 32 := Scf.iv c0_i32_23 c1_i32_24 k0_t2
  let c2_i32_91 : BitVec 32 := 2#32
  let v103 : BitVec 32 := Scalar.muli arg23 c2_i32_91
  let c1_i32_92 : BitVec 32 := 1#32
  let v104 : BitVec 32 := Scalar.addi v103 c1_i32_92
  let c4096_i32 : BitVec 32 := 4096#32
  let v105 : BitVec 32 := Scalar.muli v104 c4096_i32
  ![v29.toNat, v105.toNat]
def k0_off5 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_23 : BitVec 32 := 0#32
  let c1_i32_24 : BitVec 32 := 1#32
  let arg23 : BitVec 32 := Scf.iv c0_i32_23 c1_i32_24 k0_t2
  let c2_i32_91 : BitVec 32 := 2#32
  let v103 : BitVec 32 := Scalar.muli arg23 c2_i32_91
  let c1_i32_92 : BitVec 32 := 1#32
  let v104 : BitVec 32 := Scalar.addi v103 c1_i32_92
  let c4096_i32 : BitVec 32 := 4096#32
  let v105 : BitVec 32 := Scalar.muli v104 c4096_i32
  ![v12.toNat, v105.toNat]
@[reducible] def k0_t3_loop : Scf.Loop 32 :=
  let c0_i32_117 : BitVec 32 := 0#32
  let c32_i32_118 : BitVec 32 := 32#32
  let v134 : BitVec 32 := Scalar.addi c0_i32_117 c32_i32_118
  let c1_i32_119 : BitVec 32 := 1#32
  ⟨c0_i32_117, v134, c1_i32_119⟩
def k0_off6 (k0_t3 : Fin k0_t3_loop.trips) : Fin 2 → Nat :=
  let c0_i32_147 : BitVec 32 := 0#32
  let v158 : Index := Scalar.indexCast c0_i32_147
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c0_i32_146 : BitVec 32 := 0#32
  let v157 : BitVec 32 := Scalar.addi v156 c0_i32_146
  let v159 : Index := Scalar.indexCast v157
  ![0, v159.toNat]
def k0_off7 (k0_t3 : Fin k0_t3_loop.trips) : Fin 3 → Nat :=
  let c0_i32_148 : BitVec 32 := 0#32
  let v165 : Index := Scalar.indexCast c0_i32_148
  let c0_i32_149 : BitVec 32 := 0#32
  let v166 : Index := Scalar.indexCast c0_i32_149
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c0_i32_146 : BitVec 32 := 0#32
  let v157 : BitVec 32 := Scalar.addi v156 c0_i32_146
  let v167 : Index := Scalar.indexCast v157
  ![0, 0, v167.toNat]
def k0_off8 (k0_t3 : Fin k0_t3_loop.trips) : Fin 3 → Nat :=
  let c0_i32_151 : BitVec 32 := 0#32
  let v175 : Index := Scalar.indexCast c0_i32_151
  let c1_i32_152 : BitVec 32 := 1#32
  let v176 : Index := Scalar.indexCast c1_i32_152
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c0_i32_146 : BitVec 32 := 0#32
  let v157 : BitVec 32 := Scalar.addi v156 c0_i32_146
  let v177 : Index := Scalar.indexCast v157
  ![0, 1, v177.toNat]
def k0_off9 (k0_t3 : Fin k0_t3_loop.trips) : Fin 3 → Nat :=
  let c0_i32_154 : BitVec 32 := 0#32
  let v185 : Index := Scalar.indexCast c0_i32_154
  let c2_i32_155 : BitVec 32 := 2#32
  let v186 : Index := Scalar.indexCast c2_i32_155
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c0_i32_146 : BitVec 32 := 0#32
  let v157 : BitVec 32 := Scalar.addi v156 c0_i32_146
  let v187 : Index := Scalar.indexCast v157
  ![0, 2, v187.toNat]

def k0_chk2 (v161 : IVec S16 32) : Prop :=
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a)
theorem k0_idx3_inb : ∀ (v161 : IVec S16 32) (k0_hw2 : k0_chk2 v161), ∀ a x, ((![v161] : Fin 1 → IVec S16 32) a x).toNat < S8192.size a := fun v161 k0_hw2 => k0_hw2.1
theorem k0_idx4_inb : ∀ (v161 : IVec S16 32) (k0_hw2 : k0_chk2 v161), ∀ a x, ((![v161] : Fin 1 → IVec S16 32) a x).toNat < S8192.size a := fun v161 k0_hw2 => k0_hw2.2.1
theorem k0_idx6_inb : ∀ (v161 : IVec S16 32) (k0_hw2 : k0_chk2 v161), ∀ a x, ((![v161] : Fin 1 → IVec S16 32) a x).toNat < S8192.size a := fun v161 k0_hw2 => k0_hw2.2.2.1
theorem k0_idx7_inb : ∀ (v161 : IVec S16 32) (k0_hw2 : k0_chk2 v161), ∀ a x, ((![v161] : Fin 1 → IVec S16 32) a x).toNat < S8192.size a := fun v161 k0_hw2 => k0_hw2.2.2.2.1
theorem k0_idx9_inb : ∀ (v161 : IVec S16 32) (k0_hw2 : k0_chk2 v161), ∀ a x, ((![v161] : Fin 1 → IVec S16 32) a x).toNat < S8192.size a := fun v161 k0_hw2 => k0_hw2.2.2.2.2.1
theorem k0_idx10_inb : ∀ (v161 : IVec S16 32) (k0_hw2 : k0_chk2 v161), ∀ a x, ((![v161] : Fin 1 → IVec S16 32) a x).toNat < S8192.size a := fun v161 k0_hw2 => k0_hw2.2.2.2.2.2
def k0_off10 (k0_t3 : Fin k0_t3_loop.trips) : Fin 2 → Nat :=
  let c0_i32_157 : BitVec 32 := 0#32
  let v196 : Index := Scalar.indexCast c0_i32_157
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c16_i32 : BitVec 32 := 16#32
  let v195 : BitVec 32 := Scalar.addi v156 c16_i32
  let v197 : Index := Scalar.indexCast v195
  ![0, v197.toNat]
def k0_off11 (k0_t3 : Fin k0_t3_loop.trips) : Fin 3 → Nat :=
  let c0_i32_159 : BitVec 32 := 0#32
  let v203 : Index := Scalar.indexCast c0_i32_159
  let c0_i32_160 : BitVec 32 := 0#32
  let v204 : Index := Scalar.indexCast c0_i32_160
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c16_i32 : BitVec 32 := 16#32
  let v195 : BitVec 32 := Scalar.addi v156 c16_i32
  let v205 : Index := Scalar.indexCast v195
  ![0, 0, v205.toNat]
def k0_off12 (k0_t3 : Fin k0_t3_loop.trips) : Fin 3 → Nat :=
  let c0_i32_162 : BitVec 32 := 0#32
  let v213 : Index := Scalar.indexCast c0_i32_162
  let c1_i32_163 : BitVec 32 := 1#32
  let v214 : Index := Scalar.indexCast c1_i32_163
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c16_i32 : BitVec 32 := 16#32
  let v195 : BitVec 32 := Scalar.addi v156 c16_i32
  let v215 : Index := Scalar.indexCast v195
  ![0, 1, v215.toNat]
def k0_off13 (k0_t3 : Fin k0_t3_loop.trips) : Fin 3 → Nat :=
  let c0_i32_165 : BitVec 32 := 0#32
  let v223 : Index := Scalar.indexCast c0_i32_165
  let c2_i32_166 : BitVec 32 := 2#32
  let v224 : Index := Scalar.indexCast c2_i32_166
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c16_i32 : BitVec 32 := 16#32
  let v195 : BitVec 32 := Scalar.addi v156 c16_i32
  let v225 : Index := Scalar.indexCast v195
  ![0, 2, v225.toNat]

def k0_chk3 (v199 : IVec S16 32) : Prop :=
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a)
theorem k0_idx13_inb : ∀ (v199 : IVec S16 32) (k0_hw3 : k0_chk3 v199), ∀ a x, ((![v199] : Fin 1 → IVec S16 32) a x).toNat < S8192.size a := fun v199 k0_hw3 => k0_hw3.1
theorem k0_idx14_inb : ∀ (v199 : IVec S16 32) (k0_hw3 : k0_chk3 v199), ∀ a x, ((![v199] : Fin 1 → IVec S16 32) a x).toNat < S8192.size a := fun v199 k0_hw3 => k0_hw3.2.1
theorem k0_idx16_inb : ∀ (v199 : IVec S16 32) (k0_hw3 : k0_chk3 v199), ∀ a x, ((![v199] : Fin 1 → IVec S16 32) a x).toNat < S8192.size a := fun v199 k0_hw3 => k0_hw3.2.2.1
theorem k0_idx17_inb : ∀ (v199 : IVec S16 32) (k0_hw3 : k0_chk3 v199), ∀ a x, ((![v199] : Fin 1 → IVec S16 32) a x).toNat < S8192.size a := fun v199 k0_hw3 => k0_hw3.2.2.2.1
theorem k0_idx19_inb : ∀ (v199 : IVec S16 32) (k0_hw3 : k0_chk3 v199), ∀ a x, ((![v199] : Fin 1 → IVec S16 32) a x).toNat < S8192.size a := fun v199 k0_hw3 => k0_hw3.2.2.2.2.1
theorem k0_idx20_inb : ∀ (v199 : IVec S16 32) (k0_hw3 : k0_chk3 v199), ∀ a x, ((![v199] : Fin 1 → IVec S16 32) a x).toNat < S8192.size a := fun v199 k0_hw3 => k0_hw3.2.2.2.2.2
def k0_off14 (k0_t3 : Fin k0_t3_loop.trips) : Fin 2 → Nat :=
  let c0_i32_169 : BitVec 32 := 0#32
  let v234 : Index := Scalar.indexCast c0_i32_169
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c32_i32_168 : BitVec 32 := 32#32
  let v233 : BitVec 32 := Scalar.addi v156 c32_i32_168
  let v235 : Index := Scalar.indexCast v233
  ![0, v235.toNat]
def k0_off15 (k0_t3 : Fin k0_t3_loop.trips) : Fin 3 → Nat :=
  let c0_i32_171 : BitVec 32 := 0#32
  let v241 : Index := Scalar.indexCast c0_i32_171
  let c0_i32_172 : BitVec 32 := 0#32
  let v242 : Index := Scalar.indexCast c0_i32_172
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c32_i32_168 : BitVec 32 := 32#32
  let v233 : BitVec 32 := Scalar.addi v156 c32_i32_168
  let v243 : Index := Scalar.indexCast v233
  ![0, 0, v243.toNat]
def k0_off16 (k0_t3 : Fin k0_t3_loop.trips) : Fin 3 → Nat :=
  let c0_i32_174 : BitVec 32 := 0#32
  let v251 : Index := Scalar.indexCast c0_i32_174
  let c1_i32_175 : BitVec 32 := 1#32
  let v252 : Index := Scalar.indexCast c1_i32_175
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c32_i32_168 : BitVec 32 := 32#32
  let v233 : BitVec 32 := Scalar.addi v156 c32_i32_168
  let v253 : Index := Scalar.indexCast v233
  ![0, 1, v253.toNat]
def k0_off17 (k0_t3 : Fin k0_t3_loop.trips) : Fin 3 → Nat :=
  let c0_i32_177 : BitVec 32 := 0#32
  let v261 : Index := Scalar.indexCast c0_i32_177
  let c2_i32_178 : BitVec 32 := 2#32
  let v262 : Index := Scalar.indexCast c2_i32_178
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c32_i32_168 : BitVec 32 := 32#32
  let v233 : BitVec 32 := Scalar.addi v156 c32_i32_168
  let v263 : Index := Scalar.indexCast v233
  ![0, 2, v263.toNat]

def k0_chk4 (v237 : IVec S16 32) : Prop :=
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a)
theorem k0_idx23_inb : ∀ (v237 : IVec S16 32) (k0_hw4 : k0_chk4 v237), ∀ a x, ((![v237] : Fin 1 → IVec S16 32) a x).toNat < S8192.size a := fun v237 k0_hw4 => k0_hw4.1
theorem k0_idx24_inb : ∀ (v237 : IVec S16 32) (k0_hw4 : k0_chk4 v237), ∀ a x, ((![v237] : Fin 1 → IVec S16 32) a x).toNat < S8192.size a := fun v237 k0_hw4 => k0_hw4.2.1
theorem k0_idx26_inb : ∀ (v237 : IVec S16 32) (k0_hw4 : k0_chk4 v237), ∀ a x, ((![v237] : Fin 1 → IVec S16 32) a x).toNat < S8192.size a := fun v237 k0_hw4 => k0_hw4.2.2.1
theorem k0_idx27_inb : ∀ (v237 : IVec S16 32) (k0_hw4 : k0_chk4 v237), ∀ a x, ((![v237] : Fin 1 → IVec S16 32) a x).toNat < S8192.size a := fun v237 k0_hw4 => k0_hw4.2.2.2.1
theorem k0_idx29_inb : ∀ (v237 : IVec S16 32) (k0_hw4 : k0_chk4 v237), ∀ a x, ((![v237] : Fin 1 → IVec S16 32) a x).toNat < S8192.size a := fun v237 k0_hw4 => k0_hw4.2.2.2.2.1
theorem k0_idx30_inb : ∀ (v237 : IVec S16 32) (k0_hw4 : k0_chk4 v237), ∀ a x, ((![v237] : Fin 1 → IVec S16 32) a x).toNat < S8192.size a := fun v237 k0_hw4 => k0_hw4.2.2.2.2.2
def k0_off18 (k0_t3 : Fin k0_t3_loop.trips) : Fin 2 → Nat :=
  let c0_i32_180 : BitVec 32 := 0#32
  let v272 : Index := Scalar.indexCast c0_i32_180
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c48_i32 : BitVec 32 := 48#32
  let v271 : BitVec 32 := Scalar.addi v156 c48_i32
  let v273 : Index := Scalar.indexCast v271
  ![0, v273.toNat]
def k0_off19 (k0_t3 : Fin k0_t3_loop.trips) : Fin 3 → Nat :=
  let c0_i32_182 : BitVec 32 := 0#32
  let v279 : Index := Scalar.indexCast c0_i32_182
  let c0_i32_183 : BitVec 32 := 0#32
  let v280 : Index := Scalar.indexCast c0_i32_183
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c48_i32 : BitVec 32 := 48#32
  let v271 : BitVec 32 := Scalar.addi v156 c48_i32
  let v281 : Index := Scalar.indexCast v271
  ![0, 0, v281.toNat]
def k0_off20 (k0_t3 : Fin k0_t3_loop.trips) : Fin 3 → Nat :=
  let c0_i32_185 : BitVec 32 := 0#32
  let v289 : Index := Scalar.indexCast c0_i32_185
  let c1_i32_186 : BitVec 32 := 1#32
  let v290 : Index := Scalar.indexCast c1_i32_186
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c48_i32 : BitVec 32 := 48#32
  let v271 : BitVec 32 := Scalar.addi v156 c48_i32
  let v291 : Index := Scalar.indexCast v271
  ![0, 1, v291.toNat]
def k0_off21 (k0_t3 : Fin k0_t3_loop.trips) : Fin 3 → Nat :=
  let c0_i32_188 : BitVec 32 := 0#32
  let v299 : Index := Scalar.indexCast c0_i32_188
  let c2_i32_189 : BitVec 32 := 2#32
  let v300 : Index := Scalar.indexCast c2_i32_189
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c48_i32 : BitVec 32 := 48#32
  let v271 : BitVec 32 := Scalar.addi v156 c48_i32
  let v301 : Index := Scalar.indexCast v271
  ![0, 2, v301.toNat]

def k0_chk5 (v275 : IVec S16 32) : Prop :=
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a)
theorem k0_idx33_inb : ∀ (v275 : IVec S16 32) (k0_hw5 : k0_chk5 v275), ∀ a x, ((![v275] : Fin 1 → IVec S16 32) a x).toNat < S8192.size a := fun v275 k0_hw5 => k0_hw5.1
theorem k0_idx34_inb : ∀ (v275 : IVec S16 32) (k0_hw5 : k0_chk5 v275), ∀ a x, ((![v275] : Fin 1 → IVec S16 32) a x).toNat < S8192.size a := fun v275 k0_hw5 => k0_hw5.2.1
theorem k0_idx36_inb : ∀ (v275 : IVec S16 32) (k0_hw5 : k0_chk5 v275), ∀ a x, ((![v275] : Fin 1 → IVec S16 32) a x).toNat < S8192.size a := fun v275 k0_hw5 => k0_hw5.2.2.1
theorem k0_idx37_inb : ∀ (v275 : IVec S16 32) (k0_hw5 : k0_chk5 v275), ∀ a x, ((![v275] : Fin 1 → IVec S16 32) a x).toNat < S8192.size a := fun v275 k0_hw5 => k0_hw5.2.2.2.1
theorem k0_idx39_inb : ∀ (v275 : IVec S16 32) (k0_hw5 : k0_chk5 v275), ∀ a x, ((![v275] : Fin 1 → IVec S16 32) a x).toNat < S8192.size a := fun v275 k0_hw5 => k0_hw5.2.2.2.2.1
theorem k0_idx40_inb : ∀ (v275 : IVec S16 32) (k0_hw5 : k0_chk5 v275), ∀ a x, ((![v275] : Fin 1 → IVec S16 32) a x).toNat < S8192.size a := fun v275 k0_hw5 => k0_hw5.2.2.2.2.2
def k0_off22 (k0_t3 : Fin k0_t3_loop.trips) : Fin 2 → Nat :=
  let c0_i32_192 : BitVec 32 := 0#32
  let v310 : Index := Scalar.indexCast c0_i32_192
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c64_i32_191 : BitVec 32 := 64#32
  let v309 : BitVec 32 := Scalar.addi v156 c64_i32_191
  let v311 : Index := Scalar.indexCast v309
  ![0, v311.toNat]
def k0_off23 (k0_t3 : Fin k0_t3_loop.trips) : Fin 3 → Nat :=
  let c0_i32_194 : BitVec 32 := 0#32
  let v317 : Index := Scalar.indexCast c0_i32_194
  let c0_i32_195 : BitVec 32 := 0#32
  let v318 : Index := Scalar.indexCast c0_i32_195
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c64_i32_191 : BitVec 32 := 64#32
  let v309 : BitVec 32 := Scalar.addi v156 c64_i32_191
  let v319 : Index := Scalar.indexCast v309
  ![0, 0, v319.toNat]
def k0_off24 (k0_t3 : Fin k0_t3_loop.trips) : Fin 3 → Nat :=
  let c0_i32_197 : BitVec 32 := 0#32
  let v327 : Index := Scalar.indexCast c0_i32_197
  let c1_i32_198 : BitVec 32 := 1#32
  let v328 : Index := Scalar.indexCast c1_i32_198
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c64_i32_191 : BitVec 32 := 64#32
  let v309 : BitVec 32 := Scalar.addi v156 c64_i32_191
  let v329 : Index := Scalar.indexCast v309
  ![0, 1, v329.toNat]
def k0_off25 (k0_t3 : Fin k0_t3_loop.trips) : Fin 3 → Nat :=
  let c0_i32_200 : BitVec 32 := 0#32
  let v337 : Index := Scalar.indexCast c0_i32_200
  let c2_i32_201 : BitVec 32 := 2#32
  let v338 : Index := Scalar.indexCast c2_i32_201
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c64_i32_191 : BitVec 32 := 64#32
  let v309 : BitVec 32 := Scalar.addi v156 c64_i32_191
  let v339 : Index := Scalar.indexCast v309
  ![0, 2, v339.toNat]

def k0_chk6 (v313 : IVec S16 32) : Prop :=
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a)
theorem k0_idx43_inb : ∀ (v313 : IVec S16 32) (k0_hw6 : k0_chk6 v313), ∀ a x, ((![v313] : Fin 1 → IVec S16 32) a x).toNat < S8192.size a := fun v313 k0_hw6 => k0_hw6.1
theorem k0_idx44_inb : ∀ (v313 : IVec S16 32) (k0_hw6 : k0_chk6 v313), ∀ a x, ((![v313] : Fin 1 → IVec S16 32) a x).toNat < S8192.size a := fun v313 k0_hw6 => k0_hw6.2.1
theorem k0_idx46_inb : ∀ (v313 : IVec S16 32) (k0_hw6 : k0_chk6 v313), ∀ a x, ((![v313] : Fin 1 → IVec S16 32) a x).toNat < S8192.size a := fun v313 k0_hw6 => k0_hw6.2.2.1
theorem k0_idx47_inb : ∀ (v313 : IVec S16 32) (k0_hw6 : k0_chk6 v313), ∀ a x, ((![v313] : Fin 1 → IVec S16 32) a x).toNat < S8192.size a := fun v313 k0_hw6 => k0_hw6.2.2.2.1
theorem k0_idx49_inb : ∀ (v313 : IVec S16 32) (k0_hw6 : k0_chk6 v313), ∀ a x, ((![v313] : Fin 1 → IVec S16 32) a x).toNat < S8192.size a := fun v313 k0_hw6 => k0_hw6.2.2.2.2.1
theorem k0_idx50_inb : ∀ (v313 : IVec S16 32) (k0_hw6 : k0_chk6 v313), ∀ a x, ((![v313] : Fin 1 → IVec S16 32) a x).toNat < S8192.size a := fun v313 k0_hw6 => k0_hw6.2.2.2.2.2
def k0_off26 (k0_t3 : Fin k0_t3_loop.trips) : Fin 2 → Nat :=
  let c0_i32_203 : BitVec 32 := 0#32
  let v348 : Index := Scalar.indexCast c0_i32_203
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c80_i32 : BitVec 32 := 80#32
  let v347 : BitVec 32 := Scalar.addi v156 c80_i32
  let v349 : Index := Scalar.indexCast v347
  ![0, v349.toNat]
def k0_off27 (k0_t3 : Fin k0_t3_loop.trips) : Fin 3 → Nat :=
  let c0_i32_205 : BitVec 32 := 0#32
  let v355 : Index := Scalar.indexCast c0_i32_205
  let c0_i32_206 : BitVec 32 := 0#32
  let v356 : Index := Scalar.indexCast c0_i32_206
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c80_i32 : BitVec 32 := 80#32
  let v347 : BitVec 32 := Scalar.addi v156 c80_i32
  let v357 : Index := Scalar.indexCast v347
  ![0, 0, v357.toNat]
def k0_off28 (k0_t3 : Fin k0_t3_loop.trips) : Fin 3 → Nat :=
  let c0_i32_208 : BitVec 32 := 0#32
  let v365 : Index := Scalar.indexCast c0_i32_208
  let c1_i32_209 : BitVec 32 := 1#32
  let v366 : Index := Scalar.indexCast c1_i32_209
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c80_i32 : BitVec 32 := 80#32
  let v347 : BitVec 32 := Scalar.addi v156 c80_i32
  let v367 : Index := Scalar.indexCast v347
  ![0, 1, v367.toNat]
def k0_off29 (k0_t3 : Fin k0_t3_loop.trips) : Fin 3 → Nat :=
  let c0_i32_211 : BitVec 32 := 0#32
  let v375 : Index := Scalar.indexCast c0_i32_211
  let c2_i32_212 : BitVec 32 := 2#32
  let v376 : Index := Scalar.indexCast c2_i32_212
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c80_i32 : BitVec 32 := 80#32
  let v347 : BitVec 32 := Scalar.addi v156 c80_i32
  let v377 : Index := Scalar.indexCast v347
  ![0, 2, v377.toNat]

def k0_chk7 (v351 : IVec S16 32) : Prop :=
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a)
theorem k0_idx53_inb : ∀ (v351 : IVec S16 32) (k0_hw7 : k0_chk7 v351), ∀ a x, ((![v351] : Fin 1 → IVec S16 32) a x).toNat < S8192.size a := fun v351 k0_hw7 => k0_hw7.1
theorem k0_idx54_inb : ∀ (v351 : IVec S16 32) (k0_hw7 : k0_chk7 v351), ∀ a x, ((![v351] : Fin 1 → IVec S16 32) a x).toNat < S8192.size a := fun v351 k0_hw7 => k0_hw7.2.1
theorem k0_idx56_inb : ∀ (v351 : IVec S16 32) (k0_hw7 : k0_chk7 v351), ∀ a x, ((![v351] : Fin 1 → IVec S16 32) a x).toNat < S8192.size a := fun v351 k0_hw7 => k0_hw7.2.2.1
theorem k0_idx57_inb : ∀ (v351 : IVec S16 32) (k0_hw7 : k0_chk7 v351), ∀ a x, ((![v351] : Fin 1 → IVec S16 32) a x).toNat < S8192.size a := fun v351 k0_hw7 => k0_hw7.2.2.2.1
theorem k0_idx59_inb : ∀ (v351 : IVec S16 32) (k0_hw7 : k0_chk7 v351), ∀ a x, ((![v351] : Fin 1 → IVec S16 32) a x).toNat < S8192.size a := fun v351 k0_hw7 => k0_hw7.2.2.2.2.1
theorem k0_idx60_inb : ∀ (v351 : IVec S16 32) (k0_hw7 : k0_chk7 v351), ∀ a x, ((![v351] : Fin 1 → IVec S16 32) a x).toNat < S8192.size a := fun v351 k0_hw7 => k0_hw7.2.2.2.2.2
def k0_off30 (k0_t3 : Fin k0_t3_loop.trips) : Fin 2 → Nat :=
  let c0_i32_215 : BitVec 32 := 0#32
  let v386 : Index := Scalar.indexCast c0_i32_215
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c96_i32_214 : BitVec 32 := 96#32
  let v385 : BitVec 32 := Scalar.addi v156 c96_i32_214
  let v387 : Index := Scalar.indexCast v385
  ![0, v387.toNat]
def k0_off31 (k0_t3 : Fin k0_t3_loop.trips) : Fin 3 → Nat :=
  let c0_i32_217 : BitVec 32 := 0#32
  let v393 : Index := Scalar.indexCast c0_i32_217
  let c0_i32_218 : BitVec 32 := 0#32
  let v394 : Index := Scalar.indexCast c0_i32_218
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c96_i32_214 : BitVec 32 := 96#32
  let v385 : BitVec 32 := Scalar.addi v156 c96_i32_214
  let v395 : Index := Scalar.indexCast v385
  ![0, 0, v395.toNat]
def k0_off32 (k0_t3 : Fin k0_t3_loop.trips) : Fin 3 → Nat :=
  let c0_i32_220 : BitVec 32 := 0#32
  let v403 : Index := Scalar.indexCast c0_i32_220
  let c1_i32_221 : BitVec 32 := 1#32
  let v404 : Index := Scalar.indexCast c1_i32_221
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c96_i32_214 : BitVec 32 := 96#32
  let v385 : BitVec 32 := Scalar.addi v156 c96_i32_214
  let v405 : Index := Scalar.indexCast v385
  ![0, 1, v405.toNat]
def k0_off33 (k0_t3 : Fin k0_t3_loop.trips) : Fin 3 → Nat :=
  let c0_i32_223 : BitVec 32 := 0#32
  let v413 : Index := Scalar.indexCast c0_i32_223
  let c2_i32_224 : BitVec 32 := 2#32
  let v414 : Index := Scalar.indexCast c2_i32_224
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c96_i32_214 : BitVec 32 := 96#32
  let v385 : BitVec 32 := Scalar.addi v156 c96_i32_214
  let v415 : Index := Scalar.indexCast v385
  ![0, 2, v415.toNat]

def k0_chk8 (v389 : IVec S16 32) : Prop :=
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a)
theorem k0_idx63_inb : ∀ (v389 : IVec S16 32) (k0_hw8 : k0_chk8 v389), ∀ a x, ((![v389] : Fin 1 → IVec S16 32) a x).toNat < S8192.size a := fun v389 k0_hw8 => k0_hw8.1
theorem k0_idx64_inb : ∀ (v389 : IVec S16 32) (k0_hw8 : k0_chk8 v389), ∀ a x, ((![v389] : Fin 1 → IVec S16 32) a x).toNat < S8192.size a := fun v389 k0_hw8 => k0_hw8.2.1
theorem k0_idx66_inb : ∀ (v389 : IVec S16 32) (k0_hw8 : k0_chk8 v389), ∀ a x, ((![v389] : Fin 1 → IVec S16 32) a x).toNat < S8192.size a := fun v389 k0_hw8 => k0_hw8.2.2.1
theorem k0_idx67_inb : ∀ (v389 : IVec S16 32) (k0_hw8 : k0_chk8 v389), ∀ a x, ((![v389] : Fin 1 → IVec S16 32) a x).toNat < S8192.size a := fun v389 k0_hw8 => k0_hw8.2.2.2.1
theorem k0_idx69_inb : ∀ (v389 : IVec S16 32) (k0_hw8 : k0_chk8 v389), ∀ a x, ((![v389] : Fin 1 → IVec S16 32) a x).toNat < S8192.size a := fun v389 k0_hw8 => k0_hw8.2.2.2.2.1
theorem k0_idx70_inb : ∀ (v389 : IVec S16 32) (k0_hw8 : k0_chk8 v389), ∀ a x, ((![v389] : Fin 1 → IVec S16 32) a x).toNat < S8192.size a := fun v389 k0_hw8 => k0_hw8.2.2.2.2.2
def k0_off34 (k0_t3 : Fin k0_t3_loop.trips) : Fin 2 → Nat :=
  let c0_i32_226 : BitVec 32 := 0#32
  let v424 : Index := Scalar.indexCast c0_i32_226
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c112_i32 : BitVec 32 := 112#32
  let v423 : BitVec 32 := Scalar.addi v156 c112_i32
  let v425 : Index := Scalar.indexCast v423
  ![0, v425.toNat]
def k0_off35 (k0_t3 : Fin k0_t3_loop.trips) : Fin 3 → Nat :=
  let c0_i32_228 : BitVec 32 := 0#32
  let v431 : Index := Scalar.indexCast c0_i32_228
  let c0_i32_229 : BitVec 32 := 0#32
  let v432 : Index := Scalar.indexCast c0_i32_229
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c112_i32 : BitVec 32 := 112#32
  let v423 : BitVec 32 := Scalar.addi v156 c112_i32
  let v433 : Index := Scalar.indexCast v423
  ![0, 0, v433.toNat]
def k0_off36 (k0_t3 : Fin k0_t3_loop.trips) : Fin 3 → Nat :=
  let c0_i32_231 : BitVec 32 := 0#32
  let v441 : Index := Scalar.indexCast c0_i32_231
  let c1_i32_232 : BitVec 32 := 1#32
  let v442 : Index := Scalar.indexCast c1_i32_232
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c112_i32 : BitVec 32 := 112#32
  let v423 : BitVec 32 := Scalar.addi v156 c112_i32
  let v443 : Index := Scalar.indexCast v423
  ![0, 1, v443.toNat]
def k0_off37 (k0_t3 : Fin k0_t3_loop.trips) : Fin 3 → Nat :=
  let c0_i32_234 : BitVec 32 := 0#32
  let v451 : Index := Scalar.indexCast c0_i32_234
  let c2_i32_235 : BitVec 32 := 2#32
  let v452 : Index := Scalar.indexCast c2_i32_235
  let c0_i32_117 : BitVec 32 := 0#32
  let c1_i32_119 : BitVec 32 := 1#32
  let arg25 : BitVec 32 := Scf.iv c0_i32_117 c1_i32_119 k0_t3
  let c128_i32_145 : BitVec 32 := 128#32
  let v156 : BitVec 32 := Scalar.muli arg25 c128_i32_145
  let c112_i32 : BitVec 32 := 112#32
  let v423 : BitVec 32 := Scalar.addi v156 c112_i32
  let v453 : Index := Scalar.indexCast v423
  ![0, 2, v453.toNat]

def k0_chk9 (v427 : IVec S16 32) : Prop :=
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a)
theorem k0_idx73_inb : ∀ (v427 : IVec S16 32) (k0_hw9 : k0_chk9 v427), ∀ a x, ((![v427] : Fin 1 → IVec S16 32) a x).toNat < S8192.size a := fun v427 k0_hw9 => k0_hw9.1
theorem k0_idx74_inb : ∀ (v427 : IVec S16 32) (k0_hw9 : k0_chk9 v427), ∀ a x, ((![v427] : Fin 1 → IVec S16 32) a x).toNat < S8192.size a := fun v427 k0_hw9 => k0_hw9.2.1
theorem k0_idx76_inb : ∀ (v427 : IVec S16 32) (k0_hw9 : k0_chk9 v427), ∀ a x, ((![v427] : Fin 1 → IVec S16 32) a x).toNat < S8192.size a := fun v427 k0_hw9 => k0_hw9.2.2.1
theorem k0_idx77_inb : ∀ (v427 : IVec S16 32) (k0_hw9 : k0_chk9 v427), ∀ a x, ((![v427] : Fin 1 → IVec S16 32) a x).toNat < S8192.size a := fun v427 k0_hw9 => k0_hw9.2.2.2.1
theorem k0_idx79_inb : ∀ (v427 : IVec S16 32) (k0_hw9 : k0_chk9 v427), ∀ a x, ((![v427] : Fin 1 → IVec S16 32) a x).toNat < S8192.size a := fun v427 k0_hw9 => k0_hw9.2.2.2.2.1
theorem k0_idx80_inb : ∀ (v427 : IVec S16 32) (k0_hw9 : k0_chk9 v427), ∀ a x, ((![v427] : Fin 1 → IVec S16 32) a x).toNat < S8192.size a := fun v427 k0_hw9 => k0_hw9.2.2.2.2.2
def k0_cond1 (k0_t2 : Fin k0_t2_loop.trips) : BitVec 1 :=
  let c0_i32_23 : BitVec 32 := 0#32
  let c1_i32_24 : BitVec 32 := 1#32
  let arg23 : BitVec 32 := Scf.iv c0_i32_23 c1_i32_24 k0_t2
  let c1_i32_121 : BitVec 32 := 1#32
  let v136 : BitVec 32 := Scalar.addi arg23 c1_i32_121
  let c32_i32_122 : BitVec 32 := 32#32
  let v137 : BitVec 1 := Scalar.cmpi .slt v136 c32_i32_122
  let v138 : BitVec 32 := Scalar.extui v137
  let c0_i32_123 : BitVec 32 := 0#32
  let v139 : BitVec 1 := Scalar.cmpi .ne v138 c0_i32_123
  v139

def k0_off38 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_1 : BitVec 32 := 0#32
  let v14 : BitVec 1 := Scalar.cmpi .sgt v12 c0_i32_1
  let v15 : BitVec 32 := Scalar.extui v14
  let c0_i32_2 : BitVec 32 := 0#32
  let v16 : BitVec 1 := Scalar.cmpi .slt v12 c0_i32_2
  let v17 : BitVec 32 := Scalar.extui v16
  let v18 : BitVec 32 := Scalar.subi v15 v17
  let c96_i32 : BitVec 32 := 96#32
  let c0_i32_3 : BitVec 32 := 0#32
  let v19 : BitVec 1 := Scalar.cmpi .sgt c96_i32 c0_i32_3
  let v20 : BitVec 32 := Scalar.extui v19
  let c0_i32_4 : BitVec 32 := 0#32
  let v21 : BitVec 1 := Scalar.cmpi .slt c96_i32 c0_i32_4
  let v22 : BitVec 32 := Scalar.extui v21
  let v23 : BitVec 32 := Scalar.subi v20 v22
  let v24 : BitVec 1 := Scalar.cmpi .ne v18 v23
  let v25 : BitVec 32 := Scalar.remsi v12 c96_i32
  let c0_i32_5 : BitVec 32 := 0#32
  let v26 : BitVec 1 := Scalar.cmpi .ne v25 c0_i32_5
  let v27 : BitVec 1 := Scalar.andi v24 v26
  let v13 : BitVec 32 := Scalar.divsi v12 c96_i32
  let c1_i32 : BitVec 32 := 1#32
  let v28 : BitVec 32 := Scalar.subi v13 c1_i32
  let v29 : BitVec 32 := Scalar.select v27 v28 v13
  let c0_i32_23 : BitVec 32 := 0#32
  let c1_i32_24 : BitVec 32 := 1#32
  let arg23 : BitVec 32 := Scf.iv c0_i32_23 c1_i32_24 k0_t2
  let c2_i32_91 : BitVec 32 := 2#32
  let v103 : BitVec 32 := Scalar.muli arg23 c2_i32_91
  let c2_i32_145 : BitVec 32 := 2#32
  let v156 : BitVec 32 := Scalar.addi v103 c2_i32_145
  let c4096_i32_146 : BitVec 32 := 4096#32
  let v157 : BitVec 32 := Scalar.muli v156 c4096_i32_146
  ![v29.toNat, v157.toNat]
def k0_off39 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let c0_i32 : BitVec 32 := 0#32
  let v12 : BitVec 32 := Scalar.addi v11 c0_i32
  let c0_i32_23 : BitVec 32 := 0#32
  let c1_i32_24 : BitVec 32 := 1#32
  let arg23 : BitVec 32 := Scf.iv c0_i32_23 c1_i32_24 k0_t2
  let c2_i32_91 : BitVec 32 := 2#32
  let v103 : BitVec 32 := Scalar.muli arg23 c2_i32_91
  let c2_i32_145 : BitVec 32 := 2#32
  let v156 : BitVec 32 := Scalar.addi v103 c2_i32_145
  let c4096_i32_146 : BitVec 32 := 4096#32
  let v157 : BitVec 32 := Scalar.muli v156 c4096_i32_146
  ![v12.toNat, v157.toNat]
@[reducible] def k0_t4_loop : Scf.Loop 32 :=
  let c0_i32_140 : BitVec 32 := 0#32
  let c32_i32_141 : BitVec 32 := 32#32
  let v154 : BitVec 32 := Scalar.addi c0_i32_140 c32_i32_141
  let c1_i32_142 : BitVec 32 := 1#32
  ⟨c0_i32_140, v154, c1_i32_142⟩
def k0_off40 (k0_t4 : Fin k0_t4_loop.trips) : Fin 2 → Nat :=
  let c1_i32_147 : BitVec 32 := 1#32
  let v158 : Index := Scalar.indexCast c1_i32_147
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c0_i32_146 : BitVec 32 := 0#32
  let v157 : BitVec 32 := Scalar.addi v156 c0_i32_146
  let v159 : Index := Scalar.indexCast v157
  ![1, v159.toNat]
def k0_off41 (k0_t4 : Fin k0_t4_loop.trips) : Fin 3 → Nat :=
  let c1_i32_148 : BitVec 32 := 1#32
  let v165 : Index := Scalar.indexCast c1_i32_148
  let c0_i32_149 : BitVec 32 := 0#32
  let v166 : Index := Scalar.indexCast c0_i32_149
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c0_i32_146 : BitVec 32 := 0#32
  let v157 : BitVec 32 := Scalar.addi v156 c0_i32_146
  let v167 : Index := Scalar.indexCast v157
  ![1, 0, v167.toNat]
def k0_off42 (k0_t4 : Fin k0_t4_loop.trips) : Fin 3 → Nat :=
  let c1_i32_151 : BitVec 32 := 1#32
  let v175 : Index := Scalar.indexCast c1_i32_151
  let c1_i32_152 : BitVec 32 := 1#32
  let v176 : Index := Scalar.indexCast c1_i32_152
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c0_i32_146 : BitVec 32 := 0#32
  let v157 : BitVec 32 := Scalar.addi v156 c0_i32_146
  let v177 : Index := Scalar.indexCast v157
  ![1, 1, v177.toNat]
def k0_off43 (k0_t4 : Fin k0_t4_loop.trips) : Fin 3 → Nat :=
  let c1_i32_154 : BitVec 32 := 1#32
  let v185 : Index := Scalar.indexCast c1_i32_154
  let c2_i32_155 : BitVec 32 := 2#32
  let v186 : Index := Scalar.indexCast c2_i32_155
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c0_i32_146 : BitVec 32 := 0#32
  let v157 : BitVec 32 := Scalar.addi v156 c0_i32_146
  let v187 : Index := Scalar.indexCast v157
  ![1, 2, v187.toNat]

def k0_chk10 (v161 : IVec S16 32) : Prop :=
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a)
theorem k0_idx83_inb : ∀ (v161 : IVec S16 32) (k0_hw10 : k0_chk10 v161), ∀ a x, ((![v161] : Fin 1 → IVec S16 32) a x).toNat < S8192.size a := fun v161 k0_hw10 => k0_hw10.1
theorem k0_idx84_inb : ∀ (v161 : IVec S16 32) (k0_hw10 : k0_chk10 v161), ∀ a x, ((![v161] : Fin 1 → IVec S16 32) a x).toNat < S8192.size a := fun v161 k0_hw10 => k0_hw10.2.1
theorem k0_idx86_inb : ∀ (v161 : IVec S16 32) (k0_hw10 : k0_chk10 v161), ∀ a x, ((![v161] : Fin 1 → IVec S16 32) a x).toNat < S8192.size a := fun v161 k0_hw10 => k0_hw10.2.2.1
theorem k0_idx87_inb : ∀ (v161 : IVec S16 32) (k0_hw10 : k0_chk10 v161), ∀ a x, ((![v161] : Fin 1 → IVec S16 32) a x).toNat < S8192.size a := fun v161 k0_hw10 => k0_hw10.2.2.2.1
theorem k0_idx89_inb : ∀ (v161 : IVec S16 32) (k0_hw10 : k0_chk10 v161), ∀ a x, ((![v161] : Fin 1 → IVec S16 32) a x).toNat < S8192.size a := fun v161 k0_hw10 => k0_hw10.2.2.2.2.1
theorem k0_idx90_inb : ∀ (v161 : IVec S16 32) (k0_hw10 : k0_chk10 v161), ∀ a x, ((![v161] : Fin 1 → IVec S16 32) a x).toNat < S8192.size a := fun v161 k0_hw10 => k0_hw10.2.2.2.2.2
def k0_off44 (k0_t4 : Fin k0_t4_loop.trips) : Fin 2 → Nat :=
  let c1_i32_157 : BitVec 32 := 1#32
  let v196 : Index := Scalar.indexCast c1_i32_157
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c16_i32 : BitVec 32 := 16#32
  let v195 : BitVec 32 := Scalar.addi v156 c16_i32
  let v197 : Index := Scalar.indexCast v195
  ![1, v197.toNat]
def k0_off45 (k0_t4 : Fin k0_t4_loop.trips) : Fin 3 → Nat :=
  let c1_i32_159 : BitVec 32 := 1#32
  let v203 : Index := Scalar.indexCast c1_i32_159
  let c0_i32_160 : BitVec 32 := 0#32
  let v204 : Index := Scalar.indexCast c0_i32_160
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c16_i32 : BitVec 32 := 16#32
  let v195 : BitVec 32 := Scalar.addi v156 c16_i32
  let v205 : Index := Scalar.indexCast v195
  ![1, 0, v205.toNat]
def k0_off46 (k0_t4 : Fin k0_t4_loop.trips) : Fin 3 → Nat :=
  let c1_i32_162 : BitVec 32 := 1#32
  let v213 : Index := Scalar.indexCast c1_i32_162
  let c1_i32_163 : BitVec 32 := 1#32
  let v214 : Index := Scalar.indexCast c1_i32_163
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c16_i32 : BitVec 32 := 16#32
  let v195 : BitVec 32 := Scalar.addi v156 c16_i32
  let v215 : Index := Scalar.indexCast v195
  ![1, 1, v215.toNat]
def k0_off47 (k0_t4 : Fin k0_t4_loop.trips) : Fin 3 → Nat :=
  let c1_i32_165 : BitVec 32 := 1#32
  let v223 : Index := Scalar.indexCast c1_i32_165
  let c2_i32_166 : BitVec 32 := 2#32
  let v224 : Index := Scalar.indexCast c2_i32_166
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c16_i32 : BitVec 32 := 16#32
  let v195 : BitVec 32 := Scalar.addi v156 c16_i32
  let v225 : Index := Scalar.indexCast v195
  ![1, 2, v225.toNat]

def k0_chk11 (v199 : IVec S16 32) : Prop :=
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a)
theorem k0_idx93_inb : ∀ (v199 : IVec S16 32) (k0_hw11 : k0_chk11 v199), ∀ a x, ((![v199] : Fin 1 → IVec S16 32) a x).toNat < S8192.size a := fun v199 k0_hw11 => k0_hw11.1
theorem k0_idx94_inb : ∀ (v199 : IVec S16 32) (k0_hw11 : k0_chk11 v199), ∀ a x, ((![v199] : Fin 1 → IVec S16 32) a x).toNat < S8192.size a := fun v199 k0_hw11 => k0_hw11.2.1
theorem k0_idx96_inb : ∀ (v199 : IVec S16 32) (k0_hw11 : k0_chk11 v199), ∀ a x, ((![v199] : Fin 1 → IVec S16 32) a x).toNat < S8192.size a := fun v199 k0_hw11 => k0_hw11.2.2.1
theorem k0_idx97_inb : ∀ (v199 : IVec S16 32) (k0_hw11 : k0_chk11 v199), ∀ a x, ((![v199] : Fin 1 → IVec S16 32) a x).toNat < S8192.size a := fun v199 k0_hw11 => k0_hw11.2.2.2.1
theorem k0_idx99_inb : ∀ (v199 : IVec S16 32) (k0_hw11 : k0_chk11 v199), ∀ a x, ((![v199] : Fin 1 → IVec S16 32) a x).toNat < S8192.size a := fun v199 k0_hw11 => k0_hw11.2.2.2.2.1
theorem k0_idx100_inb : ∀ (v199 : IVec S16 32) (k0_hw11 : k0_chk11 v199), ∀ a x, ((![v199] : Fin 1 → IVec S16 32) a x).toNat < S8192.size a := fun v199 k0_hw11 => k0_hw11.2.2.2.2.2
def k0_off48 (k0_t4 : Fin k0_t4_loop.trips) : Fin 2 → Nat :=
  let c1_i32_169 : BitVec 32 := 1#32
  let v234 : Index := Scalar.indexCast c1_i32_169
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c32_i32_168 : BitVec 32 := 32#32
  let v233 : BitVec 32 := Scalar.addi v156 c32_i32_168
  let v235 : Index := Scalar.indexCast v233
  ![1, v235.toNat]
def k0_off49 (k0_t4 : Fin k0_t4_loop.trips) : Fin 3 → Nat :=
  let c1_i32_171 : BitVec 32 := 1#32
  let v241 : Index := Scalar.indexCast c1_i32_171
  let c0_i32_172 : BitVec 32 := 0#32
  let v242 : Index := Scalar.indexCast c0_i32_172
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c32_i32_168 : BitVec 32 := 32#32
  let v233 : BitVec 32 := Scalar.addi v156 c32_i32_168
  let v243 : Index := Scalar.indexCast v233
  ![1, 0, v243.toNat]
def k0_off50 (k0_t4 : Fin k0_t4_loop.trips) : Fin 3 → Nat :=
  let c1_i32_174 : BitVec 32 := 1#32
  let v251 : Index := Scalar.indexCast c1_i32_174
  let c1_i32_175 : BitVec 32 := 1#32
  let v252 : Index := Scalar.indexCast c1_i32_175
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c32_i32_168 : BitVec 32 := 32#32
  let v233 : BitVec 32 := Scalar.addi v156 c32_i32_168
  let v253 : Index := Scalar.indexCast v233
  ![1, 1, v253.toNat]
def k0_off51 (k0_t4 : Fin k0_t4_loop.trips) : Fin 3 → Nat :=
  let c1_i32_177 : BitVec 32 := 1#32
  let v261 : Index := Scalar.indexCast c1_i32_177
  let c2_i32_178 : BitVec 32 := 2#32
  let v262 : Index := Scalar.indexCast c2_i32_178
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c32_i32_168 : BitVec 32 := 32#32
  let v233 : BitVec 32 := Scalar.addi v156 c32_i32_168
  let v263 : Index := Scalar.indexCast v233
  ![1, 2, v263.toNat]

def k0_chk12 (v237 : IVec S16 32) : Prop :=
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a)
theorem k0_idx103_inb : ∀ (v237 : IVec S16 32) (k0_hw12 : k0_chk12 v237), ∀ a x, ((![v237] : Fin 1 → IVec S16 32) a x).toNat < S8192.size a := fun v237 k0_hw12 => k0_hw12.1
theorem k0_idx104_inb : ∀ (v237 : IVec S16 32) (k0_hw12 : k0_chk12 v237), ∀ a x, ((![v237] : Fin 1 → IVec S16 32) a x).toNat < S8192.size a := fun v237 k0_hw12 => k0_hw12.2.1
theorem k0_idx106_inb : ∀ (v237 : IVec S16 32) (k0_hw12 : k0_chk12 v237), ∀ a x, ((![v237] : Fin 1 → IVec S16 32) a x).toNat < S8192.size a := fun v237 k0_hw12 => k0_hw12.2.2.1
theorem k0_idx107_inb : ∀ (v237 : IVec S16 32) (k0_hw12 : k0_chk12 v237), ∀ a x, ((![v237] : Fin 1 → IVec S16 32) a x).toNat < S8192.size a := fun v237 k0_hw12 => k0_hw12.2.2.2.1
theorem k0_idx109_inb : ∀ (v237 : IVec S16 32) (k0_hw12 : k0_chk12 v237), ∀ a x, ((![v237] : Fin 1 → IVec S16 32) a x).toNat < S8192.size a := fun v237 k0_hw12 => k0_hw12.2.2.2.2.1
theorem k0_idx110_inb : ∀ (v237 : IVec S16 32) (k0_hw12 : k0_chk12 v237), ∀ a x, ((![v237] : Fin 1 → IVec S16 32) a x).toNat < S8192.size a := fun v237 k0_hw12 => k0_hw12.2.2.2.2.2
def k0_off52 (k0_t4 : Fin k0_t4_loop.trips) : Fin 2 → Nat :=
  let c1_i32_180 : BitVec 32 := 1#32
  let v272 : Index := Scalar.indexCast c1_i32_180
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c48_i32 : BitVec 32 := 48#32
  let v271 : BitVec 32 := Scalar.addi v156 c48_i32
  let v273 : Index := Scalar.indexCast v271
  ![1, v273.toNat]
def k0_off53 (k0_t4 : Fin k0_t4_loop.trips) : Fin 3 → Nat :=
  let c1_i32_182 : BitVec 32 := 1#32
  let v279 : Index := Scalar.indexCast c1_i32_182
  let c0_i32_183 : BitVec 32 := 0#32
  let v280 : Index := Scalar.indexCast c0_i32_183
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c48_i32 : BitVec 32 := 48#32
  let v271 : BitVec 32 := Scalar.addi v156 c48_i32
  let v281 : Index := Scalar.indexCast v271
  ![1, 0, v281.toNat]
def k0_off54 (k0_t4 : Fin k0_t4_loop.trips) : Fin 3 → Nat :=
  let c1_i32_185 : BitVec 32 := 1#32
  let v289 : Index := Scalar.indexCast c1_i32_185
  let c1_i32_186 : BitVec 32 := 1#32
  let v290 : Index := Scalar.indexCast c1_i32_186
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c48_i32 : BitVec 32 := 48#32
  let v271 : BitVec 32 := Scalar.addi v156 c48_i32
  let v291 : Index := Scalar.indexCast v271
  ![1, 1, v291.toNat]
def k0_off55 (k0_t4 : Fin k0_t4_loop.trips) : Fin 3 → Nat :=
  let c1_i32_188 : BitVec 32 := 1#32
  let v299 : Index := Scalar.indexCast c1_i32_188
  let c2_i32_189 : BitVec 32 := 2#32
  let v300 : Index := Scalar.indexCast c2_i32_189
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c48_i32 : BitVec 32 := 48#32
  let v271 : BitVec 32 := Scalar.addi v156 c48_i32
  let v301 : Index := Scalar.indexCast v271
  ![1, 2, v301.toNat]

def k0_chk13 (v275 : IVec S16 32) : Prop :=
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a)
theorem k0_idx113_inb : ∀ (v275 : IVec S16 32) (k0_hw13 : k0_chk13 v275), ∀ a x, ((![v275] : Fin 1 → IVec S16 32) a x).toNat < S8192.size a := fun v275 k0_hw13 => k0_hw13.1
theorem k0_idx114_inb : ∀ (v275 : IVec S16 32) (k0_hw13 : k0_chk13 v275), ∀ a x, ((![v275] : Fin 1 → IVec S16 32) a x).toNat < S8192.size a := fun v275 k0_hw13 => k0_hw13.2.1
theorem k0_idx116_inb : ∀ (v275 : IVec S16 32) (k0_hw13 : k0_chk13 v275), ∀ a x, ((![v275] : Fin 1 → IVec S16 32) a x).toNat < S8192.size a := fun v275 k0_hw13 => k0_hw13.2.2.1
theorem k0_idx117_inb : ∀ (v275 : IVec S16 32) (k0_hw13 : k0_chk13 v275), ∀ a x, ((![v275] : Fin 1 → IVec S16 32) a x).toNat < S8192.size a := fun v275 k0_hw13 => k0_hw13.2.2.2.1
theorem k0_idx119_inb : ∀ (v275 : IVec S16 32) (k0_hw13 : k0_chk13 v275), ∀ a x, ((![v275] : Fin 1 → IVec S16 32) a x).toNat < S8192.size a := fun v275 k0_hw13 => k0_hw13.2.2.2.2.1
theorem k0_idx120_inb : ∀ (v275 : IVec S16 32) (k0_hw13 : k0_chk13 v275), ∀ a x, ((![v275] : Fin 1 → IVec S16 32) a x).toNat < S8192.size a := fun v275 k0_hw13 => k0_hw13.2.2.2.2.2
def k0_off56 (k0_t4 : Fin k0_t4_loop.trips) : Fin 2 → Nat :=
  let c1_i32_192 : BitVec 32 := 1#32
  let v310 : Index := Scalar.indexCast c1_i32_192
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c64_i32_191 : BitVec 32 := 64#32
  let v309 : BitVec 32 := Scalar.addi v156 c64_i32_191
  let v311 : Index := Scalar.indexCast v309
  ![1, v311.toNat]
def k0_off57 (k0_t4 : Fin k0_t4_loop.trips) : Fin 3 → Nat :=
  let c1_i32_194 : BitVec 32 := 1#32
  let v317 : Index := Scalar.indexCast c1_i32_194
  let c0_i32_195 : BitVec 32 := 0#32
  let v318 : Index := Scalar.indexCast c0_i32_195
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c64_i32_191 : BitVec 32 := 64#32
  let v309 : BitVec 32 := Scalar.addi v156 c64_i32_191
  let v319 : Index := Scalar.indexCast v309
  ![1, 0, v319.toNat]
def k0_off58 (k0_t4 : Fin k0_t4_loop.trips) : Fin 3 → Nat :=
  let c1_i32_197 : BitVec 32 := 1#32
  let v327 : Index := Scalar.indexCast c1_i32_197
  let c1_i32_198 : BitVec 32 := 1#32
  let v328 : Index := Scalar.indexCast c1_i32_198
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c64_i32_191 : BitVec 32 := 64#32
  let v309 : BitVec 32 := Scalar.addi v156 c64_i32_191
  let v329 : Index := Scalar.indexCast v309
  ![1, 1, v329.toNat]
def k0_off59 (k0_t4 : Fin k0_t4_loop.trips) : Fin 3 → Nat :=
  let c1_i32_200 : BitVec 32 := 1#32
  let v337 : Index := Scalar.indexCast c1_i32_200
  let c2_i32_201 : BitVec 32 := 2#32
  let v338 : Index := Scalar.indexCast c2_i32_201
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c64_i32_191 : BitVec 32 := 64#32
  let v309 : BitVec 32 := Scalar.addi v156 c64_i32_191
  let v339 : Index := Scalar.indexCast v309
  ![1, 2, v339.toNat]

def k0_chk14 (v313 : IVec S16 32) : Prop :=
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a)
theorem k0_idx123_inb : ∀ (v313 : IVec S16 32) (k0_hw14 : k0_chk14 v313), ∀ a x, ((![v313] : Fin 1 → IVec S16 32) a x).toNat < S8192.size a := fun v313 k0_hw14 => k0_hw14.1
theorem k0_idx124_inb : ∀ (v313 : IVec S16 32) (k0_hw14 : k0_chk14 v313), ∀ a x, ((![v313] : Fin 1 → IVec S16 32) a x).toNat < S8192.size a := fun v313 k0_hw14 => k0_hw14.2.1
theorem k0_idx126_inb : ∀ (v313 : IVec S16 32) (k0_hw14 : k0_chk14 v313), ∀ a x, ((![v313] : Fin 1 → IVec S16 32) a x).toNat < S8192.size a := fun v313 k0_hw14 => k0_hw14.2.2.1
theorem k0_idx127_inb : ∀ (v313 : IVec S16 32) (k0_hw14 : k0_chk14 v313), ∀ a x, ((![v313] : Fin 1 → IVec S16 32) a x).toNat < S8192.size a := fun v313 k0_hw14 => k0_hw14.2.2.2.1
theorem k0_idx129_inb : ∀ (v313 : IVec S16 32) (k0_hw14 : k0_chk14 v313), ∀ a x, ((![v313] : Fin 1 → IVec S16 32) a x).toNat < S8192.size a := fun v313 k0_hw14 => k0_hw14.2.2.2.2.1
theorem k0_idx130_inb : ∀ (v313 : IVec S16 32) (k0_hw14 : k0_chk14 v313), ∀ a x, ((![v313] : Fin 1 → IVec S16 32) a x).toNat < S8192.size a := fun v313 k0_hw14 => k0_hw14.2.2.2.2.2
def k0_off60 (k0_t4 : Fin k0_t4_loop.trips) : Fin 2 → Nat :=
  let c1_i32_203 : BitVec 32 := 1#32
  let v348 : Index := Scalar.indexCast c1_i32_203
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c80_i32 : BitVec 32 := 80#32
  let v347 : BitVec 32 := Scalar.addi v156 c80_i32
  let v349 : Index := Scalar.indexCast v347
  ![1, v349.toNat]
def k0_off61 (k0_t4 : Fin k0_t4_loop.trips) : Fin 3 → Nat :=
  let c1_i32_205 : BitVec 32 := 1#32
  let v355 : Index := Scalar.indexCast c1_i32_205
  let c0_i32_206 : BitVec 32 := 0#32
  let v356 : Index := Scalar.indexCast c0_i32_206
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c80_i32 : BitVec 32 := 80#32
  let v347 : BitVec 32 := Scalar.addi v156 c80_i32
  let v357 : Index := Scalar.indexCast v347
  ![1, 0, v357.toNat]
def k0_off62 (k0_t4 : Fin k0_t4_loop.trips) : Fin 3 → Nat :=
  let c1_i32_208 : BitVec 32 := 1#32
  let v365 : Index := Scalar.indexCast c1_i32_208
  let c1_i32_209 : BitVec 32 := 1#32
  let v366 : Index := Scalar.indexCast c1_i32_209
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c80_i32 : BitVec 32 := 80#32
  let v347 : BitVec 32 := Scalar.addi v156 c80_i32
  let v367 : Index := Scalar.indexCast v347
  ![1, 1, v367.toNat]
def k0_off63 (k0_t4 : Fin k0_t4_loop.trips) : Fin 3 → Nat :=
  let c1_i32_211 : BitVec 32 := 1#32
  let v375 : Index := Scalar.indexCast c1_i32_211
  let c2_i32_212 : BitVec 32 := 2#32
  let v376 : Index := Scalar.indexCast c2_i32_212
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c80_i32 : BitVec 32 := 80#32
  let v347 : BitVec 32 := Scalar.addi v156 c80_i32
  let v377 : Index := Scalar.indexCast v347
  ![1, 2, v377.toNat]

def k0_chk15 (v351 : IVec S16 32) : Prop :=
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a)
theorem k0_idx133_inb : ∀ (v351 : IVec S16 32) (k0_hw15 : k0_chk15 v351), ∀ a x, ((![v351] : Fin 1 → IVec S16 32) a x).toNat < S8192.size a := fun v351 k0_hw15 => k0_hw15.1
theorem k0_idx134_inb : ∀ (v351 : IVec S16 32) (k0_hw15 : k0_chk15 v351), ∀ a x, ((![v351] : Fin 1 → IVec S16 32) a x).toNat < S8192.size a := fun v351 k0_hw15 => k0_hw15.2.1
theorem k0_idx136_inb : ∀ (v351 : IVec S16 32) (k0_hw15 : k0_chk15 v351), ∀ a x, ((![v351] : Fin 1 → IVec S16 32) a x).toNat < S8192.size a := fun v351 k0_hw15 => k0_hw15.2.2.1
theorem k0_idx137_inb : ∀ (v351 : IVec S16 32) (k0_hw15 : k0_chk15 v351), ∀ a x, ((![v351] : Fin 1 → IVec S16 32) a x).toNat < S8192.size a := fun v351 k0_hw15 => k0_hw15.2.2.2.1
theorem k0_idx139_inb : ∀ (v351 : IVec S16 32) (k0_hw15 : k0_chk15 v351), ∀ a x, ((![v351] : Fin 1 → IVec S16 32) a x).toNat < S8192.size a := fun v351 k0_hw15 => k0_hw15.2.2.2.2.1
theorem k0_idx140_inb : ∀ (v351 : IVec S16 32) (k0_hw15 : k0_chk15 v351), ∀ a x, ((![v351] : Fin 1 → IVec S16 32) a x).toNat < S8192.size a := fun v351 k0_hw15 => k0_hw15.2.2.2.2.2
def k0_off64 (k0_t4 : Fin k0_t4_loop.trips) : Fin 2 → Nat :=
  let c1_i32_215 : BitVec 32 := 1#32
  let v386 : Index := Scalar.indexCast c1_i32_215
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c96_i32_214 : BitVec 32 := 96#32
  let v385 : BitVec 32 := Scalar.addi v156 c96_i32_214
  let v387 : Index := Scalar.indexCast v385
  ![1, v387.toNat]
def k0_off65 (k0_t4 : Fin k0_t4_loop.trips) : Fin 3 → Nat :=
  let c1_i32_217 : BitVec 32 := 1#32
  let v393 : Index := Scalar.indexCast c1_i32_217
  let c0_i32_218 : BitVec 32 := 0#32
  let v394 : Index := Scalar.indexCast c0_i32_218
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c96_i32_214 : BitVec 32 := 96#32
  let v385 : BitVec 32 := Scalar.addi v156 c96_i32_214
  let v395 : Index := Scalar.indexCast v385
  ![1, 0, v395.toNat]
def k0_off66 (k0_t4 : Fin k0_t4_loop.trips) : Fin 3 → Nat :=
  let c1_i32_220 : BitVec 32 := 1#32
  let v403 : Index := Scalar.indexCast c1_i32_220
  let c1_i32_221 : BitVec 32 := 1#32
  let v404 : Index := Scalar.indexCast c1_i32_221
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c96_i32_214 : BitVec 32 := 96#32
  let v385 : BitVec 32 := Scalar.addi v156 c96_i32_214
  let v405 : Index := Scalar.indexCast v385
  ![1, 1, v405.toNat]
def k0_off67 (k0_t4 : Fin k0_t4_loop.trips) : Fin 3 → Nat :=
  let c1_i32_223 : BitVec 32 := 1#32
  let v413 : Index := Scalar.indexCast c1_i32_223
  let c2_i32_224 : BitVec 32 := 2#32
  let v414 : Index := Scalar.indexCast c2_i32_224
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c96_i32_214 : BitVec 32 := 96#32
  let v385 : BitVec 32 := Scalar.addi v156 c96_i32_214
  let v415 : Index := Scalar.indexCast v385
  ![1, 2, v415.toNat]

def k0_chk16 (v389 : IVec S16 32) : Prop :=
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a)
theorem k0_idx143_inb : ∀ (v389 : IVec S16 32) (k0_hw16 : k0_chk16 v389), ∀ a x, ((![v389] : Fin 1 → IVec S16 32) a x).toNat < S8192.size a := fun v389 k0_hw16 => k0_hw16.1
theorem k0_idx144_inb : ∀ (v389 : IVec S16 32) (k0_hw16 : k0_chk16 v389), ∀ a x, ((![v389] : Fin 1 → IVec S16 32) a x).toNat < S8192.size a := fun v389 k0_hw16 => k0_hw16.2.1
theorem k0_idx146_inb : ∀ (v389 : IVec S16 32) (k0_hw16 : k0_chk16 v389), ∀ a x, ((![v389] : Fin 1 → IVec S16 32) a x).toNat < S8192.size a := fun v389 k0_hw16 => k0_hw16.2.2.1
theorem k0_idx147_inb : ∀ (v389 : IVec S16 32) (k0_hw16 : k0_chk16 v389), ∀ a x, ((![v389] : Fin 1 → IVec S16 32) a x).toNat < S8192.size a := fun v389 k0_hw16 => k0_hw16.2.2.2.1
theorem k0_idx149_inb : ∀ (v389 : IVec S16 32) (k0_hw16 : k0_chk16 v389), ∀ a x, ((![v389] : Fin 1 → IVec S16 32) a x).toNat < S8192.size a := fun v389 k0_hw16 => k0_hw16.2.2.2.2.1
theorem k0_idx150_inb : ∀ (v389 : IVec S16 32) (k0_hw16 : k0_chk16 v389), ∀ a x, ((![v389] : Fin 1 → IVec S16 32) a x).toNat < S8192.size a := fun v389 k0_hw16 => k0_hw16.2.2.2.2.2
def k0_off68 (k0_t4 : Fin k0_t4_loop.trips) : Fin 2 → Nat :=
  let c1_i32_226 : BitVec 32 := 1#32
  let v424 : Index := Scalar.indexCast c1_i32_226
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c112_i32 : BitVec 32 := 112#32
  let v423 : BitVec 32 := Scalar.addi v156 c112_i32
  let v425 : Index := Scalar.indexCast v423
  ![1, v425.toNat]
def k0_off69 (k0_t4 : Fin k0_t4_loop.trips) : Fin 3 → Nat :=
  let c1_i32_228 : BitVec 32 := 1#32
  let v431 : Index := Scalar.indexCast c1_i32_228
  let c0_i32_229 : BitVec 32 := 0#32
  let v432 : Index := Scalar.indexCast c0_i32_229
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c112_i32 : BitVec 32 := 112#32
  let v423 : BitVec 32 := Scalar.addi v156 c112_i32
  let v433 : Index := Scalar.indexCast v423
  ![1, 0, v433.toNat]
def k0_off70 (k0_t4 : Fin k0_t4_loop.trips) : Fin 3 → Nat :=
  let c1_i32_231 : BitVec 32 := 1#32
  let v441 : Index := Scalar.indexCast c1_i32_231
  let c1_i32_232 : BitVec 32 := 1#32
  let v442 : Index := Scalar.indexCast c1_i32_232
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c112_i32 : BitVec 32 := 112#32
  let v423 : BitVec 32 := Scalar.addi v156 c112_i32
  let v443 : Index := Scalar.indexCast v423
  ![1, 1, v443.toNat]
def k0_off71 (k0_t4 : Fin k0_t4_loop.trips) : Fin 3 → Nat :=
  let c1_i32_234 : BitVec 32 := 1#32
  let v451 : Index := Scalar.indexCast c1_i32_234
  let c2_i32_235 : BitVec 32 := 2#32
  let v452 : Index := Scalar.indexCast c2_i32_235
  let c0_i32_140 : BitVec 32 := 0#32
  let c1_i32_142 : BitVec 32 := 1#32
  let arg25 : BitVec 32 := Scf.iv c0_i32_140 c1_i32_142 k0_t4
  let c128_i32_145 : BitVec 32 := 128#32
  let v156 : BitVec 32 := Scalar.muli arg25 c128_i32_145
  let c112_i32 : BitVec 32 := 112#32
  let v423 : BitVec 32 := Scalar.addi v156 c112_i32
  let v453 : Index := Scalar.indexCast v423
  ![1, 2, v453.toNat]

def k0_chk17 (v427 : IVec S16 32) : Prop :=
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a)
theorem k0_idx153_inb : ∀ (v427 : IVec S16 32) (k0_hw17 : k0_chk17 v427), ∀ a x, ((![v427] : Fin 1 → IVec S16 32) a x).toNat < S8192.size a := fun v427 k0_hw17 => k0_hw17.1
theorem k0_idx154_inb : ∀ (v427 : IVec S16 32) (k0_hw17 : k0_chk17 v427), ∀ a x, ((![v427] : Fin 1 → IVec S16 32) a x).toNat < S8192.size a := fun v427 k0_hw17 => k0_hw17.2.1
theorem k0_idx156_inb : ∀ (v427 : IVec S16 32) (k0_hw17 : k0_chk17 v427), ∀ a x, ((![v427] : Fin 1 → IVec S16 32) a x).toNat < S8192.size a := fun v427 k0_hw17 => k0_hw17.2.2.1
theorem k0_idx157_inb : ∀ (v427 : IVec S16 32) (k0_hw17 : k0_chk17 v427), ∀ a x, ((![v427] : Fin 1 → IVec S16 32) a x).toNat < S8192.size a := fun v427 k0_hw17 => k0_hw17.2.2.2.1
theorem k0_idx159_inb : ∀ (v427 : IVec S16 32) (k0_hw17 : k0_chk17 v427), ∀ a x, ((![v427] : Fin 1 → IVec S16 32) a x).toNat < S8192.size a := fun v427 k0_hw17 => k0_hw17.2.2.2.2.1
theorem k0_idx160_inb : ∀ (v427 : IVec S16 32) (k0_hw17 : k0_chk17 v427), ∀ a x, ((![v427] : Fin 1 → IVec S16 32) a x).toNat < S8192.size a := fun v427 k0_hw17 => k0_hw17.2.2.2.2.2
@[reducible] def k0_t5_loop : Scf.Loop 32 :=
  let c0_i32_27 : BitVec 32 := 0#32
  let c64_i32 : BitVec 32 := 64#32
  let v48 : BitVec 32 := Scalar.addi c0_i32_27 c64_i32
  let c1_i32_28 : BitVec 32 := 1#32
  ⟨c0_i32_27, v48, c1_i32_28⟩
def k0_off72 (k0_t5 : Fin k0_t5_loop.trips) (c0_i32_91 : BitVec 32) : Fin 1 → Nat :=
  let c0_i32_27 : BitVec 32 := 0#32
  let c1_i32_28 : BitVec 32 := 1#32
  let arg23 : BitVec 32 := Scf.iv c0_i32_27 c1_i32_28 k0_t5
  let c16_i32 : BitVec 32 := 16#32
  let v103 : BitVec 32 := Scalar.muli arg23 c16_i32
  let v104 : BitVec 32 := Scalar.addi c0_i32_91 v103
  let v105 : Index := Scalar.indexCast v104
  ![v105.toNat]
def k0_off73 (k0_t5 : Fin k0_t5_loop.trips) : Fin 1 → Nat :=
  let c0_i32_27 : BitVec 32 := 0#32
  let c1_i32_28 : BitVec 32 := 1#32
  let arg23 : BitVec 32 := Scf.iv c0_i32_27 c1_i32_28 k0_t5
  let c16_i32_132 : BitVec 32 := 16#32
  let v223 : BitVec 32 := Scalar.muli arg23 c16_i32_132
  let v224 : Index := Scalar.indexCast v223
  ![v224.toNat]
def k0_off74 (i : grid0.Coords) (c0_i32 : BitVec 32) (c0_i32_30 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32 : BitVec 32 := 6#32
  let v11 : BitVec 32 := Scalar.muli v1 c6_i32
  let v12 : BitVec 32 := Scalar.addi v11 c0_i32
  let v50 : BitVec 32 := Scalar.addi v12 c0_i32_30
  let c0_i32_91_r0 : BitVec 32 := 0#32
  ![v50.toNat, 0]
@[reducible] def k0_t6_loop : Scf.Loop 32 :=
  let c0_i32_32 : BitVec 32 := 0#32
  let c64_i32_33 : BitVec 32 := 64#32
  let v51 : BitVec 32 := Scalar.addi c0_i32_32 c64_i32_33
  let c1_i32_34 : BitVec 32 := 1#32
  ⟨c0_i32_32, v51, c1_i32_34⟩
def k0_off75 (k0_t6 : Fin k0_t6_loop.trips) (c0_i32_91 : BitVec 32) : Fin 1 → Nat :=
  let c0_i32_32 : BitVec 32 := 0#32
  let c1_i32_34 : BitVec 32 := 1#32
  let arg23 : BitVec 32 := Scf.iv c0_i32_32 c1_i32_34 k0_t6
  let c16_i32 : BitVec 32 := 16#32
  let v103 : BitVec 32 := Scalar.muli arg23 c16_i32
  let v104 : BitVec 32 := Scalar.addi c0_i32_91 v103
  let v105 : Index := Scalar.indexCast v104
  ![v105.toNat]
def k0_off76 (k0_t6 : Fin k0_t6_loop.trips) : Fin 1 → Nat :=
  let c0_i32_32 : BitVec 32 := 0#32
  let c1_i32_34 : BitVec 32 := 1#32
  let arg23 : BitVec 32 := Scf.iv c0_i32_32 c1_i32_34 k0_t6
  let c16_i32_132 : BitVec 32 := 16#32
  let v223 : BitVec 32 := Scalar.muli arg23 c16_i32_132
  let v224 : Index := Scalar.indexCast v223
  ![v224.toNat]
@[reducible] def k0_t7_loop : Scf.Loop 32 :=
  let c0_i32_38 : BitVec 32 := 0#32
  let c64_i32_39 : BitVec 32 := 64#32
  let v54 : BitVec 32 := Scalar.addi c0_i32_38 c64_i32_39
  let c1_i32_40 : BitVec 32 := 1#32
  ⟨c0_i32_38, v54, c1_i32_40⟩
def k0_off77 (k0_t7 : Fin k0_t7_loop.trips) (c0_i32_91 : BitVec 32) : Fin 1 → Nat :=
  let c0_i32_38 : BitVec 32 := 0#32
  let c1_i32_40 : BitVec 32 := 1#32
  let arg23 : BitVec 32 := Scf.iv c0_i32_38 c1_i32_40 k0_t7
  let c16_i32 : BitVec 32 := 16#32
  let v103 : BitVec 32 := Scalar.muli arg23 c16_i32
  let v104 : BitVec 32 := Scalar.addi c0_i32_91 v103
  let v105 : Index := Scalar.indexCast v104
  ![v105.toNat]
def k0_off78 (k0_t7 : Fin k0_t7_loop.trips) : Fin 1 → Nat :=
  let c0_i32_38 : BitVec 32 := 0#32
  let c1_i32_40 : BitVec 32 := 1#32
  let arg23 : BitVec 32 := Scf.iv c0_i32_38 c1_i32_40 k0_t7
  let c16_i32_132 : BitVec 32 := 16#32
  let v223 : BitVec 32 := Scalar.muli arg23 c16_i32_132
  let v224 : Index := Scalar.indexCast v223
  ![v224.toNat]
@[reducible] def k0_t8_loop : Scf.Loop 32 :=
  let c0_i32_52 : BitVec 32 := 0#32
  let c128_i32_53 : BitVec 32 := 128#32
  let v76 : BitVec 32 := Scalar.addi c0_i32_52 c128_i32_53
  let c1_i32_54 : BitVec 32 := 1#32
  ⟨c0_i32_52, v76, c1_i32_54⟩
def k0_off79 (k0_t8 : Fin k0_t8_loop.trips) (c0_i32_92 : BitVec 32) : Fin 1 → Nat :=
  let c0_i32_52 : BitVec 32 := 0#32
  let c1_i32_54 : BitVec 32 := 1#32
  let arg23 : BitVec 32 := Scf.iv c0_i32_52 c1_i32_54 k0_t8
  let c64_i32_91 : BitVec 32 := 64#32
  let v103 : BitVec 32 := Scalar.muli arg23 c64_i32_91
  let v104 : BitVec 32 := Scalar.addi v103 c0_i32_92
  let v105 : Index := Scalar.indexCast v104
  ![v105.toNat]
def k0_off80 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_45 : BitVec 32 := 0#32
  let v60 : BitVec 1 := Scalar.cmpi .sgt v58 c0_i32_45
  let v61 : BitVec 32 := Scalar.extui v60
  let c0_i32_46 : BitVec 32 := 0#32
  let v62 : BitVec 1 := Scalar.cmpi .slt v58 c0_i32_46
  let v63 : BitVec 32 := Scalar.extui v62
  let v64 : BitVec 32 := Scalar.subi v61 v63
  let c96_i32_44 : BitVec 32 := 96#32
  let c0_i32_47 : BitVec 32 := 0#32
  let v65 : BitVec 1 := Scalar.cmpi .sgt c96_i32_44 c0_i32_47
  let v66 : BitVec 32 := Scalar.extui v65
  let c0_i32_48 : BitVec 32 := 0#32
  let v67 : BitVec 1 := Scalar.cmpi .slt c96_i32_44 c0_i32_48
  let v68 : BitVec 32 := Scalar.extui v67
  let v69 : BitVec 32 := Scalar.subi v66 v68
  let v70 : BitVec 1 := Scalar.cmpi .ne v64 v69
  let v71 : BitVec 32 := Scalar.remsi v58 c96_i32_44
  let c0_i32_49 : BitVec 32 := 0#32
  let v72 : BitVec 1 := Scalar.cmpi .ne v71 c0_i32_49
  let v73 : BitVec 1 := Scalar.andi v70 v72
  let v59 : BitVec 32 := Scalar.divsi v58 c96_i32_44
  let c1_i32_50 : BitVec 32 := 1#32
  let v74 : BitVec 32 := Scalar.subi v59 c1_i32_50
  let v75 : BitVec 32 := Scalar.select v73 v74 v59
  let c0_i32_58 : BitVec 32 := 0#32
  ![v75.toNat, 0]
def k0_off81 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_64 : BitVec 32 := 0#32
  ![v58.toNat, 0]
@[reducible] def k0_t9_loop : Scf.Loop 32 :=
  let c0_i32_69 : BitVec 32 := 0#32
  let c32_i32_70 : BitVec 32 := 32#32
  let v92 : BitVec 32 := Scalar.addi c0_i32_69 c32_i32_70
  let c1_i32_71 : BitVec 32 := 1#32
  ⟨c0_i32_69, v92, c1_i32_71⟩
def k0_off82 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_45 : BitVec 32 := 0#32
  let v60 : BitVec 1 := Scalar.cmpi .sgt v58 c0_i32_45
  let v61 : BitVec 32 := Scalar.extui v60
  let c0_i32_46 : BitVec 32 := 0#32
  let v62 : BitVec 1 := Scalar.cmpi .slt v58 c0_i32_46
  let v63 : BitVec 32 := Scalar.extui v62
  let v64 : BitVec 32 := Scalar.subi v61 v63
  let c96_i32_44 : BitVec 32 := 96#32
  let c0_i32_47 : BitVec 32 := 0#32
  let v65 : BitVec 1 := Scalar.cmpi .sgt c96_i32_44 c0_i32_47
  let v66 : BitVec 32 := Scalar.extui v65
  let c0_i32_48 : BitVec 32 := 0#32
  let v67 : BitVec 1 := Scalar.cmpi .slt c96_i32_44 c0_i32_48
  let v68 : BitVec 32 := Scalar.extui v67
  let v69 : BitVec 32 := Scalar.subi v66 v68
  let v70 : BitVec 1 := Scalar.cmpi .ne v64 v69
  let v71 : BitVec 32 := Scalar.remsi v58 c96_i32_44
  let c0_i32_49 : BitVec 32 := 0#32
  let v72 : BitVec 1 := Scalar.cmpi .ne v71 c0_i32_49
  let v73 : BitVec 1 := Scalar.andi v70 v72
  let v59 : BitVec 32 := Scalar.divsi v58 c96_i32_44
  let c1_i32_50 : BitVec 32 := 1#32
  let v74 : BitVec 32 := Scalar.subi v59 c1_i32_50
  let v75 : BitVec 32 := Scalar.select v73 v74 v59
  let c0_i32_69 : BitVec 32 := 0#32
  let c1_i32_71 : BitVec 32 := 1#32
  let arg23 : BitVec 32 := Scf.iv c0_i32_69 c1_i32_71 k0_t9
  let c2_i32_91 : BitVec 32 := 2#32
  let v103 : BitVec 32 := Scalar.muli arg23 c2_i32_91
  let c1_i32_92 : BitVec 32 := 1#32
  let v104 : BitVec 32 := Scalar.addi v103 c1_i32_92
  let c4096_i32 : BitVec 32 := 4096#32
  let v105 : BitVec 32 := Scalar.muli v104 c4096_i32
  ![v75.toNat, v105.toNat]
def k0_off83 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_69 : BitVec 32 := 0#32
  let c1_i32_71 : BitVec 32 := 1#32
  let arg23 : BitVec 32 := Scf.iv c0_i32_69 c1_i32_71 k0_t9
  let c2_i32_91 : BitVec 32 := 2#32
  let v103 : BitVec 32 := Scalar.muli arg23 c2_i32_91
  let c1_i32_92 : BitVec 32 := 1#32
  let v104 : BitVec 32 := Scalar.addi v103 c1_i32_92
  let c4096_i32 : BitVec 32 := 4096#32
  let v105 : BitVec 32 := Scalar.muli v104 c4096_i32
  ![v58.toNat, v105.toNat]
@[reducible] def k0_t10_loop : Scf.Loop 32 :=
  let c0_i32_117 : BitVec 32 := 0#32
  let c32_i32_118 : BitVec 32 := 32#32
  let v134 : BitVec 32 := Scalar.addi c0_i32_117 c32_i32_118
  let c1_i32_119 : BitVec 32 := 1#32
  ⟨c0_i32_117, v134, c1_i32_119⟩
def k0_off84 (k0_t10 : Fin k0_t10_loop.trips) : Fin 2 → Nat :=
  let c0_i32_147 : BitVec 32 := 0#32
  let v158 : Index := Scalar.indexCast c0_i32_147
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c0_i32_146 : BitVec 32 := 0#32
  let v157 : BitVec 32 := Scalar.addi v156 c0_i32_146
  let v159 : Index := Scalar.indexCast v157
  ![0, v159.toNat]
def k0_off85 (k0_t10 : Fin k0_t10_loop.trips) : Fin 3 → Nat :=
  let c0_i32_148 : BitVec 32 := 0#32
  let v165 : Index := Scalar.indexCast c0_i32_148
  let c0_i32_149 : BitVec 32 := 0#32
  let v166 : Index := Scalar.indexCast c0_i32_149
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c0_i32_146 : BitVec 32 := 0#32
  let v157 : BitVec 32 := Scalar.addi v156 c0_i32_146
  let v167 : Index := Scalar.indexCast v157
  ![0, 0, v167.toNat]
def k0_off86 (k0_t10 : Fin k0_t10_loop.trips) : Fin 3 → Nat :=
  let c0_i32_151 : BitVec 32 := 0#32
  let v175 : Index := Scalar.indexCast c0_i32_151
  let c1_i32_152 : BitVec 32 := 1#32
  let v176 : Index := Scalar.indexCast c1_i32_152
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c0_i32_146 : BitVec 32 := 0#32
  let v157 : BitVec 32 := Scalar.addi v156 c0_i32_146
  let v177 : Index := Scalar.indexCast v157
  ![0, 1, v177.toNat]
def k0_off87 (k0_t10 : Fin k0_t10_loop.trips) : Fin 3 → Nat :=
  let c0_i32_154 : BitVec 32 := 0#32
  let v185 : Index := Scalar.indexCast c0_i32_154
  let c2_i32_155 : BitVec 32 := 2#32
  let v186 : Index := Scalar.indexCast c2_i32_155
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c0_i32_146 : BitVec 32 := 0#32
  let v157 : BitVec 32 := Scalar.addi v156 c0_i32_146
  let v187 : Index := Scalar.indexCast v157
  ![0, 2, v187.toNat]

def k0_chk18 (v161 : IVec S16 32) : Prop :=
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a)
theorem k0_idx163_inb : ∀ (v161 : IVec S16 32) (k0_hw18 : k0_chk18 v161), ∀ a x, ((![v161] : Fin 1 → IVec S16 32) a x).toNat < S8192.size a := fun v161 k0_hw18 => k0_hw18.1
theorem k0_idx164_inb : ∀ (v161 : IVec S16 32) (k0_hw18 : k0_chk18 v161), ∀ a x, ((![v161] : Fin 1 → IVec S16 32) a x).toNat < S8192.size a := fun v161 k0_hw18 => k0_hw18.2.1
theorem k0_idx166_inb : ∀ (v161 : IVec S16 32) (k0_hw18 : k0_chk18 v161), ∀ a x, ((![v161] : Fin 1 → IVec S16 32) a x).toNat < S8192.size a := fun v161 k0_hw18 => k0_hw18.2.2.1
theorem k0_idx167_inb : ∀ (v161 : IVec S16 32) (k0_hw18 : k0_chk18 v161), ∀ a x, ((![v161] : Fin 1 → IVec S16 32) a x).toNat < S8192.size a := fun v161 k0_hw18 => k0_hw18.2.2.2.1
theorem k0_idx169_inb : ∀ (v161 : IVec S16 32) (k0_hw18 : k0_chk18 v161), ∀ a x, ((![v161] : Fin 1 → IVec S16 32) a x).toNat < S8192.size a := fun v161 k0_hw18 => k0_hw18.2.2.2.2.1
theorem k0_idx170_inb : ∀ (v161 : IVec S16 32) (k0_hw18 : k0_chk18 v161), ∀ a x, ((![v161] : Fin 1 → IVec S16 32) a x).toNat < S8192.size a := fun v161 k0_hw18 => k0_hw18.2.2.2.2.2
def k0_off88 (k0_t10 : Fin k0_t10_loop.trips) : Fin 2 → Nat :=
  let c0_i32_157 : BitVec 32 := 0#32
  let v196 : Index := Scalar.indexCast c0_i32_157
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c16_i32 : BitVec 32 := 16#32
  let v195 : BitVec 32 := Scalar.addi v156 c16_i32
  let v197 : Index := Scalar.indexCast v195
  ![0, v197.toNat]
def k0_off89 (k0_t10 : Fin k0_t10_loop.trips) : Fin 3 → Nat :=
  let c0_i32_159 : BitVec 32 := 0#32
  let v203 : Index := Scalar.indexCast c0_i32_159
  let c0_i32_160 : BitVec 32 := 0#32
  let v204 : Index := Scalar.indexCast c0_i32_160
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c16_i32 : BitVec 32 := 16#32
  let v195 : BitVec 32 := Scalar.addi v156 c16_i32
  let v205 : Index := Scalar.indexCast v195
  ![0, 0, v205.toNat]
def k0_off90 (k0_t10 : Fin k0_t10_loop.trips) : Fin 3 → Nat :=
  let c0_i32_162 : BitVec 32 := 0#32
  let v213 : Index := Scalar.indexCast c0_i32_162
  let c1_i32_163 : BitVec 32 := 1#32
  let v214 : Index := Scalar.indexCast c1_i32_163
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c16_i32 : BitVec 32 := 16#32
  let v195 : BitVec 32 := Scalar.addi v156 c16_i32
  let v215 : Index := Scalar.indexCast v195
  ![0, 1, v215.toNat]
def k0_off91 (k0_t10 : Fin k0_t10_loop.trips) : Fin 3 → Nat :=
  let c0_i32_165 : BitVec 32 := 0#32
  let v223 : Index := Scalar.indexCast c0_i32_165
  let c2_i32_166 : BitVec 32 := 2#32
  let v224 : Index := Scalar.indexCast c2_i32_166
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c16_i32 : BitVec 32 := 16#32
  let v195 : BitVec 32 := Scalar.addi v156 c16_i32
  let v225 : Index := Scalar.indexCast v195
  ![0, 2, v225.toNat]

def k0_chk19 (v199 : IVec S16 32) : Prop :=
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a)
theorem k0_idx173_inb : ∀ (v199 : IVec S16 32) (k0_hw19 : k0_chk19 v199), ∀ a x, ((![v199] : Fin 1 → IVec S16 32) a x).toNat < S8192.size a := fun v199 k0_hw19 => k0_hw19.1
theorem k0_idx174_inb : ∀ (v199 : IVec S16 32) (k0_hw19 : k0_chk19 v199), ∀ a x, ((![v199] : Fin 1 → IVec S16 32) a x).toNat < S8192.size a := fun v199 k0_hw19 => k0_hw19.2.1
theorem k0_idx176_inb : ∀ (v199 : IVec S16 32) (k0_hw19 : k0_chk19 v199), ∀ a x, ((![v199] : Fin 1 → IVec S16 32) a x).toNat < S8192.size a := fun v199 k0_hw19 => k0_hw19.2.2.1
theorem k0_idx177_inb : ∀ (v199 : IVec S16 32) (k0_hw19 : k0_chk19 v199), ∀ a x, ((![v199] : Fin 1 → IVec S16 32) a x).toNat < S8192.size a := fun v199 k0_hw19 => k0_hw19.2.2.2.1
theorem k0_idx179_inb : ∀ (v199 : IVec S16 32) (k0_hw19 : k0_chk19 v199), ∀ a x, ((![v199] : Fin 1 → IVec S16 32) a x).toNat < S8192.size a := fun v199 k0_hw19 => k0_hw19.2.2.2.2.1
theorem k0_idx180_inb : ∀ (v199 : IVec S16 32) (k0_hw19 : k0_chk19 v199), ∀ a x, ((![v199] : Fin 1 → IVec S16 32) a x).toNat < S8192.size a := fun v199 k0_hw19 => k0_hw19.2.2.2.2.2
def k0_off92 (k0_t10 : Fin k0_t10_loop.trips) : Fin 2 → Nat :=
  let c0_i32_169 : BitVec 32 := 0#32
  let v234 : Index := Scalar.indexCast c0_i32_169
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c32_i32_168 : BitVec 32 := 32#32
  let v233 : BitVec 32 := Scalar.addi v156 c32_i32_168
  let v235 : Index := Scalar.indexCast v233
  ![0, v235.toNat]
def k0_off93 (k0_t10 : Fin k0_t10_loop.trips) : Fin 3 → Nat :=
  let c0_i32_171 : BitVec 32 := 0#32
  let v241 : Index := Scalar.indexCast c0_i32_171
  let c0_i32_172 : BitVec 32 := 0#32
  let v242 : Index := Scalar.indexCast c0_i32_172
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c32_i32_168 : BitVec 32 := 32#32
  let v233 : BitVec 32 := Scalar.addi v156 c32_i32_168
  let v243 : Index := Scalar.indexCast v233
  ![0, 0, v243.toNat]
def k0_off94 (k0_t10 : Fin k0_t10_loop.trips) : Fin 3 → Nat :=
  let c0_i32_174 : BitVec 32 := 0#32
  let v251 : Index := Scalar.indexCast c0_i32_174
  let c1_i32_175 : BitVec 32 := 1#32
  let v252 : Index := Scalar.indexCast c1_i32_175
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c32_i32_168 : BitVec 32 := 32#32
  let v233 : BitVec 32 := Scalar.addi v156 c32_i32_168
  let v253 : Index := Scalar.indexCast v233
  ![0, 1, v253.toNat]
def k0_off95 (k0_t10 : Fin k0_t10_loop.trips) : Fin 3 → Nat :=
  let c0_i32_177 : BitVec 32 := 0#32
  let v261 : Index := Scalar.indexCast c0_i32_177
  let c2_i32_178 : BitVec 32 := 2#32
  let v262 : Index := Scalar.indexCast c2_i32_178
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c32_i32_168 : BitVec 32 := 32#32
  let v233 : BitVec 32 := Scalar.addi v156 c32_i32_168
  let v263 : Index := Scalar.indexCast v233
  ![0, 2, v263.toNat]

def k0_chk20 (v237 : IVec S16 32) : Prop :=
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a)
theorem k0_idx183_inb : ∀ (v237 : IVec S16 32) (k0_hw20 : k0_chk20 v237), ∀ a x, ((![v237] : Fin 1 → IVec S16 32) a x).toNat < S8192.size a := fun v237 k0_hw20 => k0_hw20.1
theorem k0_idx184_inb : ∀ (v237 : IVec S16 32) (k0_hw20 : k0_chk20 v237), ∀ a x, ((![v237] : Fin 1 → IVec S16 32) a x).toNat < S8192.size a := fun v237 k0_hw20 => k0_hw20.2.1
theorem k0_idx186_inb : ∀ (v237 : IVec S16 32) (k0_hw20 : k0_chk20 v237), ∀ a x, ((![v237] : Fin 1 → IVec S16 32) a x).toNat < S8192.size a := fun v237 k0_hw20 => k0_hw20.2.2.1
theorem k0_idx187_inb : ∀ (v237 : IVec S16 32) (k0_hw20 : k0_chk20 v237), ∀ a x, ((![v237] : Fin 1 → IVec S16 32) a x).toNat < S8192.size a := fun v237 k0_hw20 => k0_hw20.2.2.2.1
theorem k0_idx189_inb : ∀ (v237 : IVec S16 32) (k0_hw20 : k0_chk20 v237), ∀ a x, ((![v237] : Fin 1 → IVec S16 32) a x).toNat < S8192.size a := fun v237 k0_hw20 => k0_hw20.2.2.2.2.1
theorem k0_idx190_inb : ∀ (v237 : IVec S16 32) (k0_hw20 : k0_chk20 v237), ∀ a x, ((![v237] : Fin 1 → IVec S16 32) a x).toNat < S8192.size a := fun v237 k0_hw20 => k0_hw20.2.2.2.2.2
def k0_off96 (k0_t10 : Fin k0_t10_loop.trips) : Fin 2 → Nat :=
  let c0_i32_180 : BitVec 32 := 0#32
  let v272 : Index := Scalar.indexCast c0_i32_180
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c48_i32 : BitVec 32 := 48#32
  let v271 : BitVec 32 := Scalar.addi v156 c48_i32
  let v273 : Index := Scalar.indexCast v271
  ![0, v273.toNat]
def k0_off97 (k0_t10 : Fin k0_t10_loop.trips) : Fin 3 → Nat :=
  let c0_i32_182 : BitVec 32 := 0#32
  let v279 : Index := Scalar.indexCast c0_i32_182
  let c0_i32_183 : BitVec 32 := 0#32
  let v280 : Index := Scalar.indexCast c0_i32_183
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c48_i32 : BitVec 32 := 48#32
  let v271 : BitVec 32 := Scalar.addi v156 c48_i32
  let v281 : Index := Scalar.indexCast v271
  ![0, 0, v281.toNat]
def k0_off98 (k0_t10 : Fin k0_t10_loop.trips) : Fin 3 → Nat :=
  let c0_i32_185 : BitVec 32 := 0#32
  let v289 : Index := Scalar.indexCast c0_i32_185
  let c1_i32_186 : BitVec 32 := 1#32
  let v290 : Index := Scalar.indexCast c1_i32_186
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c48_i32 : BitVec 32 := 48#32
  let v271 : BitVec 32 := Scalar.addi v156 c48_i32
  let v291 : Index := Scalar.indexCast v271
  ![0, 1, v291.toNat]
def k0_off99 (k0_t10 : Fin k0_t10_loop.trips) : Fin 3 → Nat :=
  let c0_i32_188 : BitVec 32 := 0#32
  let v299 : Index := Scalar.indexCast c0_i32_188
  let c2_i32_189 : BitVec 32 := 2#32
  let v300 : Index := Scalar.indexCast c2_i32_189
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c48_i32 : BitVec 32 := 48#32
  let v271 : BitVec 32 := Scalar.addi v156 c48_i32
  let v301 : Index := Scalar.indexCast v271
  ![0, 2, v301.toNat]

def k0_chk21 (v275 : IVec S16 32) : Prop :=
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a)
theorem k0_idx193_inb : ∀ (v275 : IVec S16 32) (k0_hw21 : k0_chk21 v275), ∀ a x, ((![v275] : Fin 1 → IVec S16 32) a x).toNat < S8192.size a := fun v275 k0_hw21 => k0_hw21.1
theorem k0_idx194_inb : ∀ (v275 : IVec S16 32) (k0_hw21 : k0_chk21 v275), ∀ a x, ((![v275] : Fin 1 → IVec S16 32) a x).toNat < S8192.size a := fun v275 k0_hw21 => k0_hw21.2.1
theorem k0_idx196_inb : ∀ (v275 : IVec S16 32) (k0_hw21 : k0_chk21 v275), ∀ a x, ((![v275] : Fin 1 → IVec S16 32) a x).toNat < S8192.size a := fun v275 k0_hw21 => k0_hw21.2.2.1
theorem k0_idx197_inb : ∀ (v275 : IVec S16 32) (k0_hw21 : k0_chk21 v275), ∀ a x, ((![v275] : Fin 1 → IVec S16 32) a x).toNat < S8192.size a := fun v275 k0_hw21 => k0_hw21.2.2.2.1
theorem k0_idx199_inb : ∀ (v275 : IVec S16 32) (k0_hw21 : k0_chk21 v275), ∀ a x, ((![v275] : Fin 1 → IVec S16 32) a x).toNat < S8192.size a := fun v275 k0_hw21 => k0_hw21.2.2.2.2.1
theorem k0_idx200_inb : ∀ (v275 : IVec S16 32) (k0_hw21 : k0_chk21 v275), ∀ a x, ((![v275] : Fin 1 → IVec S16 32) a x).toNat < S8192.size a := fun v275 k0_hw21 => k0_hw21.2.2.2.2.2
def k0_off100 (k0_t10 : Fin k0_t10_loop.trips) : Fin 2 → Nat :=
  let c0_i32_192 : BitVec 32 := 0#32
  let v310 : Index := Scalar.indexCast c0_i32_192
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c64_i32_191 : BitVec 32 := 64#32
  let v309 : BitVec 32 := Scalar.addi v156 c64_i32_191
  let v311 : Index := Scalar.indexCast v309
  ![0, v311.toNat]
def k0_off101 (k0_t10 : Fin k0_t10_loop.trips) : Fin 3 → Nat :=
  let c0_i32_194 : BitVec 32 := 0#32
  let v317 : Index := Scalar.indexCast c0_i32_194
  let c0_i32_195 : BitVec 32 := 0#32
  let v318 : Index := Scalar.indexCast c0_i32_195
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c64_i32_191 : BitVec 32 := 64#32
  let v309 : BitVec 32 := Scalar.addi v156 c64_i32_191
  let v319 : Index := Scalar.indexCast v309
  ![0, 0, v319.toNat]
def k0_off102 (k0_t10 : Fin k0_t10_loop.trips) : Fin 3 → Nat :=
  let c0_i32_197 : BitVec 32 := 0#32
  let v327 : Index := Scalar.indexCast c0_i32_197
  let c1_i32_198 : BitVec 32 := 1#32
  let v328 : Index := Scalar.indexCast c1_i32_198
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c64_i32_191 : BitVec 32 := 64#32
  let v309 : BitVec 32 := Scalar.addi v156 c64_i32_191
  let v329 : Index := Scalar.indexCast v309
  ![0, 1, v329.toNat]
def k0_off103 (k0_t10 : Fin k0_t10_loop.trips) : Fin 3 → Nat :=
  let c0_i32_200 : BitVec 32 := 0#32
  let v337 : Index := Scalar.indexCast c0_i32_200
  let c2_i32_201 : BitVec 32 := 2#32
  let v338 : Index := Scalar.indexCast c2_i32_201
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c64_i32_191 : BitVec 32 := 64#32
  let v309 : BitVec 32 := Scalar.addi v156 c64_i32_191
  let v339 : Index := Scalar.indexCast v309
  ![0, 2, v339.toNat]

def k0_chk22 (v313 : IVec S16 32) : Prop :=
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a)
theorem k0_idx203_inb : ∀ (v313 : IVec S16 32) (k0_hw22 : k0_chk22 v313), ∀ a x, ((![v313] : Fin 1 → IVec S16 32) a x).toNat < S8192.size a := fun v313 k0_hw22 => k0_hw22.1
theorem k0_idx204_inb : ∀ (v313 : IVec S16 32) (k0_hw22 : k0_chk22 v313), ∀ a x, ((![v313] : Fin 1 → IVec S16 32) a x).toNat < S8192.size a := fun v313 k0_hw22 => k0_hw22.2.1
theorem k0_idx206_inb : ∀ (v313 : IVec S16 32) (k0_hw22 : k0_chk22 v313), ∀ a x, ((![v313] : Fin 1 → IVec S16 32) a x).toNat < S8192.size a := fun v313 k0_hw22 => k0_hw22.2.2.1
theorem k0_idx207_inb : ∀ (v313 : IVec S16 32) (k0_hw22 : k0_chk22 v313), ∀ a x, ((![v313] : Fin 1 → IVec S16 32) a x).toNat < S8192.size a := fun v313 k0_hw22 => k0_hw22.2.2.2.1
theorem k0_idx209_inb : ∀ (v313 : IVec S16 32) (k0_hw22 : k0_chk22 v313), ∀ a x, ((![v313] : Fin 1 → IVec S16 32) a x).toNat < S8192.size a := fun v313 k0_hw22 => k0_hw22.2.2.2.2.1
theorem k0_idx210_inb : ∀ (v313 : IVec S16 32) (k0_hw22 : k0_chk22 v313), ∀ a x, ((![v313] : Fin 1 → IVec S16 32) a x).toNat < S8192.size a := fun v313 k0_hw22 => k0_hw22.2.2.2.2.2
def k0_off104 (k0_t10 : Fin k0_t10_loop.trips) : Fin 2 → Nat :=
  let c0_i32_203 : BitVec 32 := 0#32
  let v348 : Index := Scalar.indexCast c0_i32_203
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c80_i32 : BitVec 32 := 80#32
  let v347 : BitVec 32 := Scalar.addi v156 c80_i32
  let v349 : Index := Scalar.indexCast v347
  ![0, v349.toNat]
def k0_off105 (k0_t10 : Fin k0_t10_loop.trips) : Fin 3 → Nat :=
  let c0_i32_205 : BitVec 32 := 0#32
  let v355 : Index := Scalar.indexCast c0_i32_205
  let c0_i32_206 : BitVec 32 := 0#32
  let v356 : Index := Scalar.indexCast c0_i32_206
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c80_i32 : BitVec 32 := 80#32
  let v347 : BitVec 32 := Scalar.addi v156 c80_i32
  let v357 : Index := Scalar.indexCast v347
  ![0, 0, v357.toNat]
def k0_off106 (k0_t10 : Fin k0_t10_loop.trips) : Fin 3 → Nat :=
  let c0_i32_208 : BitVec 32 := 0#32
  let v365 : Index := Scalar.indexCast c0_i32_208
  let c1_i32_209 : BitVec 32 := 1#32
  let v366 : Index := Scalar.indexCast c1_i32_209
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c80_i32 : BitVec 32 := 80#32
  let v347 : BitVec 32 := Scalar.addi v156 c80_i32
  let v367 : Index := Scalar.indexCast v347
  ![0, 1, v367.toNat]
def k0_off107 (k0_t10 : Fin k0_t10_loop.trips) : Fin 3 → Nat :=
  let c0_i32_211 : BitVec 32 := 0#32
  let v375 : Index := Scalar.indexCast c0_i32_211
  let c2_i32_212 : BitVec 32 := 2#32
  let v376 : Index := Scalar.indexCast c2_i32_212
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c80_i32 : BitVec 32 := 80#32
  let v347 : BitVec 32 := Scalar.addi v156 c80_i32
  let v377 : Index := Scalar.indexCast v347
  ![0, 2, v377.toNat]

def k0_chk23 (v351 : IVec S16 32) : Prop :=
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a)
theorem k0_idx213_inb : ∀ (v351 : IVec S16 32) (k0_hw23 : k0_chk23 v351), ∀ a x, ((![v351] : Fin 1 → IVec S16 32) a x).toNat < S8192.size a := fun v351 k0_hw23 => k0_hw23.1
theorem k0_idx214_inb : ∀ (v351 : IVec S16 32) (k0_hw23 : k0_chk23 v351), ∀ a x, ((![v351] : Fin 1 → IVec S16 32) a x).toNat < S8192.size a := fun v351 k0_hw23 => k0_hw23.2.1
theorem k0_idx216_inb : ∀ (v351 : IVec S16 32) (k0_hw23 : k0_chk23 v351), ∀ a x, ((![v351] : Fin 1 → IVec S16 32) a x).toNat < S8192.size a := fun v351 k0_hw23 => k0_hw23.2.2.1
theorem k0_idx217_inb : ∀ (v351 : IVec S16 32) (k0_hw23 : k0_chk23 v351), ∀ a x, ((![v351] : Fin 1 → IVec S16 32) a x).toNat < S8192.size a := fun v351 k0_hw23 => k0_hw23.2.2.2.1
theorem k0_idx219_inb : ∀ (v351 : IVec S16 32) (k0_hw23 : k0_chk23 v351), ∀ a x, ((![v351] : Fin 1 → IVec S16 32) a x).toNat < S8192.size a := fun v351 k0_hw23 => k0_hw23.2.2.2.2.1
theorem k0_idx220_inb : ∀ (v351 : IVec S16 32) (k0_hw23 : k0_chk23 v351), ∀ a x, ((![v351] : Fin 1 → IVec S16 32) a x).toNat < S8192.size a := fun v351 k0_hw23 => k0_hw23.2.2.2.2.2
def k0_off108 (k0_t10 : Fin k0_t10_loop.trips) : Fin 2 → Nat :=
  let c0_i32_215 : BitVec 32 := 0#32
  let v386 : Index := Scalar.indexCast c0_i32_215
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c96_i32_214 : BitVec 32 := 96#32
  let v385 : BitVec 32 := Scalar.addi v156 c96_i32_214
  let v387 : Index := Scalar.indexCast v385
  ![0, v387.toNat]
def k0_off109 (k0_t10 : Fin k0_t10_loop.trips) : Fin 3 → Nat :=
  let c0_i32_217 : BitVec 32 := 0#32
  let v393 : Index := Scalar.indexCast c0_i32_217
  let c0_i32_218 : BitVec 32 := 0#32
  let v394 : Index := Scalar.indexCast c0_i32_218
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c96_i32_214 : BitVec 32 := 96#32
  let v385 : BitVec 32 := Scalar.addi v156 c96_i32_214
  let v395 : Index := Scalar.indexCast v385
  ![0, 0, v395.toNat]
def k0_off110 (k0_t10 : Fin k0_t10_loop.trips) : Fin 3 → Nat :=
  let c0_i32_220 : BitVec 32 := 0#32
  let v403 : Index := Scalar.indexCast c0_i32_220
  let c1_i32_221 : BitVec 32 := 1#32
  let v404 : Index := Scalar.indexCast c1_i32_221
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c96_i32_214 : BitVec 32 := 96#32
  let v385 : BitVec 32 := Scalar.addi v156 c96_i32_214
  let v405 : Index := Scalar.indexCast v385
  ![0, 1, v405.toNat]
def k0_off111 (k0_t10 : Fin k0_t10_loop.trips) : Fin 3 → Nat :=
  let c0_i32_223 : BitVec 32 := 0#32
  let v413 : Index := Scalar.indexCast c0_i32_223
  let c2_i32_224 : BitVec 32 := 2#32
  let v414 : Index := Scalar.indexCast c2_i32_224
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c96_i32_214 : BitVec 32 := 96#32
  let v385 : BitVec 32 := Scalar.addi v156 c96_i32_214
  let v415 : Index := Scalar.indexCast v385
  ![0, 2, v415.toNat]

def k0_chk24 (v389 : IVec S16 32) : Prop :=
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a)
theorem k0_idx223_inb : ∀ (v389 : IVec S16 32) (k0_hw24 : k0_chk24 v389), ∀ a x, ((![v389] : Fin 1 → IVec S16 32) a x).toNat < S8192.size a := fun v389 k0_hw24 => k0_hw24.1
theorem k0_idx224_inb : ∀ (v389 : IVec S16 32) (k0_hw24 : k0_chk24 v389), ∀ a x, ((![v389] : Fin 1 → IVec S16 32) a x).toNat < S8192.size a := fun v389 k0_hw24 => k0_hw24.2.1
theorem k0_idx226_inb : ∀ (v389 : IVec S16 32) (k0_hw24 : k0_chk24 v389), ∀ a x, ((![v389] : Fin 1 → IVec S16 32) a x).toNat < S8192.size a := fun v389 k0_hw24 => k0_hw24.2.2.1
theorem k0_idx227_inb : ∀ (v389 : IVec S16 32) (k0_hw24 : k0_chk24 v389), ∀ a x, ((![v389] : Fin 1 → IVec S16 32) a x).toNat < S8192.size a := fun v389 k0_hw24 => k0_hw24.2.2.2.1
theorem k0_idx229_inb : ∀ (v389 : IVec S16 32) (k0_hw24 : k0_chk24 v389), ∀ a x, ((![v389] : Fin 1 → IVec S16 32) a x).toNat < S8192.size a := fun v389 k0_hw24 => k0_hw24.2.2.2.2.1
theorem k0_idx230_inb : ∀ (v389 : IVec S16 32) (k0_hw24 : k0_chk24 v389), ∀ a x, ((![v389] : Fin 1 → IVec S16 32) a x).toNat < S8192.size a := fun v389 k0_hw24 => k0_hw24.2.2.2.2.2
def k0_off112 (k0_t10 : Fin k0_t10_loop.trips) : Fin 2 → Nat :=
  let c0_i32_226 : BitVec 32 := 0#32
  let v424 : Index := Scalar.indexCast c0_i32_226
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c112_i32 : BitVec 32 := 112#32
  let v423 : BitVec 32 := Scalar.addi v156 c112_i32
  let v425 : Index := Scalar.indexCast v423
  ![0, v425.toNat]
def k0_off113 (k0_t10 : Fin k0_t10_loop.trips) : Fin 3 → Nat :=
  let c0_i32_228 : BitVec 32 := 0#32
  let v431 : Index := Scalar.indexCast c0_i32_228
  let c0_i32_229 : BitVec 32 := 0#32
  let v432 : Index := Scalar.indexCast c0_i32_229
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c112_i32 : BitVec 32 := 112#32
  let v423 : BitVec 32 := Scalar.addi v156 c112_i32
  let v433 : Index := Scalar.indexCast v423
  ![0, 0, v433.toNat]
def k0_off114 (k0_t10 : Fin k0_t10_loop.trips) : Fin 3 → Nat :=
  let c0_i32_231 : BitVec 32 := 0#32
  let v441 : Index := Scalar.indexCast c0_i32_231
  let c1_i32_232 : BitVec 32 := 1#32
  let v442 : Index := Scalar.indexCast c1_i32_232
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c112_i32 : BitVec 32 := 112#32
  let v423 : BitVec 32 := Scalar.addi v156 c112_i32
  let v443 : Index := Scalar.indexCast v423
  ![0, 1, v443.toNat]
def k0_off115 (k0_t10 : Fin k0_t10_loop.trips) : Fin 3 → Nat :=
  let c0_i32_234 : BitVec 32 := 0#32
  let v451 : Index := Scalar.indexCast c0_i32_234
  let c2_i32_235 : BitVec 32 := 2#32
  let v452 : Index := Scalar.indexCast c2_i32_235
  let c0_i32_117 : BitVec 32 := 0#32
  let c1_i32_119 : BitVec 32 := 1#32
  let arg25 : BitVec 32 := Scf.iv c0_i32_117 c1_i32_119 k0_t10
  let c128_i32_145 : BitVec 32 := 128#32
  let v156 : BitVec 32 := Scalar.muli arg25 c128_i32_145
  let c112_i32 : BitVec 32 := 112#32
  let v423 : BitVec 32 := Scalar.addi v156 c112_i32
  let v453 : Index := Scalar.indexCast v423
  ![0, 2, v453.toNat]

def k0_chk25 (v427 : IVec S16 32) : Prop :=
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a)
theorem k0_idx233_inb : ∀ (v427 : IVec S16 32) (k0_hw25 : k0_chk25 v427), ∀ a x, ((![v427] : Fin 1 → IVec S16 32) a x).toNat < S8192.size a := fun v427 k0_hw25 => k0_hw25.1
theorem k0_idx234_inb : ∀ (v427 : IVec S16 32) (k0_hw25 : k0_chk25 v427), ∀ a x, ((![v427] : Fin 1 → IVec S16 32) a x).toNat < S8192.size a := fun v427 k0_hw25 => k0_hw25.2.1
theorem k0_idx236_inb : ∀ (v427 : IVec S16 32) (k0_hw25 : k0_chk25 v427), ∀ a x, ((![v427] : Fin 1 → IVec S16 32) a x).toNat < S8192.size a := fun v427 k0_hw25 => k0_hw25.2.2.1
theorem k0_idx237_inb : ∀ (v427 : IVec S16 32) (k0_hw25 : k0_chk25 v427), ∀ a x, ((![v427] : Fin 1 → IVec S16 32) a x).toNat < S8192.size a := fun v427 k0_hw25 => k0_hw25.2.2.2.1
theorem k0_idx239_inb : ∀ (v427 : IVec S16 32) (k0_hw25 : k0_chk25 v427), ∀ a x, ((![v427] : Fin 1 → IVec S16 32) a x).toNat < S8192.size a := fun v427 k0_hw25 => k0_hw25.2.2.2.2.1
theorem k0_idx240_inb : ∀ (v427 : IVec S16 32) (k0_hw25 : k0_chk25 v427), ∀ a x, ((![v427] : Fin 1 → IVec S16 32) a x).toNat < S8192.size a := fun v427 k0_hw25 => k0_hw25.2.2.2.2.2
def k0_cond2 (k0_t9 : Fin k0_t9_loop.trips) : BitVec 1 :=
  let c0_i32_69 : BitVec 32 := 0#32
  let c1_i32_71 : BitVec 32 := 1#32
  let arg23 : BitVec 32 := Scf.iv c0_i32_69 c1_i32_71 k0_t9
  let c1_i32_121 : BitVec 32 := 1#32
  let v136 : BitVec 32 := Scalar.addi arg23 c1_i32_121
  let c32_i32_122 : BitVec 32 := 32#32
  let v137 : BitVec 1 := Scalar.cmpi .slt v136 c32_i32_122
  let v138 : BitVec 32 := Scalar.extui v137
  let c0_i32_123 : BitVec 32 := 0#32
  let v139 : BitVec 1 := Scalar.cmpi .ne v138 c0_i32_123
  v139

def k0_off116 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_45 : BitVec 32 := 0#32
  let v60 : BitVec 1 := Scalar.cmpi .sgt v58 c0_i32_45
  let v61 : BitVec 32 := Scalar.extui v60
  let c0_i32_46 : BitVec 32 := 0#32
  let v62 : BitVec 1 := Scalar.cmpi .slt v58 c0_i32_46
  let v63 : BitVec 32 := Scalar.extui v62
  let v64 : BitVec 32 := Scalar.subi v61 v63
  let c96_i32_44 : BitVec 32 := 96#32
  let c0_i32_47 : BitVec 32 := 0#32
  let v65 : BitVec 1 := Scalar.cmpi .sgt c96_i32_44 c0_i32_47
  let v66 : BitVec 32 := Scalar.extui v65
  let c0_i32_48 : BitVec 32 := 0#32
  let v67 : BitVec 1 := Scalar.cmpi .slt c96_i32_44 c0_i32_48
  let v68 : BitVec 32 := Scalar.extui v67
  let v69 : BitVec 32 := Scalar.subi v66 v68
  let v70 : BitVec 1 := Scalar.cmpi .ne v64 v69
  let v71 : BitVec 32 := Scalar.remsi v58 c96_i32_44
  let c0_i32_49 : BitVec 32 := 0#32
  let v72 : BitVec 1 := Scalar.cmpi .ne v71 c0_i32_49
  let v73 : BitVec 1 := Scalar.andi v70 v72
  let v59 : BitVec 32 := Scalar.divsi v58 c96_i32_44
  let c1_i32_50 : BitVec 32 := 1#32
  let v74 : BitVec 32 := Scalar.subi v59 c1_i32_50
  let v75 : BitVec 32 := Scalar.select v73 v74 v59
  let c0_i32_69 : BitVec 32 := 0#32
  let c1_i32_71 : BitVec 32 := 1#32
  let arg23 : BitVec 32 := Scf.iv c0_i32_69 c1_i32_71 k0_t9
  let c2_i32_91 : BitVec 32 := 2#32
  let v103 : BitVec 32 := Scalar.muli arg23 c2_i32_91
  let c2_i32_145 : BitVec 32 := 2#32
  let v156 : BitVec 32 := Scalar.addi v103 c2_i32_145
  let c4096_i32_146 : BitVec 32 := 4096#32
  let v157 : BitVec 32 := Scalar.muli v156 c4096_i32_146
  ![v75.toNat, v157.toNat]
def k0_off117 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6_i32_43 : BitVec 32 := 6#32
  let v57 : BitVec 32 := Scalar.muli v1 c6_i32_43
  let c3_i32 : BitVec 32 := 3#32
  let v58 : BitVec 32 := Scalar.addi v57 c3_i32
  let c0_i32_69 : BitVec 32 := 0#32
  let c1_i32_71 : BitVec 32 := 1#32
  let arg23 : BitVec 32 := Scf.iv c0_i32_69 c1_i32_71 k0_t9
  let c2_i32_91 : BitVec 32 := 2#32
  let v103 : BitVec 32 := Scalar.muli arg23 c2_i32_91
  let c2_i32_145 : BitVec 32 := 2#32
  let v156 : BitVec 32 := Scalar.addi v103 c2_i32_145
  let c4096_i32_146 : BitVec 32 := 4096#32
  let v157 : BitVec 32 := Scalar.muli v156 c4096_i32_146
  ![v58.toNat, v157.toNat]
@[reducible] def k0_t11_loop : Scf.Loop 32 :=
  let c0_i32_140 : BitVec 32 := 0#32
  let c32_i32_141 : BitVec 32 := 32#32
  let v154 : BitVec 32 := Scalar.addi c0_i32_140 c32_i32_141
  let c1_i32_142 : BitVec 32 := 1#32
  ⟨c0_i32_140, v154, c1_i32_142⟩
def k0_off118 (k0_t11 : Fin k0_t11_loop.trips) : Fin 2 → Nat :=
  let c1_i32_147 : BitVec 32 := 1#32
  let v158 : Index := Scalar.indexCast c1_i32_147
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c0_i32_146 : BitVec 32 := 0#32
  let v157 : BitVec 32 := Scalar.addi v156 c0_i32_146
  let v159 : Index := Scalar.indexCast v157
  ![1, v159.toNat]
def k0_off119 (k0_t11 : Fin k0_t11_loop.trips) : Fin 3 → Nat :=
  let c1_i32_148 : BitVec 32 := 1#32
  let v165 : Index := Scalar.indexCast c1_i32_148
  let c0_i32_149 : BitVec 32 := 0#32
  let v166 : Index := Scalar.indexCast c0_i32_149
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c0_i32_146 : BitVec 32 := 0#32
  let v157 : BitVec 32 := Scalar.addi v156 c0_i32_146
  let v167 : Index := Scalar.indexCast v157
  ![1, 0, v167.toNat]
def k0_off120 (k0_t11 : Fin k0_t11_loop.trips) : Fin 3 → Nat :=
  let c1_i32_151 : BitVec 32 := 1#32
  let v175 : Index := Scalar.indexCast c1_i32_151
  let c1_i32_152 : BitVec 32 := 1#32
  let v176 : Index := Scalar.indexCast c1_i32_152
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c0_i32_146 : BitVec 32 := 0#32
  let v157 : BitVec 32 := Scalar.addi v156 c0_i32_146
  let v177 : Index := Scalar.indexCast v157
  ![1, 1, v177.toNat]
def k0_off121 (k0_t11 : Fin k0_t11_loop.trips) : Fin 3 → Nat :=
  let c1_i32_154 : BitVec 32 := 1#32
  let v185 : Index := Scalar.indexCast c1_i32_154
  let c2_i32_155 : BitVec 32 := 2#32
  let v186 : Index := Scalar.indexCast c2_i32_155
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c0_i32_146 : BitVec 32 := 0#32
  let v157 : BitVec 32 := Scalar.addi v156 c0_i32_146
  let v187 : Index := Scalar.indexCast v157
  ![1, 2, v187.toNat]

def k0_chk26 (v161 : IVec S16 32) : Prop :=
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a) ∧
  (∀ a x, ((![v161] : Fin 1 → IVec S16 32) a x).toNat < S8192.size a)
theorem k0_idx243_inb : ∀ (v161 : IVec S16 32) (k0_hw26 : k0_chk26 v161), ∀ a x, ((![v161] : Fin 1 → IVec S16 32) a x).toNat < S8192.size a := fun v161 k0_hw26 => k0_hw26.1
theorem k0_idx244_inb : ∀ (v161 : IVec S16 32) (k0_hw26 : k0_chk26 v161), ∀ a x, ((![v161] : Fin 1 → IVec S16 32) a x).toNat < S8192.size a := fun v161 k0_hw26 => k0_hw26.2.1
theorem k0_idx246_inb : ∀ (v161 : IVec S16 32) (k0_hw26 : k0_chk26 v161), ∀ a x, ((![v161] : Fin 1 → IVec S16 32) a x).toNat < S8192.size a := fun v161 k0_hw26 => k0_hw26.2.2.1
theorem k0_idx247_inb : ∀ (v161 : IVec S16 32) (k0_hw26 : k0_chk26 v161), ∀ a x, ((![v161] : Fin 1 → IVec S16 32) a x).toNat < S8192.size a := fun v161 k0_hw26 => k0_hw26.2.2.2.1
theorem k0_idx249_inb : ∀ (v161 : IVec S16 32) (k0_hw26 : k0_chk26 v161), ∀ a x, ((![v161] : Fin 1 → IVec S16 32) a x).toNat < S8192.size a := fun v161 k0_hw26 => k0_hw26.2.2.2.2.1
theorem k0_idx250_inb : ∀ (v161 : IVec S16 32) (k0_hw26 : k0_chk26 v161), ∀ a x, ((![v161] : Fin 1 → IVec S16 32) a x).toNat < S8192.size a := fun v161 k0_hw26 => k0_hw26.2.2.2.2.2
def k0_off122 (k0_t11 : Fin k0_t11_loop.trips) : Fin 2 → Nat :=
  let c1_i32_157 : BitVec 32 := 1#32
  let v196 : Index := Scalar.indexCast c1_i32_157
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c16_i32 : BitVec 32 := 16#32
  let v195 : BitVec 32 := Scalar.addi v156 c16_i32
  let v197 : Index := Scalar.indexCast v195
  ![1, v197.toNat]
def k0_off123 (k0_t11 : Fin k0_t11_loop.trips) : Fin 3 → Nat :=
  let c1_i32_159 : BitVec 32 := 1#32
  let v203 : Index := Scalar.indexCast c1_i32_159
  let c0_i32_160 : BitVec 32 := 0#32
  let v204 : Index := Scalar.indexCast c0_i32_160
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c16_i32 : BitVec 32 := 16#32
  let v195 : BitVec 32 := Scalar.addi v156 c16_i32
  let v205 : Index := Scalar.indexCast v195
  ![1, 0, v205.toNat]
def k0_off124 (k0_t11 : Fin k0_t11_loop.trips) : Fin 3 → Nat :=
  let c1_i32_162 : BitVec 32 := 1#32
  let v213 : Index := Scalar.indexCast c1_i32_162
  let c1_i32_163 : BitVec 32 := 1#32
  let v214 : Index := Scalar.indexCast c1_i32_163
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c16_i32 : BitVec 32 := 16#32
  let v195 : BitVec 32 := Scalar.addi v156 c16_i32
  let v215 : Index := Scalar.indexCast v195
  ![1, 1, v215.toNat]
def k0_off125 (k0_t11 : Fin k0_t11_loop.trips) : Fin 3 → Nat :=
  let c1_i32_165 : BitVec 32 := 1#32
  let v223 : Index := Scalar.indexCast c1_i32_165
  let c2_i32_166 : BitVec 32 := 2#32
  let v224 : Index := Scalar.indexCast c2_i32_166
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c16_i32 : BitVec 32 := 16#32
  let v195 : BitVec 32 := Scalar.addi v156 c16_i32
  let v225 : Index := Scalar.indexCast v195
  ![1, 2, v225.toNat]

def k0_chk27 (v199 : IVec S16 32) : Prop :=
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a) ∧
  (∀ a x, ((![v199] : Fin 1 → IVec S16 32) a x).toNat < S8192.size a)
theorem k0_idx253_inb : ∀ (v199 : IVec S16 32) (k0_hw27 : k0_chk27 v199), ∀ a x, ((![v199] : Fin 1 → IVec S16 32) a x).toNat < S8192.size a := fun v199 k0_hw27 => k0_hw27.1
theorem k0_idx254_inb : ∀ (v199 : IVec S16 32) (k0_hw27 : k0_chk27 v199), ∀ a x, ((![v199] : Fin 1 → IVec S16 32) a x).toNat < S8192.size a := fun v199 k0_hw27 => k0_hw27.2.1
theorem k0_idx256_inb : ∀ (v199 : IVec S16 32) (k0_hw27 : k0_chk27 v199), ∀ a x, ((![v199] : Fin 1 → IVec S16 32) a x).toNat < S8192.size a := fun v199 k0_hw27 => k0_hw27.2.2.1
theorem k0_idx257_inb : ∀ (v199 : IVec S16 32) (k0_hw27 : k0_chk27 v199), ∀ a x, ((![v199] : Fin 1 → IVec S16 32) a x).toNat < S8192.size a := fun v199 k0_hw27 => k0_hw27.2.2.2.1
theorem k0_idx259_inb : ∀ (v199 : IVec S16 32) (k0_hw27 : k0_chk27 v199), ∀ a x, ((![v199] : Fin 1 → IVec S16 32) a x).toNat < S8192.size a := fun v199 k0_hw27 => k0_hw27.2.2.2.2.1
theorem k0_idx260_inb : ∀ (v199 : IVec S16 32) (k0_hw27 : k0_chk27 v199), ∀ a x, ((![v199] : Fin 1 → IVec S16 32) a x).toNat < S8192.size a := fun v199 k0_hw27 => k0_hw27.2.2.2.2.2
def k0_off126 (k0_t11 : Fin k0_t11_loop.trips) : Fin 2 → Nat :=
  let c1_i32_169 : BitVec 32 := 1#32
  let v234 : Index := Scalar.indexCast c1_i32_169
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c32_i32_168 : BitVec 32 := 32#32
  let v233 : BitVec 32 := Scalar.addi v156 c32_i32_168
  let v235 : Index := Scalar.indexCast v233
  ![1, v235.toNat]
def k0_off127 (k0_t11 : Fin k0_t11_loop.trips) : Fin 3 → Nat :=
  let c1_i32_171 : BitVec 32 := 1#32
  let v241 : Index := Scalar.indexCast c1_i32_171
  let c0_i32_172 : BitVec 32 := 0#32
  let v242 : Index := Scalar.indexCast c0_i32_172
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c32_i32_168 : BitVec 32 := 32#32
  let v233 : BitVec 32 := Scalar.addi v156 c32_i32_168
  let v243 : Index := Scalar.indexCast v233
  ![1, 0, v243.toNat]
def k0_off128 (k0_t11 : Fin k0_t11_loop.trips) : Fin 3 → Nat :=
  let c1_i32_174 : BitVec 32 := 1#32
  let v251 : Index := Scalar.indexCast c1_i32_174
  let c1_i32_175 : BitVec 32 := 1#32
  let v252 : Index := Scalar.indexCast c1_i32_175
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c32_i32_168 : BitVec 32 := 32#32
  let v233 : BitVec 32 := Scalar.addi v156 c32_i32_168
  let v253 : Index := Scalar.indexCast v233
  ![1, 1, v253.toNat]
def k0_off129 (k0_t11 : Fin k0_t11_loop.trips) : Fin 3 → Nat :=
  let c1_i32_177 : BitVec 32 := 1#32
  let v261 : Index := Scalar.indexCast c1_i32_177
  let c2_i32_178 : BitVec 32 := 2#32
  let v262 : Index := Scalar.indexCast c2_i32_178
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c32_i32_168 : BitVec 32 := 32#32
  let v233 : BitVec 32 := Scalar.addi v156 c32_i32_168
  let v263 : Index := Scalar.indexCast v233
  ![1, 2, v263.toNat]

def k0_chk28 (v237 : IVec S16 32) : Prop :=
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a) ∧
  (∀ a x, ((![v237] : Fin 1 → IVec S16 32) a x).toNat < S8192.size a)
theorem k0_idx263_inb : ∀ (v237 : IVec S16 32) (k0_hw28 : k0_chk28 v237), ∀ a x, ((![v237] : Fin 1 → IVec S16 32) a x).toNat < S8192.size a := fun v237 k0_hw28 => k0_hw28.1
theorem k0_idx264_inb : ∀ (v237 : IVec S16 32) (k0_hw28 : k0_chk28 v237), ∀ a x, ((![v237] : Fin 1 → IVec S16 32) a x).toNat < S8192.size a := fun v237 k0_hw28 => k0_hw28.2.1
theorem k0_idx266_inb : ∀ (v237 : IVec S16 32) (k0_hw28 : k0_chk28 v237), ∀ a x, ((![v237] : Fin 1 → IVec S16 32) a x).toNat < S8192.size a := fun v237 k0_hw28 => k0_hw28.2.2.1
theorem k0_idx267_inb : ∀ (v237 : IVec S16 32) (k0_hw28 : k0_chk28 v237), ∀ a x, ((![v237] : Fin 1 → IVec S16 32) a x).toNat < S8192.size a := fun v237 k0_hw28 => k0_hw28.2.2.2.1
theorem k0_idx269_inb : ∀ (v237 : IVec S16 32) (k0_hw28 : k0_chk28 v237), ∀ a x, ((![v237] : Fin 1 → IVec S16 32) a x).toNat < S8192.size a := fun v237 k0_hw28 => k0_hw28.2.2.2.2.1
theorem k0_idx270_inb : ∀ (v237 : IVec S16 32) (k0_hw28 : k0_chk28 v237), ∀ a x, ((![v237] : Fin 1 → IVec S16 32) a x).toNat < S8192.size a := fun v237 k0_hw28 => k0_hw28.2.2.2.2.2
def k0_off130 (k0_t11 : Fin k0_t11_loop.trips) : Fin 2 → Nat :=
  let c1_i32_180 : BitVec 32 := 1#32
  let v272 : Index := Scalar.indexCast c1_i32_180
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c48_i32 : BitVec 32 := 48#32
  let v271 : BitVec 32 := Scalar.addi v156 c48_i32
  let v273 : Index := Scalar.indexCast v271
  ![1, v273.toNat]
def k0_off131 (k0_t11 : Fin k0_t11_loop.trips) : Fin 3 → Nat :=
  let c1_i32_182 : BitVec 32 := 1#32
  let v279 : Index := Scalar.indexCast c1_i32_182
  let c0_i32_183 : BitVec 32 := 0#32
  let v280 : Index := Scalar.indexCast c0_i32_183
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c48_i32 : BitVec 32 := 48#32
  let v271 : BitVec 32 := Scalar.addi v156 c48_i32
  let v281 : Index := Scalar.indexCast v271
  ![1, 0, v281.toNat]
def k0_off132 (k0_t11 : Fin k0_t11_loop.trips) : Fin 3 → Nat :=
  let c1_i32_185 : BitVec 32 := 1#32
  let v289 : Index := Scalar.indexCast c1_i32_185
  let c1_i32_186 : BitVec 32 := 1#32
  let v290 : Index := Scalar.indexCast c1_i32_186
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c48_i32 : BitVec 32 := 48#32
  let v271 : BitVec 32 := Scalar.addi v156 c48_i32
  let v291 : Index := Scalar.indexCast v271
  ![1, 1, v291.toNat]
def k0_off133 (k0_t11 : Fin k0_t11_loop.trips) : Fin 3 → Nat :=
  let c1_i32_188 : BitVec 32 := 1#32
  let v299 : Index := Scalar.indexCast c1_i32_188
  let c2_i32_189 : BitVec 32 := 2#32
  let v300 : Index := Scalar.indexCast c2_i32_189
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c48_i32 : BitVec 32 := 48#32
  let v271 : BitVec 32 := Scalar.addi v156 c48_i32
  let v301 : Index := Scalar.indexCast v271
  ![1, 2, v301.toNat]

def k0_chk29 (v275 : IVec S16 32) : Prop :=
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a) ∧
  (∀ a x, ((![v275] : Fin 1 → IVec S16 32) a x).toNat < S8192.size a)
theorem k0_idx273_inb : ∀ (v275 : IVec S16 32) (k0_hw29 : k0_chk29 v275), ∀ a x, ((![v275] : Fin 1 → IVec S16 32) a x).toNat < S8192.size a := fun v275 k0_hw29 => k0_hw29.1
theorem k0_idx274_inb : ∀ (v275 : IVec S16 32) (k0_hw29 : k0_chk29 v275), ∀ a x, ((![v275] : Fin 1 → IVec S16 32) a x).toNat < S8192.size a := fun v275 k0_hw29 => k0_hw29.2.1
theorem k0_idx276_inb : ∀ (v275 : IVec S16 32) (k0_hw29 : k0_chk29 v275), ∀ a x, ((![v275] : Fin 1 → IVec S16 32) a x).toNat < S8192.size a := fun v275 k0_hw29 => k0_hw29.2.2.1
theorem k0_idx277_inb : ∀ (v275 : IVec S16 32) (k0_hw29 : k0_chk29 v275), ∀ a x, ((![v275] : Fin 1 → IVec S16 32) a x).toNat < S8192.size a := fun v275 k0_hw29 => k0_hw29.2.2.2.1
theorem k0_idx279_inb : ∀ (v275 : IVec S16 32) (k0_hw29 : k0_chk29 v275), ∀ a x, ((![v275] : Fin 1 → IVec S16 32) a x).toNat < S8192.size a := fun v275 k0_hw29 => k0_hw29.2.2.2.2.1
theorem k0_idx280_inb : ∀ (v275 : IVec S16 32) (k0_hw29 : k0_chk29 v275), ∀ a x, ((![v275] : Fin 1 → IVec S16 32) a x).toNat < S8192.size a := fun v275 k0_hw29 => k0_hw29.2.2.2.2.2
def k0_off134 (k0_t11 : Fin k0_t11_loop.trips) : Fin 2 → Nat :=
  let c1_i32_192 : BitVec 32 := 1#32
  let v310 : Index := Scalar.indexCast c1_i32_192
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c64_i32_191 : BitVec 32 := 64#32
  let v309 : BitVec 32 := Scalar.addi v156 c64_i32_191
  let v311 : Index := Scalar.indexCast v309
  ![1, v311.toNat]
def k0_off135 (k0_t11 : Fin k0_t11_loop.trips) : Fin 3 → Nat :=
  let c1_i32_194 : BitVec 32 := 1#32
  let v317 : Index := Scalar.indexCast c1_i32_194
  let c0_i32_195 : BitVec 32 := 0#32
  let v318 : Index := Scalar.indexCast c0_i32_195
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c64_i32_191 : BitVec 32 := 64#32
  let v309 : BitVec 32 := Scalar.addi v156 c64_i32_191
  let v319 : Index := Scalar.indexCast v309
  ![1, 0, v319.toNat]
def k0_off136 (k0_t11 : Fin k0_t11_loop.trips) : Fin 3 → Nat :=
  let c1_i32_197 : BitVec 32 := 1#32
  let v327 : Index := Scalar.indexCast c1_i32_197
  let c1_i32_198 : BitVec 32 := 1#32
  let v328 : Index := Scalar.indexCast c1_i32_198
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c64_i32_191 : BitVec 32 := 64#32
  let v309 : BitVec 32 := Scalar.addi v156 c64_i32_191
  let v329 : Index := Scalar.indexCast v309
  ![1, 1, v329.toNat]
def k0_off137 (k0_t11 : Fin k0_t11_loop.trips) : Fin 3 → Nat :=
  let c1_i32_200 : BitVec 32 := 1#32
  let v337 : Index := Scalar.indexCast c1_i32_200
  let c2_i32_201 : BitVec 32 := 2#32
  let v338 : Index := Scalar.indexCast c2_i32_201
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c64_i32_191 : BitVec 32 := 64#32
  let v309 : BitVec 32 := Scalar.addi v156 c64_i32_191
  let v339 : Index := Scalar.indexCast v309
  ![1, 2, v339.toNat]

def k0_chk30 (v313 : IVec S16 32) : Prop :=
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a) ∧
  (∀ a x, ((![v313] : Fin 1 → IVec S16 32) a x).toNat < S8192.size a)
theorem k0_idx283_inb : ∀ (v313 : IVec S16 32) (k0_hw30 : k0_chk30 v313), ∀ a x, ((![v313] : Fin 1 → IVec S16 32) a x).toNat < S8192.size a := fun v313 k0_hw30 => k0_hw30.1
theorem k0_idx284_inb : ∀ (v313 : IVec S16 32) (k0_hw30 : k0_chk30 v313), ∀ a x, ((![v313] : Fin 1 → IVec S16 32) a x).toNat < S8192.size a := fun v313 k0_hw30 => k0_hw30.2.1
theorem k0_idx286_inb : ∀ (v313 : IVec S16 32) (k0_hw30 : k0_chk30 v313), ∀ a x, ((![v313] : Fin 1 → IVec S16 32) a x).toNat < S8192.size a := fun v313 k0_hw30 => k0_hw30.2.2.1
theorem k0_idx287_inb : ∀ (v313 : IVec S16 32) (k0_hw30 : k0_chk30 v313), ∀ a x, ((![v313] : Fin 1 → IVec S16 32) a x).toNat < S8192.size a := fun v313 k0_hw30 => k0_hw30.2.2.2.1
theorem k0_idx289_inb : ∀ (v313 : IVec S16 32) (k0_hw30 : k0_chk30 v313), ∀ a x, ((![v313] : Fin 1 → IVec S16 32) a x).toNat < S8192.size a := fun v313 k0_hw30 => k0_hw30.2.2.2.2.1
theorem k0_idx290_inb : ∀ (v313 : IVec S16 32) (k0_hw30 : k0_chk30 v313), ∀ a x, ((![v313] : Fin 1 → IVec S16 32) a x).toNat < S8192.size a := fun v313 k0_hw30 => k0_hw30.2.2.2.2.2
def k0_off138 (k0_t11 : Fin k0_t11_loop.trips) : Fin 2 → Nat :=
  let c1_i32_203 : BitVec 32 := 1#32
  let v348 : Index := Scalar.indexCast c1_i32_203
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c80_i32 : BitVec 32 := 80#32
  let v347 : BitVec 32 := Scalar.addi v156 c80_i32
  let v349 : Index := Scalar.indexCast v347
  ![1, v349.toNat]
def k0_off139 (k0_t11 : Fin k0_t11_loop.trips) : Fin 3 → Nat :=
  let c1_i32_205 : BitVec 32 := 1#32
  let v355 : Index := Scalar.indexCast c1_i32_205
  let c0_i32_206 : BitVec 32 := 0#32
  let v356 : Index := Scalar.indexCast c0_i32_206
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c80_i32 : BitVec 32 := 80#32
  let v347 : BitVec 32 := Scalar.addi v156 c80_i32
  let v357 : Index := Scalar.indexCast v347
  ![1, 0, v357.toNat]
def k0_off140 (k0_t11 : Fin k0_t11_loop.trips) : Fin 3 → Nat :=
  let c1_i32_208 : BitVec 32 := 1#32
  let v365 : Index := Scalar.indexCast c1_i32_208
  let c1_i32_209 : BitVec 32 := 1#32
  let v366 : Index := Scalar.indexCast c1_i32_209
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c80_i32 : BitVec 32 := 80#32
  let v347 : BitVec 32 := Scalar.addi v156 c80_i32
  let v367 : Index := Scalar.indexCast v347
  ![1, 1, v367.toNat]
def k0_off141 (k0_t11 : Fin k0_t11_loop.trips) : Fin 3 → Nat :=
  let c1_i32_211 : BitVec 32 := 1#32
  let v375 : Index := Scalar.indexCast c1_i32_211
  let c2_i32_212 : BitVec 32 := 2#32
  let v376 : Index := Scalar.indexCast c2_i32_212
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c80_i32 : BitVec 32 := 80#32
  let v347 : BitVec 32 := Scalar.addi v156 c80_i32
  let v377 : Index := Scalar.indexCast v347
  ![1, 2, v377.toNat]

def k0_chk31 (v351 : IVec S16 32) : Prop :=
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a) ∧
  (∀ a x, ((![v351] : Fin 1 → IVec S16 32) a x).toNat < S8192.size a)
theorem k0_idx293_inb : ∀ (v351 : IVec S16 32) (k0_hw31 : k0_chk31 v351), ∀ a x, ((![v351] : Fin 1 → IVec S16 32) a x).toNat < S8192.size a := fun v351 k0_hw31 => k0_hw31.1
theorem k0_idx294_inb : ∀ (v351 : IVec S16 32) (k0_hw31 : k0_chk31 v351), ∀ a x, ((![v351] : Fin 1 → IVec S16 32) a x).toNat < S8192.size a := fun v351 k0_hw31 => k0_hw31.2.1
theorem k0_idx296_inb : ∀ (v351 : IVec S16 32) (k0_hw31 : k0_chk31 v351), ∀ a x, ((![v351] : Fin 1 → IVec S16 32) a x).toNat < S8192.size a := fun v351 k0_hw31 => k0_hw31.2.2.1
theorem k0_idx297_inb : ∀ (v351 : IVec S16 32) (k0_hw31 : k0_chk31 v351), ∀ a x, ((![v351] : Fin 1 → IVec S16 32) a x).toNat < S8192.size a := fun v351 k0_hw31 => k0_hw31.2.2.2.1
theorem k0_idx299_inb : ∀ (v351 : IVec S16 32) (k0_hw31 : k0_chk31 v351), ∀ a x, ((![v351] : Fin 1 → IVec S16 32) a x).toNat < S8192.size a := fun v351 k0_hw31 => k0_hw31.2.2.2.2.1
theorem k0_idx300_inb : ∀ (v351 : IVec S16 32) (k0_hw31 : k0_chk31 v351), ∀ a x, ((![v351] : Fin 1 → IVec S16 32) a x).toNat < S8192.size a := fun v351 k0_hw31 => k0_hw31.2.2.2.2.2
def k0_off142 (k0_t11 : Fin k0_t11_loop.trips) : Fin 2 → Nat :=
  let c1_i32_215 : BitVec 32 := 1#32
  let v386 : Index := Scalar.indexCast c1_i32_215
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c96_i32_214 : BitVec 32 := 96#32
  let v385 : BitVec 32 := Scalar.addi v156 c96_i32_214
  let v387 : Index := Scalar.indexCast v385
  ![1, v387.toNat]
def k0_off143 (k0_t11 : Fin k0_t11_loop.trips) : Fin 3 → Nat :=
  let c1_i32_217 : BitVec 32 := 1#32
  let v393 : Index := Scalar.indexCast c1_i32_217
  let c0_i32_218 : BitVec 32 := 0#32
  let v394 : Index := Scalar.indexCast c0_i32_218
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c96_i32_214 : BitVec 32 := 96#32
  let v385 : BitVec 32 := Scalar.addi v156 c96_i32_214
  let v395 : Index := Scalar.indexCast v385
  ![1, 0, v395.toNat]
def k0_off144 (k0_t11 : Fin k0_t11_loop.trips) : Fin 3 → Nat :=
  let c1_i32_220 : BitVec 32 := 1#32
  let v403 : Index := Scalar.indexCast c1_i32_220
  let c1_i32_221 : BitVec 32 := 1#32
  let v404 : Index := Scalar.indexCast c1_i32_221
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c96_i32_214 : BitVec 32 := 96#32
  let v385 : BitVec 32 := Scalar.addi v156 c96_i32_214
  let v405 : Index := Scalar.indexCast v385
  ![1, 1, v405.toNat]
def k0_off145 (k0_t11 : Fin k0_t11_loop.trips) : Fin 3 → Nat :=
  let c1_i32_223 : BitVec 32 := 1#32
  let v413 : Index := Scalar.indexCast c1_i32_223
  let c2_i32_224 : BitVec 32 := 2#32
  let v414 : Index := Scalar.indexCast c2_i32_224
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c96_i32_214 : BitVec 32 := 96#32
  let v385 : BitVec 32 := Scalar.addi v156 c96_i32_214
  let v415 : Index := Scalar.indexCast v385
  ![1, 2, v415.toNat]

def k0_chk32 (v389 : IVec S16 32) : Prop :=
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a) ∧
  (∀ a x, ((![v389] : Fin 1 → IVec S16 32) a x).toNat < S8192.size a)
theorem k0_idx303_inb : ∀ (v389 : IVec S16 32) (k0_hw32 : k0_chk32 v389), ∀ a x, ((![v389] : Fin 1 → IVec S16 32) a x).toNat < S8192.size a := fun v389 k0_hw32 => k0_hw32.1
theorem k0_idx304_inb : ∀ (v389 : IVec S16 32) (k0_hw32 : k0_chk32 v389), ∀ a x, ((![v389] : Fin 1 → IVec S16 32) a x).toNat < S8192.size a := fun v389 k0_hw32 => k0_hw32.2.1
theorem k0_idx306_inb : ∀ (v389 : IVec S16 32) (k0_hw32 : k0_chk32 v389), ∀ a x, ((![v389] : Fin 1 → IVec S16 32) a x).toNat < S8192.size a := fun v389 k0_hw32 => k0_hw32.2.2.1
theorem k0_idx307_inb : ∀ (v389 : IVec S16 32) (k0_hw32 : k0_chk32 v389), ∀ a x, ((![v389] : Fin 1 → IVec S16 32) a x).toNat < S8192.size a := fun v389 k0_hw32 => k0_hw32.2.2.2.1
theorem k0_idx309_inb : ∀ (v389 : IVec S16 32) (k0_hw32 : k0_chk32 v389), ∀ a x, ((![v389] : Fin 1 → IVec S16 32) a x).toNat < S8192.size a := fun v389 k0_hw32 => k0_hw32.2.2.2.2.1
theorem k0_idx310_inb : ∀ (v389 : IVec S16 32) (k0_hw32 : k0_chk32 v389), ∀ a x, ((![v389] : Fin 1 → IVec S16 32) a x).toNat < S8192.size a := fun v389 k0_hw32 => k0_hw32.2.2.2.2.2
def k0_off146 (k0_t11 : Fin k0_t11_loop.trips) : Fin 2 → Nat :=
  let c1_i32_226 : BitVec 32 := 1#32
  let v424 : Index := Scalar.indexCast c1_i32_226
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c112_i32 : BitVec 32 := 112#32
  let v423 : BitVec 32 := Scalar.addi v156 c112_i32
  let v425 : Index := Scalar.indexCast v423
  ![1, v425.toNat]
def k0_off147 (k0_t11 : Fin k0_t11_loop.trips) : Fin 3 → Nat :=
  let c1_i32_228 : BitVec 32 := 1#32
  let v431 : Index := Scalar.indexCast c1_i32_228
  let c0_i32_229 : BitVec 32 := 0#32
  let v432 : Index := Scalar.indexCast c0_i32_229
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c112_i32 : BitVec 32 := 112#32
  let v423 : BitVec 32 := Scalar.addi v156 c112_i32
  let v433 : Index := Scalar.indexCast v423
  ![1, 0, v433.toNat]
def k0_off148 (k0_t11 : Fin k0_t11_loop.trips) : Fin 3 → Nat :=
  let c1_i32_231 : BitVec 32 := 1#32
  let v441 : Index := Scalar.indexCast c1_i32_231
  let c1_i32_232 : BitVec 32 := 1#32
  let v442 : Index := Scalar.indexCast c1_i32_232
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c112_i32 : BitVec 32 := 112#32
  let v423 : BitVec 32 := Scalar.addi v156 c112_i32
  let v443 : Index := Scalar.indexCast v423
  ![1, 1, v443.toNat]
def k0_off149 (k0_t11 : Fin k0_t11_loop.trips) : Fin 3 → Nat :=
  let c1_i32_234 : BitVec 32 := 1#32
  let v451 : Index := Scalar.indexCast c1_i32_234
  let c2_i32_235 : BitVec 32 := 2#32
  let v452 : Index := Scalar.indexCast c2_i32_235
  let c0_i32_140 : BitVec 32 := 0#32
  let c1_i32_142 : BitVec 32 := 1#32
  let arg25 : BitVec 32 := Scf.iv c0_i32_140 c1_i32_142 k0_t11
  let c128_i32_145 : BitVec 32 := 128#32
  let v156 : BitVec 32 := Scalar.muli arg25 c128_i32_145
  let c112_i32 : BitVec 32 := 112#32
  let v423 : BitVec 32 := Scalar.addi v156 c112_i32
  let v453 : Index := Scalar.indexCast v423
  ![1, 2, v453.toNat]

def k0_chk1_0 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
def k0_chk1_1 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
def k0_chk1_2 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
def k0_chk1_3 (v10 : IVec S16 32) : Prop :=
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a) ∧
  (∀ a x, ((![v10] : Fin 1 → IVec S16 32) a x).toNat < S16.size a)
def k0_chk1 (v10 : IVec S16 32) : Prop :=
  k0_chk1_0 v10 ∧
  k0_chk1_1 v10 ∧
  k0_chk1_2 v10 ∧
  k0_chk1_3 v10
theorem k0_idx1_inb : ∀ (v10 : IVec S16 32) (k0_hw1 : k0_chk1 v10), ∀ a x, ((![v10] : Fin 1 → IVec S16 32) a x).toNat < S16.size a := fun v10 k0_hw1 => k0_hw1.1.1
theorem k0_idx2_inb : ∀ (v10 : IVec S16 32) (k0_hw1 : k0_chk1 v10), ∀ a x, ((![v10] : Fin 1 → IVec S16 32) a x).toNat < S16.size a := fun v10 k0_hw1 => k0_hw1.1.2.1
theorem k0_idx5_inb : ∀ (v10 : IVec S16 32) (k0_hw1 : k0_chk1 v10), ∀ a x, ((![v10] : Fin 1 → IVec S16 32) a x).toNat < S16.size a := fun v10 k0_hw1 => k0_hw1.1.2.2.1
theorem k0_idx8_inb : ∀ (v10 : IVec S16 32) (k0_hw1 : k0_chk1 v10), ∀ a x, ((![v10] : Fin 1 → IVec S16 32) a x).toNat < S16.size a := fun v10 k0_hw1 => k0_hw1.1.2.2.2.1
theorem k0_idx11_inb : ∀ (v10 : IVec S16 32) (k0_hw1 : k0_chk1 v10), ∀ a x, ((![v10] : Fin 1 → IVec S16 32) a x).toNat < S16.size a := fun v10 k0_hw1 => k0_hw1.1.2.2.2.2.1
theorem k0_idx12_inb : ∀ (v10 : IVec S16 32) (k0_hw1 : k0_chk1 v10), ∀ a x, ((![v10] : Fin 1 → IVec S16 32) a x).toNat < S16.size a := fun v10 k0_hw1 => k0_hw1.1.2.2.2.2.2.1
theorem k0_idx15_inb : ∀ (v10 : IVec S16 32) (k0_hw1 : k0_chk1 v10), ∀ a x, ((![v10] : Fin 1 → IVec S16 32) a x).toNat < S16.size a := fun v10 k0_hw1 => k0_hw1.1.2.2.2.2.2.2.1
theorem k0_idx18_inb : ∀ (v10 : IVec S16 32) (k0_hw1 : k0_chk1 v10), ∀ a x, ((![v10] : Fin 1 → IVec S16 32) a x).toNat < S16.size a := fun v10 k0_hw1 => k0_hw1.1.2.2.2.2.2.2.2.1
theorem k0_idx21_inb : ∀ (v10 : IVec S16 32) (k0_hw1 : k0_chk1 v10), ∀ a x, ((![v10] : Fin 1 → IVec S16 32) a x).toNat < S16.size a := fun v10 k0_hw1 => k0_hw1.1.2.2.2.2.2.2.2.2.1
theorem k0_idx22_inb : ∀ (v10 : IVec S16 32) (k0_hw1 : k0_chk1 v10), ∀ a x, ((![v10] : Fin 1 → IVec S16 32) a x).toNat < S16.size a := fun v10 k0_hw1 => k0_hw1.1.2.2.2.2.2.2.2.2.2.1
theorem k0_idx25_inb : ∀ (v10 : IVec S16 32) (k0_hw1 : k0_chk1 v10), ∀ a x, ((![v10] : Fin 1 → IVec S16 32) a x).toNat < S16.size a := fun v10 k0_hw1 => k0_hw1.1.2.2.2.2.2.2.2.2.2.2.1
theorem k0_idx28_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.1
theorem k0_idx31_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.1
theorem k0_idx32_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.1
theorem k0_idx35_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.1
theorem k0_idx38_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.1
theorem k0_idx41_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.1
theorem k0_idx42_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.1
theorem k0_idx45_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.1
theorem k0_idx48_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.1
theorem k0_idx51_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.1
theorem k0_idx52_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.1
theorem k0_idx55_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.1
theorem k0_idx58_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.1
theorem k0_idx61_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.1
theorem k0_idx62_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.1
theorem k0_idx65_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.1
theorem k0_idx68_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.2.1
theorem k0_idx71_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.2.2.1
theorem k0_idx72_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.2.2.2.1
theorem k0_idx75_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.2.2.2.2.1
theorem k0_idx78_inb : ∀ (v10 : IVec S16 32) (k0_hw1 : k0_chk1 v10), ∀ a x, ((![v10] : Fin 1 → IVec S16 32) a x).toNat < S16.size a := fun v10 k0_hw1 => k0_hw1.1.2.2.2.2.2.2.2.2.2.2.2.2.2.2.2.2.2.2.2.2.2.2.2.2.2.2.2.2.2.2.2
theorem k0_idx81_inb : ∀ (v10 : IVec S16 32) (k0_hw1 : k0_chk1 v10), ∀ a x, ((![v10] : Fin 1 → IVec S16 32) a x).toNat < S16.size a := fun v10 k0_hw1 => k0_hw1.2.1.1
theorem k0_idx82_inb : ∀ (v10 : IVec S16 32) (k0_hw1 : k0_chk1 v10), ∀ a x, ((![v10] : Fin 1 → IVec S16 32) a x).toNat < S16.size a := fun v10 k0_hw1 => k0_hw1.2.1.2.1
theorem k0_idx85_inb : ∀ (v10 : IVec S16 32) (k0_hw1 : k0_chk1 v10), ∀ a x, ((![v10] : Fin 1 → IVec S16 32) a x).toNat < S16.size a := fun v10 k0_hw1 => k0_hw1.2.1.2.2.1
theorem k0_idx88_inb : ∀ (v10 : IVec S16 32) (k0_hw1 : k0_chk1 v10), ∀ a x, ((![v10] : Fin 1 → IVec S16 32) a x).toNat < S16.size a := fun v10 k0_hw1 => k0_hw1.2.1.2.2.2.1
theorem k0_idx91_inb : ∀ (v10 : IVec S16 32) (k0_hw1 : k0_chk1 v10), ∀ a x, ((![v10] : Fin 1 → IVec S16 32) a x).toNat < S16.size a := fun v10 k0_hw1 => k0_hw1.2.1.2.2.2.2.1
theorem k0_idx92_inb : ∀ (v10 : IVec S16 32) (k0_hw1 : k0_chk1 v10), ∀ a x, ((![v10] : Fin 1 → IVec S16 32) a x).toNat < S16.size a := fun v10 k0_hw1 => k0_hw1.2.1.2.2.2.2.2.1
theorem k0_idx95_inb : ∀ (v10 : IVec S16 32) (k0_hw1 : k0_chk1 v10), ∀ a x, ((![v10] : Fin 1 → IVec S16 32) a x).toNat < S16.size a := fun v10 k0_hw1 => k0_hw1.2.1.2.2.2.2.2.2.1
theorem k0_idx98_inb : ∀ (v10 : IVec S16 32) (k0_hw1 : k0_chk1 v10), ∀ a x, ((![v10] : Fin 1 → IVec S16 32) a x).toNat < S16.size a := fun v10 k0_hw1 => k0_hw1.2.1.2.2.2.2.2.2.2.1
theorem k0_idx101_inb : ∀ (v10 : IVec S16 32) (k0_hw1 : k0_chk1 v10), ∀ a x, ((![v10] : Fin 1 → IVec S16 32) a x).toNat < S16.size a := fun v10 k0_hw1 => k0_hw1.2.1.2.2.2.2.2.2.2.2.1
theorem k0_idx102_inb : ∀ (v10 : IVec S16 32) (k0_hw1 : k0_chk1 v10), ∀ a x, ((![v10] : Fin 1 → IVec S16 32) a x).toNat < S16.size a := fun v10 k0_hw1 => k0_hw1.2.1.2.2.2.2.2.2.2.2.2.1
theorem k0_idx105_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.1
theorem k0_idx108_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.1
theorem k0_idx111_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.1
theorem k0_idx112_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.1
theorem k0_idx115_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.1
theorem k0_idx118_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.1
theorem k0_idx121_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.1
theorem k0_idx122_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.1
theorem k0_idx125_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.1
theorem k0_idx128_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.1
theorem k0_idx131_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.1
theorem k0_idx132_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.1
theorem k0_idx135_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.1
theorem k0_idx138_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.1
theorem k0_idx141_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.1
theorem k0_idx142_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.1
theorem k0_idx145_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.1
theorem k0_idx148_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.2.1
theorem k0_idx151_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.2.2.1
theorem k0_idx152_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.2.2.2.1
theorem k0_idx155_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.2.2.2.2.1
theorem k0_idx158_inb : ∀ (v10 : IVec S16 32) (k0_hw1 : k0_chk1 v10), ∀ a x, ((![v10] : Fin 1 → IVec S16 32) a x).toNat < S16.size a := fun v10 k0_hw1 => k0_hw1.2.1.2.2.2.2.2.2.2.2.2.2.2.2.2.2.2.2.2.2.2.2.2.2.2.2.2.2.2.2.2.2.2
theorem k0_idx161_inb : ∀ (v10 : IVec S16 32) (k0_hw1 : k0_chk1 v10), ∀ a x, ((![v10] : Fin 1 → IVec S16 32) a x).toNat < S16.size a := fun v10 k0_hw1 => k0_hw1.2.2.1.1
theorem k0_idx162_inb : ∀ (v10 : IVec S16 32) (k0_hw1 : k0_chk1 v10), ∀ a x, ((![v10] : Fin 1 → IVec S16 32) a x).toNat < S16.size a := fun v10 k0_hw1 => k0_hw1.2.2.1.2.1
theorem k0_idx165_inb : ∀ (v10 : IVec S16 32) (k0_hw1 : k0_chk1 v10), ∀ a x, ((![v10] : Fin 1 → IVec S16 32) a x).toNat < S16.size a := fun v10 k0_hw1 => k0_hw1.2.2.1.2.2.1
theorem k0_idx168_inb : ∀ (v10 : IVec S16 32) (k0_hw1 : k0_chk1 v10), ∀ a x, ((![v10] : Fin 1 → IVec S16 32) a x).toNat < S16.size a := fun v10 k0_hw1 => k0_hw1.2.2.1.2.2.2.1
theorem k0_idx171_inb : ∀ (v10 : IVec S16 32) (k0_hw1 : k0_chk1 v10), ∀ a x, ((![v10] : Fin 1 → IVec S16 32) a x).toNat < S16.size a := fun v10 k0_hw1 => k0_hw1.2.2.1.2.2.2.2.1
theorem k0_idx172_inb : ∀ (v10 : IVec S16 32) (k0_hw1 : k0_chk1 v10), ∀ a x, ((![v10] : Fin 1 → IVec S16 32) a x).toNat < S16.size a := fun v10 k0_hw1 => k0_hw1.2.2.1.2.2.2.2.2.1
theorem k0_idx175_inb : ∀ (v10 : IVec S16 32) (k0_hw1 : k0_chk1 v10), ∀ a x, ((![v10] : Fin 1 → IVec S16 32) a x).toNat < S16.size a := fun v10 k0_hw1 => k0_hw1.2.2.1.2.2.2.2.2.2.1
theorem k0_idx178_inb : ∀ (v10 : IVec S16 32) (k0_hw1 : k0_chk1 v10), ∀ a x, ((![v10] : Fin 1 → IVec S16 32) a x).toNat < S16.size a := fun v10 k0_hw1 => k0_hw1.2.2.1.2.2.2.2.2.2.2.1
theorem k0_idx181_inb : ∀ (v10 : IVec S16 32) (k0_hw1 : k0_chk1 v10), ∀ a x, ((![v10] : Fin 1 → IVec S16 32) a x).toNat < S16.size a := fun v10 k0_hw1 => k0_hw1.2.2.1.2.2.2.2.2.2.2.2.1
theorem k0_idx182_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.1
theorem k0_idx185_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.1
theorem k0_idx188_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.1
theorem k0_idx191_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.1
theorem k0_idx192_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.1
theorem k0_idx195_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.1
theorem k0_idx198_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.1
theorem k0_idx201_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.1
theorem k0_idx202_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.1
theorem k0_idx205_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.1
theorem k0_idx208_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.1
theorem k0_idx211_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.1
theorem k0_idx212_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.1
theorem k0_idx215_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.1
theorem k0_idx218_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.1
theorem k0_idx221_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.1
theorem k0_idx222_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.1
theorem k0_idx225_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.1
theorem k0_idx228_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.2.1
theorem k0_idx231_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.2.2.1
theorem k0_idx232_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.2.2.2.1
theorem k0_idx235_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.2.2.2.2.1
theorem k0_idx238_inb : ∀ (v10 : IVec S16 32) (k0_hw1 : k0_chk1 v10), ∀ a x, ((![v10] : Fin 1 → IVec S16 32) a x).toNat < S16.size a := fun v10 k0_hw1 => k0_hw1.2.2.1.2.2.2.2.2.2.2.2.2.2.2.2.2.2.2.2.2.2.2.2.2.2.2.2.2.2.2.2.2.2.2
theorem k0_idx241_inb : ∀ (v10 : IVec S16 32) (k0_hw1 : k0_chk1 v10), ∀ a x, ((![v10] : Fin 1 → IVec S16 32) a x).toNat < S16.size a := fun v10 k0_hw1 => k0_hw1.2.2.2.1
theorem k0_idx242_inb : ∀ (v10 : IVec S16 32) (k0_hw1 : k0_chk1 v10), ∀ a x, ((![v10] : Fin 1 → IVec S16 32) a x).toNat < S16.size a := fun v10 k0_hw1 => k0_hw1.2.2.2.2.1
theorem k0_idx245_inb : ∀ (v10 : IVec S16 32) (k0_hw1 : k0_chk1 v10), ∀ a x, ((![v10] : Fin 1 → IVec S16 32) a x).toNat < S16.size a := fun v10 k0_hw1 => k0_hw1.2.2.2.2.2.1
theorem k0_idx248_inb : ∀ (v10 : IVec S16 32) (k0_hw1 : k0_chk1 v10), ∀ a x, ((![v10] : Fin 1 → IVec S16 32) a x).toNat < S16.size a := fun v10 k0_hw1 => k0_hw1.2.2.2.2.2.2.1
theorem k0_idx251_inb : ∀ (v10 : IVec S16 32) (k0_hw1 : k0_chk1 v10), ∀ a x, ((![v10] : Fin 1 → IVec S16 32) a x).toNat < S16.size a := fun v10 k0_hw1 => k0_hw1.2.2.2.2.2.2.2.1
theorem k0_idx252_inb : ∀ (v10 : IVec S16 32) (k0_hw1 : k0_chk1 v10), ∀ a x, ((![v10] : Fin 1 → IVec S16 32) a x).toNat < S16.size a := fun v10 k0_hw1 => k0_hw1.2.2.2.2.2.2.2.2.1
theorem k0_idx255_inb : ∀ (v10 : IVec S16 32) (k0_hw1 : k0_chk1 v10), ∀ a x, ((![v10] : Fin 1 → IVec S16 32) a x).toNat < S16.size a := fun v10 k0_hw1 => k0_hw1.2.2.2.2.2.2.2.2.2.1
theorem k0_idx258_inb : ∀ (v10 : IVec S16 32) (k0_hw1 : k0_chk1 v10), ∀ a x, ((![v10] : Fin 1 → IVec S16 32) a x).toNat < S16.size a := fun v10 k0_hw1 => k0_hw1.2.2.2.2.2.2.2.2.2.2.1
theorem k0_idx261_inb : ∀ (v10 : IVec S16 32) (k0_hw1 : k0_chk1 v10), ∀ a x, ((![v10] : Fin 1 → IVec S16 32) a x).toNat < S16.size a := fun v10 k0_hw1 => k0_hw1.2.2.2.2.2.2.2.2.2.2.2.1
theorem k0_idx262_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.1
theorem k0_idx265_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.1
theorem k0_idx268_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.1
theorem k0_idx271_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.1
theorem k0_idx272_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.1
theorem k0_idx275_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.1
theorem k0_idx278_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.1
theorem k0_idx281_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.1
theorem k0_idx282_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.1
theorem k0_idx285_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.1
theorem k0_idx288_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.1
theorem k0_idx291_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.1
theorem k0_idx292_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.1
theorem k0_idx295_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.1
theorem k0_idx298_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.1
theorem k0_idx301_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.1
theorem k0_idx302_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.1
theorem k0_idx305_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.1
theorem k0_idx308_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.2.1
theorem k0_idx311_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.2.2.1
theorem k0_idx312_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.2.2.2.1
theorem k0_idx315_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.2.2.2.2.1
theorem k0_idx318_inb : ∀ (v10 : IVec S16 32) (k0_hw1 : k0_chk1 v10), ∀ a x, ((![v10] : Fin 1 → IVec S16 32) a x).toNat < S16.size a := fun v10 k0_hw1 => k0_hw1.2.2.2.2.2.2.2.2.2.2.2.2.2.2.2.2.2.2.2.2.2.2.2.2.2.2.2.2.2.2.2.2.2.2

def k0_chk33 (v427 : IVec S16 32) : Prop :=
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a) ∧
  (∀ a x, ((![v427] : Fin 1 → IVec S16 32) a x).toNat < S8192.size a)
theorem k0_idx313_inb : ∀ (v427 : IVec S16 32) (k0_hw33 : k0_chk33 v427), ∀ a x, ((![v427] : Fin 1 → IVec S16 32) a x).toNat < S8192.size a := fun v427 k0_hw33 => k0_hw33.1
theorem k0_idx314_inb : ∀ (v427 : IVec S16 32) (k0_hw33 : k0_chk33 v427), ∀ a x, ((![v427] : Fin 1 → IVec S16 32) a x).toNat < S8192.size a := fun v427 k0_hw33 => k0_hw33.2.1
theorem k0_idx316_inb : ∀ (v427 : IVec S16 32) (k0_hw33 : k0_chk33 v427), ∀ a x, ((![v427] : Fin 1 → IVec S16 32) a x).toNat < S8192.size a := fun v427 k0_hw33 => k0_hw33.2.2.1
theorem k0_idx317_inb : ∀ (v427 : IVec S16 32) (k0_hw33 : k0_chk33 v427), ∀ a x, ((![v427] : Fin 1 → IVec S16 32) a x).toNat < S8192.size a := fun v427 k0_hw33 => k0_hw33.2.2.2.1
theorem k0_idx319_inb : ∀ (v427 : IVec S16 32) (k0_hw33 : k0_chk33 v427), ∀ a x, ((![v427] : Fin 1 → IVec S16 32) a x).toNat < S8192.size a := fun v427 k0_hw33 => k0_hw33.2.2.2.2.1
theorem k0_idx320_inb : ∀ (v427 : IVec S16 32) (k0_hw33 : k0_chk33 v427), ∀ a x, ((![v427] : Fin 1 → IVec S16 32) a x).toNat < S8192.size a := fun v427 k0_hw33 => k0_hw33.2.2.2.2.2
@[reducible] def k0_t12_loop : Scf.Loop 32 :=
  let c0_i32_74 : BitVec 32 := 0#32
  let c64_i32_75 : BitVec 32 := 64#32
  let v94 : BitVec 32 := Scalar.addi c0_i32_74 c64_i32_75
  let c1_i32_76 : BitVec 32 := 1#32
  ⟨c0_i32_74, v94, c1_i32_76⟩
def k0_off150 (k0_t12 : Fin k0_t12_loop.trips) (c0_i32_91 : BitVec 32) : Fin 1 → Nat :=
  let c0_i32_74 : BitVec 32 := 0#32
  let c1_i32_76 : BitVec 32 := 1#32
  let arg23 : BitVec 32 := Scf.iv c0_i32_74 c1_i32_76 k0_t12
  let c16_i32 : BitVec 32 := 16#32
  let v103 : BitVec 32 := Scalar.muli arg23 c16_i32
  let v104 : BitVec 32 := Scalar.addi c0_i32_91 v103
  let v105 : Index := Scalar.indexCast v104
  ![v105.toNat]
def k0_off151 (k0_t12 : Fin k0_t12_loop.trips) : Fin 1 → Nat :=
  let c0_i32_74 : BitVec 32 := 0#32
  let c1_i32_76 : BitVec 32 := 1#32
  let arg23 : BitVec 32 := Scf.iv c0_i32_74 c1_i32_76 k0_t12
  let c16_i32_132 : BitVec 32 := 16#32
  let v223 : BitVec 32 := Scalar.muli arg23 c16_i32_132
  let v224 : Index := Scalar.indexCast v223
  ![v224.toNat]
@[reducible] def k0_t13_loop : Scf.Loop 32 :=
  let c0_i32_80 : BitVec 32 := 0#32
  let c64_i32_81 : BitVec 32 := 64#32
  let v97 : BitVec 32 := Scalar.addi c0_i32_80 c64_i32_81
  let c1_i32_82 : BitVec 32 := 1#32
  ⟨c0_i32_80, v97, c1_i32_82⟩
def k0_off152 (k0_t13 : Fin k0_t13_loop.trips) (c0_i32_91 : BitVec 32) : Fin 1 → Nat :=
  let c0_i32_80 : BitVec 32 := 0#32
  let c1_i32_82 : BitVec 32 := 1#32
  let arg23 : BitVec 32 := Scf.iv c0_i32_80 c1_i32_82 k0_t13
  let c16_i32 : BitVec 32 := 16#32
  let v103 : BitVec 32 := Scalar.muli arg23 c16_i32
  let v104 : BitVec 32 := Scalar.addi c0_i32_91 v103
  let v105 : Index := Scalar.indexCast v104
  ![v105.toNat]
def k0_off153 (k0_t13 : Fin k0_t13_loop.trips) : Fin 1 → Nat :=
  let c0_i32_80 : BitVec 32 := 0#32
  let c1_i32_82 : BitVec 32 := 1#32
  let arg23 : BitVec 32 := Scf.iv c0_i32_80 c1_i32_82 k0_t13
  let c16_i32_132 : BitVec 32 := 16#32
  let v223 : BitVec 32 := Scalar.muli arg23 c16_i32_132
  let v224 : Index := Scalar.indexCast v223
  ![v224.toNat]
@[reducible] def k0_t14_loop : Scf.Loop 32 :=
  let c0_i32_86 : BitVec 32 := 0#32
  let c64_i32_87 : BitVec 32 := 64#32
  let v100 : BitVec 32 := Scalar.addi c0_i32_86 c64_i32_87
  let c1_i32_88 : BitVec 32 := 1#32
  ⟨c0_i32_86, v100, c1_i32_88⟩
def k0_off154 (k0_t14 : Fin k0_t14_loop.trips) (c0_i32_91 : BitVec 32) : Fin 1 → Nat :=
  let c0_i32_86 : BitVec 32 := 0#32
  let c1_i32_88 : BitVec 32 := 1#32
  let arg23 : BitVec 32 := Scf.iv c0_i32_86 c1_i32_88 k0_t14
  let c16_i32 : BitVec 32 := 16#32
  let v103 : BitVec 32 := Scalar.muli arg23 c16_i32
  let v104 : BitVec 32 := Scalar.addi c0_i32_91 v103
  let v105 : Index := Scalar.indexCast v104
  ![v105.toNat]
def k0_off155 (k0_t14 : Fin k0_t14_loop.trips) : Fin 1 → Nat :=
  let c0_i32_86 : BitVec 32 := 0#32
  let c1_i32_88 : BitVec 32 := 1#32
  let arg23 : BitVec 32 := Scf.iv c0_i32_86 c1_i32_88 k0_t14
  let c16_i32_132 : BitVec 32 := 16#32
  let v223 : BitVec 32 := Scalar.muli arg23 c16_i32_132
  let v224 : Index := Scalar.indexCast v223
  ![v224.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x96x512x512 : Shape := ⟨4, ![2, 96, 512, 512]⟩
abbrev S2x512x512 : Shape := ⟨3, ![2, 512, 512]⟩
abbrev S2x96x262144 : Shape := ⟨3, ![2, 96, 262144]⟩
abbrev S2x262144 : Shape := ⟨2, ![2, 262144]⟩
abbrev S2x1x262144 : Shape := ⟨3, ![2, 1, 262144]⟩
abbrev S1024 : Shape := ⟨1, ![1024]⟩
abbrev S1x1024x1 : Shape := ⟨3, ![1, 1024, 1]⟩
abbrev S2x1024x262144 : Shape := ⟨3, ![2, 1024, 262144]⟩
abbrev S2x1x1024x262144 : Shape := ⟨4, ![2, 1, 1024, 262144]⟩
abbrev S2x96x1x262144 : Shape := ⟨4, ![2, 96, 1, 262144]⟩
abbrev S_ : Shape := ⟨0, ![]⟩
abbrev S2x96x1024x262144 : Shape := ⟨4, ![2, 96, 1024, 262144]⟩
abbrev S2x96x1024 : Shape := ⟨3, ![2, 96, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x96x512x512, .f32⟩
  | .hbm, ⟨1, _⟩ => ⟨S2x512x512, .i32⟩
  | .hbm, ⟨2, _⟩ => ⟨S2x96x262144, .f32⟩
  | .hbm, ⟨3, _⟩ => ⟨S2x262144, .i32⟩
  | .hbm, ⟨4, _⟩ => ⟨S2x1x262144, .i32⟩
  | .hbm, ⟨5, _⟩ => ⟨S1024, .i32⟩
  | .hbm, ⟨6, _⟩ => ⟨S1x1024x1, .i32⟩
  | .hbm, ⟨7, _⟩ => ⟨S2x1024x262144, .i32⟩
  | .hbm, ⟨8, _⟩ => ⟨S2x1024x262144, .i32⟩
  | .hbm, ⟨9, _⟩ => ⟨S2x1024x262144, .i1⟩
  | .hbm, ⟨10, _⟩ => ⟨S2x1x1024x262144, .i1⟩
  | .hbm, ⟨11, _⟩ => ⟨S2x96x1x262144, .f32⟩
  | .hbm, ⟨12, _⟩ => ⟨S_, .f32⟩
  | .hbm, ⟨13, _⟩ => ⟨S_, .f32⟩
  | .hbm, ⟨14, _⟩ => ⟨S2x96x1024x262144, .i1⟩
  | .hbm, ⟨15, _⟩ => ⟨S2x96x1024x262144, .f32⟩
  | .hbm, ⟨16, _⟩ => ⟨S2x96x1024x262144, .f32⟩
  | .hbm, ⟨17, _⟩ => ⟨S2x96x1024x262144, .f32⟩
  | .hbm, ⟨18, _⟩ => ⟨S_, .f32⟩
  | .hbm, ⟨19, _⟩ => ⟨S2x96x1024, .f32⟩
  | _, _ => ⟨S2x96x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩

abbrev nD : Nat := 1
abbrev τ : Topo := Topo.v7x

variable {F : FTy → Type} [FloatOps F]
-- ==== Proof.Program.lean ====
/-
  The tile kernel written once more, by its structure: the six rows a tile owns are two passes over three planes; a pass
  clears nine accumulators, walks the sixty-four strips of one image two at a time (each strip's labels and its three
  planes fetched while the strip before is worked through), and folds the accumulators into three rows. The parts are
  written in continuation style, so that the printed function is this program by computation alone (`kernel_eq`); every
  later module reasons about the parts.
-/
module

public import proofs.«01_k».proof.Defs
public import proofs.«01_k».proof.Proof.Gen.KernelIdeal

@[expose] public section

set_option maxRecDepth 16384

noncomputable section

namespace Cert.Proof.Tile

open Cert.KernelIdeal Cert.KernelIdeal.Gen

open Idealize.ShloMosaic Idealize.SL.Sem

variable {F : FTy → Type} [FloatOps F]

/-- A program of a tile. -/
abbrev PG (F : FTy → Type) (c : Fin τ.nSC) (s : Fin τ.nSub) (β : Type) : Type 1 :=
  Prog (TpuEff nD τ sig (Elt F) Λ₀ (.scVector c s)) β

/-! ## The buffers -/

abbrev mImg : Memref sig .scVector .hbm S192x262144 .f32 := Memref.whole main_v0_scv
abbrev mLab : Memref sig .scVector .hbm S2x262144 .i32 := Memref.whole main_v1_scv
abbrev mOut : Memref sig .scVector .hbm S192x1024 .f32 := Memref.whole main_v2_scv
/-- The two slots of fetched labels, and of fetched planes. -/
abbrev mLv : Memref sig .scVector .vmem S2x4096 .i32 := Memref.whole cc0_scratch0
abbrev mDv : Memref sig .scVector .vmem S2x3x4096 .f32 := Memref.whole cc0_scratch1
/-- The nine accumulators: three of each plane. -/
abbrev mA0 : Memref sig .scVector .vmem S8192 .f32 := Memref.whole cc0_scratch2
abbrev mA1 : Memref sig .scVector .vmem S8192 .f32 := Memref.whole cc0_scratch3
abbrev mA2 : Memref sig .scVector .vmem S8192 .f32 := Memref.whole cc0_scratch4
abbrev mB0 : Memref sig .scVector .vmem S8192 .f32 := Memref.whole cc0_scratch5
abbrev mB1 : Memref sig .scVector .vmem S8192 .f32 := Memref.whole cc0_scratch6
abbrev mB2 : Memref sig .scVector .vmem S8192 .f32 := Memref.whole cc0_scratch7
abbrev mC0 : Memref sig .scVector .vmem S8192 .f32 := Memref.whole cc0_scratch8
abbrev mC1 : Memref sig .scVector .vmem S8192 .f32 := Memref.whole cc0_scratch9
abbrev mC2 : Memref sig .scVector .vmem S8192 .f32 := Memref.whole cc0_scratch10
/-- The row being folded, and the two registers' worth of scratch a vector is reversed through. -/
abbrev mRow : Memref sig .scVector .vmem S1024 .f32 := Memref.whole cc0_scratch11
abbrev mRi : Memref sig .scVector .vmem S16 .i32 := Memref.whole cc0_scratch12
abbrev mRf : Memref sig .scVector .vmem S16 .f32 := Memref.whole cc0_scratch13

/-! ## The lanes' constants -/

abbrev lanes : IVec S16 32 := iota .scVector S16 32 [0] iota_S16_d0_w32_scVector
/-- Lane `x`'s accumulator row, times its length: `1024 * min x (15 - x)`. -/
def laneOff : IVec S16 32 := muli (minsi lanes (subi (broadcast S16 15#32) lanes)) (broadcast S16 1024#32)
/-- The lanes in reverse. -/
def rlane : IVec S16 32 := subi (broadcast S16 15#32) lanes
/-- Sixteen negative infinities. -/
def negs : FVec F S16 .f32 := broadcast S16 (Scalar.ofBits .f32 0xFF800000#32)

theorem rlane_inb : ∀ a x, ((![rlane] : Fin 1 → IVec S16 32) a x).toNat < S16.size a := by
  unfold rlane; decide +kernel

theorem rlane_chk : k0_chk1 rlane := by
  unfold k0_chk1
  refine ⟨?_, ?_, ?_, ?_⟩ <;> repeat (first | exact rlane_inb | refine ⟨rlane_inb, ?_⟩)

/-! ## A group of sixteen pixels -/

/-- The group `g` of the span `t` starts at word `128 t + 16 g` of the slot. -/
abbrev spanIv (t : Fin k0_t3_loop.trips) : BitVec 32 := Scf.iv 0#32 1#32 t
def grpOff (t : Fin k0_t3_loop.trips) (g : ℕ) : BitVec 32 := Scalar.addi (Scalar.muli (spanIv t) 128#32) (BitVec.ofNat 32 (16 * g))

theorem grpOff_toNat (t : Fin k0_t3_loop.trips) {g : ℕ} (hg : g < 8) : (grpOff t g).toNat = 128 * t.val + 16 * g := by
  have ht : t.val < 32 := t.isLt
  have : ∀ t < 32, ∀ g < 8, (Scalar.addi (Scalar.muli (0#32 + BitVec.ofNat 32 t * 1#32) 128#32) (BitVec.ofNat 32 (16 * g))).toNat = 128 * t + 16 * g := by
    decide +kernel
  exact this t.val ht g hg

theorem labOff_inb {sl : ℕ} (hsl : sl < 2) (t : Fin k0_t3_loop.trips) {g : ℕ} (hg : g < 8) :
    ∀ a, (![sl, (grpOff t g).toNat] : Fin 2 → ℕ) a + S1x16.size a ≤ S2x4096.size a := by
  have ht : t.val < 32 := t.isLt
  rw [grpOff_toNat t hg, Fin.forall_fin_two]
  constructor
  · show sl + 1 ≤ 2; omega
  · show 128 * t.val + 16 * g + 16 ≤ 4096; omega

theorem dataOff_inb {sl p : ℕ} (hsl : sl < 2) (hp : p < 3) (t : Fin k0_t3_loop.trips) {g : ℕ} (hg : g < 8) :
    ∀ a, (![sl, p, (grpOff t g).toNat] : Fin 3 → ℕ) a + S1x1x16.size a ≤ S2x3x4096.size a := by
  have ht : t.val < 32 := t.isLt
  rw [grpOff_toNat t hg]
  intro a
  match a with
  | 0 => show sl + 1 ≤ 2; omega
  | 1 => show p + 1 ≤ 3; omega
  | 2 => show 128 * t.val + 16 * g + 16 ≤ 4096; omega

/-- The sixteen accumulator words the labels name. -/
abbrev InAcc (lk : IVec S16 32) : Prop := ∀ a x, ((![lk] : Fin 1 → IVec S16 32) a x).toNat < S8192.size a

variable {c : Fin τ.nSC} {s : Fin τ.nSub} {β : Type}

/-- A vector read back in the lanes' reverse order. -/
def revF (f : Vec F S16 .f32) : FVec F S16 .f32 := loadIdx (e := .f32) (t := S16) (s := S16) f ![rlane] rlane_inb
def revI (F : FTy → Type) (f : Vec F S16 .i32) : IVec S16 32 := loadIdx (F := F) (e := .i32) (t := S16) (s := S16) f ![rlane] rlane_inb
/-- The accumulator's words at the lanes' places. -/
def gath (f : Vec F S8192 .f32) (lk : IVec S16 32) (hlk : InAcc lk) : FVec F S16 .f32 := loadIdx (e := .f32) (t := S16) (s := S8192) f ![lk] hlk
/-- The accumulator with the lanes' words stored at the lanes' places. -/
def scat (f : Vec F S8192 .f32) (lk : IVec S16 32) (v : FVec F S16 .f32) (hlk : InAcc lk) : Vec F S8192 .f32 :=
  storeIdx (e := .f32) (s := S8192) f ![lk] v (fun _ => 1#1) false hlk

/-- The value the plane's sixteen words `v` raise their accumulator words to: a lane whose mirror lane has its label takes the
    larger of the two. -/
def paired (eq : IVec S16 1) (v : FVec F S16 .f32) : FVec F S16 .f32 :=
  select eq (maximumf v (revF v)) v

/-- One plane of a group: sixteen words of the plane raise the accumulator's words `lk`. -/
def planeK (lk : IVec S16 32) (eq : IVec S16 1) (hlk : InAcc lk) (off : Fin 3 → ℕ) (hoff : ∀ a, off a + S1x1x16.size a ≤ S2x3x4096.size a)
    (acc : Memref sig .scVector .vmem S8192 .f32) (k : PG F c s β) : PG F c s β :=
  .op (.load mDv (Rect.unit (s := S2x3x4096) off S1x1x16.size hoff).toLoadRect (View.loadsAt_vmem h_S1x1x16)) fun x =>
  .op (.load mRf (Rect.unit (s := S16) ![0] S16.size inb_S16_S16_0).toLoadRect (View.loadsAt_vmem h_S16)) fun _ =>
  .op (.store mRf (Rect.unit (s := S16) ![0] S16.size inb_S16_S16_0) (shapeCast S16 x shapeCasts_S1x1x16_S16) Finset.univ (View.stores_vmem_bits_univ h_S16 rfl) (.inl rfl)) fun _ =>
  .op (.load mRf (.whole S16) (View.loadsAt_whole (View.loads_vmem h_S16))) fun f =>
  .op (.load acc (.whole S8192) (View.loadsAt_whole (View.loads_vmem h_S8192))) fun a =>
  .op (.load acc (.whole S8192) (View.loadsAt_rect (View.stores_vmem_bits_univ h_S8192 rfl).loads)) fun b =>
  .op (.store acc (.whole S8192)
      (scat b lk (maximumf (gath a lk hlk)
        (select eq (maximumf (shapeCast S16 x shapeCasts_S1x1x16_S16) (revF f)) (shapeCast S16 x shapeCasts_S1x1x16_S16))) hlk)
      Finset.univ (View.stores_vmem_bits_univ h_S8192 rfl) (.inl rfl)) fun _ => k

/-- A group: its labels, then its three planes, each into an accumulator of its own. -/
def grpK {sl : ℕ} (hsl : sl < 2) (t : Fin k0_t3_loop.trips) (g : ℕ) (hg : g < 8)
    (a0 a1 a2 : Memref sig .scVector .vmem S8192 .f32) (k : PG F c s β) : PG F c s β :=
  .op (.load mLv (Rect.unit (s := S2x4096) ![sl, (grpOff t g).toNat] S1x16.size (labOff_inb hsl t hg)).toLoadRect (View.loadsAt_vmem h_S1x16)) fun y =>
  .op (.assume (k0_chk2 (addi laneOff (shapeCast S16 y shapeCasts_S1x16_S16))) (k0_chk2.dec _)) fun h =>
  .op (.load mRi (Rect.unit (s := S16) ![0] S16.size inb_S16_S16_0).toLoadRect (View.loadsAt_vmem h_S16)) fun _ =>
  .op (.store mRi (Rect.unit (s := S16) ![0] S16.size inb_S16_S16_0) (addi laneOff (shapeCast S16 y shapeCasts_S1x16_S16)) Finset.univ (View.stores_vmem_bits_univ h_S16 rfl) (.inl rfl)) fun _ =>
  .op (.load mRi (.whole S16) (View.loadsAt_whole (View.loads_vmem h_S16))) fun z =>
  planeK (addi laneOff (shapeCast S16 y shapeCasts_S1x16_S16)) (cmpi .eq (addi laneOff (shapeCast S16 y shapeCasts_S1x16_S16)) (revI F z)) h.down.1
    ![sl, 0, (grpOff t g).toNat] (dataOff_inb hsl (by decide) t hg) a0 <|
  planeK (addi laneOff (shapeCast S16 y shapeCasts_S1x16_S16)) (cmpi .eq (addi laneOff (shapeCast S16 y shapeCasts_S1x16_S16)) (revI F z)) h.down.1
    ![sl, 1, (grpOff t g).toNat] (dataOff_inb hsl (by decide) t hg) a1 <|
  planeK (addi laneOff (shapeCast S16 y shapeCasts_S1x16_S16)) (cmpi .eq (addi laneOff (shapeCast S16 y shapeCasts_S1x16_S16)) (revI F z)) h.down.1
    ![sl, 2, (grpOff t g).toNat] (dataOff_inb hsl (by decide) t hg) a2 k

/-- A span: eight groups, their accumulators in rotation. -/
def spanK {sl : ℕ} (hsl : sl < 2) (t : Fin k0_t3_loop.trips) : PG F c s (BitVec 32) :=
  grpK hsl t 0 (by decide) mA0 mB0 mC0 <| grpK hsl t 1 (by decide) mA1 mB1 mC1 <| grpK hsl t 2 (by decide) mA2 mB2 mC2 <|
  grpK hsl t 3 (by decide) mA0 mB0 mC0 <| grpK hsl t 4 (by decide) mA1 mB1 mC1 <| grpK hsl t 5 (by decide) mA2 mB2 mC2 <|
  grpK hsl t 6 (by decide) mA0 mB0 mC0 <| grpK hsl t 7 (by decide) mA1 mB1 mC1 <| .ret 0#32

/-- The spans of the strip in a slot. -/
def spansK {sl : ℕ} (hsl : sl < 2) : PG F c s (BitVec 32) :=
  Scf.Loop.for k0_t3_loop k0_t3_ok 0#32 fun t _ => spanK hsl t

/-! ## The fetches -/

theorem two_lt {n : ℕ} (h : n < 2) : n + 1 ≤ 2 := h

theorem labSrc_inb {b o : ℕ} (hb : b < 2) (ho : o + 4096 ≤ 262144) : ∀ a, (![b, o] : Fin 2 → ℕ) a + S1x4096.size a ≤ S2x262144.size a := by
  rw [Fin.forall_fin_two]; exact ⟨two_lt hb, ho⟩
theorem imgSrc_inb {p o : ℕ} (hp : p + 3 ≤ 192) (ho : o + 4096 ≤ 262144) : ∀ a, (![p, o] : Fin 2 → ℕ) a + S3x4096.size a ≤ S192x262144.size a := by
  rw [Fin.forall_fin_two]; exact ⟨hp, ho⟩
theorem labDst_inb {sl : ℕ} (hsl : sl < 2) : ∀ a, (![sl, 0] : Fin 2 → ℕ) a + S1x4096.size a ≤ S2x4096.size a := by
  rw [Fin.forall_fin_two]; exact ⟨two_lt hsl, le_refl _⟩
theorem imgDst_inb {sl : ℕ} (hsl : sl < 2) : ∀ a, (![sl, 0, 0] : Fin 3 → ℕ) a + S1x3x4096.size a ≤ S2x3x4096.size a := by
  intro a
  match a with
  | 0 => exact two_lt hsl
  | 1 => exact le_refl _
  | 2 => exact le_refl _
theorem outDst_inb {r : ℕ} (hr : r < 192) : ∀ a, (![r, 0] : Fin 2 → ℕ) a + S1x1024.size a ≤ S192x1024.size a := by
  rw [Fin.forall_fin_two]; exact ⟨hr, le_refl _⟩

/-- The labels of the strip at word `o` of image `b`; -/
abbrev labSrc (b o : ℕ) (hb : b < 2) (ho : o + 4096 ≤ 262144) : Memref sig .scVector .hbm S4096 .i32 :=
  (mLab.slice (Rect.unit (s := S2x262144) ![b, o] S1x4096.size (labSrc_inb hb ho)) (fun _ => rfl)).squeeze S4096 squeezes_S1x4096_S4096
/-- the three planes from plane `p` of that strip; -/
abbrev imgSrc (p o : ℕ) (hp : p + 3 ≤ 192) (ho : o + 4096 ≤ 262144) : Memref sig .scVector .hbm S3x4096 .f32 :=
  mImg.slice (Rect.unit (s := S192x262144) ![p, o] S3x4096.size (imgSrc_inb hp ho)) (fun _ => rfl)
/-- the slots they are fetched into. -/
abbrev labDst (sl : ℕ) (hsl : sl < 2) : Memref sig .scVector .vmem S4096 .i32 :=
  (mLv.slice (Rect.unit (s := S2x4096) ![sl, 0] S1x4096.size (labDst_inb hsl)) (fun _ => rfl)).squeeze S4096 squeezes_S1x4096_S4096
abbrev imgDst (sl : ℕ) (hsl : sl < 2) : Memref sig .scVector .vmem S3x4096 .f32 :=
  (mDv.slice (Rect.unit (s := S2x3x4096) ![sl, 0, 0] S1x3x4096.size (imgDst_inb hsl)) (fun _ => rfl)).squeeze S3x4096 squeezes_S1x3x4096_S3x4096
/-- A row of the result. -/
abbrev outDst (r : ℕ) (hr : r < 192) : Memref sig .scVector .hbm S1024 .f32 :=
  (mOut.slice (Rect.unit (s := S192x1024) ![r, 0] S1x1024.size (outDst_inb hr)) (fun _ => rfl)).squeeze S1024 squeezes_S1x1024_S1024

/-- Begin fetching a strip into a slot: its labels on one semaphore, its planes on another. -/
def fetchK {sl : ℕ} (hsl : sl < 2) (semL semI : DmaSem sig) (b p o : ℕ) (hb : b < 2) (hp : p + 3 ≤ 192) (ho : o + 4096 ≤ 262144)
    (k : PG F c s β) : PG F c s β :=
  .op (.enqueueDma (labSrc b o hb ho) (.here (labDst sl hsl)) (.dma semL) ((View.wordExact_bits rfl).reshape _ _) ((View.wordExact_bits rfl).reshape _ _) ⟨Or.inl rfl, trivial⟩) fun _ =>
  .op (.enqueueDma (imgSrc p o hp ho) (.here (imgDst sl hsl)) (.dma semI) (View.wordExact_bits rfl) ((View.wordExact_bits rfl).reshape _ _) ⟨Or.inl rfl, trivial⟩) fun _ => k

/-- Wait for both. -/
def arriveK {sl : ℕ} (hsl : sl < 2) (semL semI : DmaSem sig) (k : PG F c s β) : PG F c s β :=
  .op (.waitDma2 semL (labSrc 0 0 (by decide) (by decide)) (labDst sl hsl) ((View.wordExact_bits rfl).reshape _ _) ((View.wordExact_bits rfl).reshape _ _)) fun _ =>
  .op (.waitDma2 semI (imgSrc 0 0 (by decide) (by decide)) (imgDst sl hsl) (View.wordExact_bits rfl) ((View.wordExact_bits rfl).reshape _ _)) fun _ => k

abbrev semL0 : DmaSem sig := cc0_scratch14.sem
abbrev semL1 : DmaSem sig := cc0_scratch15.sem
abbrev semI0 : DmaSem sig := cc0_scratch16.sem
abbrev semI1 : DmaSem sig := cc0_scratch17.sem

/-- The strip `2 t + d` of the image starts at this word. -/
def stripOff (t : Fin k0_t2_loop.trips) (d : BitVec 32) : BitVec 32 := Scalar.muli (Scalar.addi (Scalar.muli (Scf.iv 0#32 1#32 t) 2#32) d) 4096#32

theorem stripOff_toNat (t : Fin k0_t2_loop.trips) {d : ℕ} (hd : d < 3) : (stripOff t (BitVec.ofNat 32 d)).toNat = 4096 * (2 * t.val + d) := by
  have ht : t.val < 32 := t.isLt
  have : ∀ t < 32, ∀ d < 3, (Scalar.muli (Scalar.addi (Scalar.muli (0#32 + BitVec.ofNat 32 t * 1#32) 2#32) (BitVec.ofNat 32 d)) 4096#32).toNat = 4096 * (2 * t + d) := by
    decide +kernel
  exact this t.val ht d hd

theorem cond_iff (t : Fin k0_t2_loop.trips) : k0_cond1 t = 1#1 ↔ t.val + 1 < 32 := by
  have : ∀ t : Fin k0_t2_loop.trips, k0_cond1 t = 1#1 ↔ t.val + 1 < 32 := by decide +kernel
  exact this t

theorem stripOff_one (t : Fin k0_t2_loop.trips) : (stripOff t 1#32).toNat + 4096 ≤ 262144 := by
  have ht : t.val < 32 := t.isLt
  have := stripOff_toNat t (d := 1) (by decide)
  change (stripOff t 1#32).toNat = _ at this
  omega
theorem stripOff_two (t : Fin k0_t2_loop.trips) (h : k0_cond1 t = 1#1) : (stripOff t 2#32).toNat + 4096 ≤ 262144 := by
  have ht := (cond_iff t).1 h
  have := stripOff_toNat t (d := 2) (by decide)
  change (stripOff t 2#32).toNat = _ at this
  omega

/-- The second strip of a pair: slot 1 is worked through. -/
def secondK : PG F c s (BitVec 32) :=
  arriveK (sl := 1) (by decide) semL1 semI1 <|
  spansK (sl := 1) (by decide) >>= fun _ => .ret 0#32

/-- Two strips: the next one fetched into slot 1 while slot 0's is worked through, then the one after into slot 0. -/
def pairK (b p : ℕ) (hb : b < 2) (hp : p + 3 ≤ 192) (t : Fin k0_t2_loop.trips) : PG F c s (BitVec 32) :=
  fetchK (sl := 1) (by decide) semL1 semI1 b p (stripOff t 1#32).toNat hb hp (stripOff_one t) <|
  arriveK (sl := 0) (by decide) semL0 semI0 <|
  spansK (sl := 0) (by decide) >>= fun _ =>
  if h : k0_cond1 t = 1#1 then fetchK (sl := 0) (by decide) semL0 semI0 b p (stripOff t 2#32).toNat hb hp (stripOff_two t h) secondK
  else secondK

/-- The strips of an image. -/
def pairsK (b p : ℕ) (hb : b < 2) (hp : p + 3 ≤ 192) : PG F c s (BitVec 32) :=
  Scf.Loop.for k0_t2_loop k0_t2_ok 0#32 fun t _ => pairK b p hb hp t

/-! ## Clearing the accumulators -/

theorem initOff_inb (t : Fin k0_t1_loop.trips) (r : Fin 4) : ∀ a, (k0_off1 t (BitVec.ofNat 32 (16 * r.val))) a + S16.size a ≤ S8192.size a :=
  k0_off1_inb t r

/-- Sixteen words of an accumulator cleared. -/
def clear1K (acc : Memref sig .scVector .vmem S8192 .f32) (t : Fin k0_t1_loop.trips) (r : Fin 4) (k : PG F c s β) : PG F c s β :=
  .op (.load acc (Rect.unit (s := S8192) (k0_off1 t (BitVec.ofNat 32 (16 * r.val))) S16.size (k0_off1_inb t r)).toLoadRect (View.loadsAt_vmem h_S16)) fun _ =>
  .op (.store acc (Rect.unit (s := S8192) (k0_off1 t (BitVec.ofNat 32 (16 * r.val))) S16.size (k0_off1_inb t r)) negs Finset.univ (View.stores_vmem_bits_univ h_S16 rfl) (.inl rfl)) fun _ => k

/-- Sixty-four words of it. -/
def clear4K (acc : Memref sig .scVector .vmem S8192 .f32) (t : Fin k0_t1_loop.trips) (k : PG F c s β) : PG F c s β :=
  clear1K acc t 0 <| clear1K acc t 1 <| clear1K acc t 2 <| clear1K acc t 3 k

def clearK (t : Fin k0_t1_loop.trips) : PG F c s (BitVec 32) :=
  clear4K mA0 t <| clear4K mA1 t <| clear4K mA2 t <| clear4K mB0 t <| clear4K mB1 t <| clear4K mB2 t <|
  clear4K mC0 t <| clear4K mC1 t <| clear4K mC2 t <| .ret 0#32

def clearsK : PG F c s (BitVec 32) := Scf.Loop.for k0_t1_loop k0_t1_ok 0#32 fun t _ => clearK t

/-! ## Folding the accumulators into a row -/

/-- Sixteen words of one accumulator row, folded in. -/
def fold1K (acc : Memref sig .scVector .vmem S8192 .f32) (t : Fin k0_t5_loop.trips) (r : Fin 8) (v : FVec F S16 .f32) (k : FVec F S16 .f32 → PG F c s β) : PG F c s β :=
  .op (.load acc (Rect.unit (s := S8192) (k0_off72 t (BitVec.ofNat 32 (1024 * r.val))) S16.size (k0_off72_inb t r)).toLoadRect (View.loadsAt_vmem h_S16)) fun (x : Vec F S16 .f32) => k (maximumf v x)

/-- Its eight rows. -/
def fold8K (acc : Memref sig .scVector .vmem S8192 .f32) (t : Fin k0_t5_loop.trips) (v : FVec F S16 .f32) (k : FVec F S16 .f32 → PG F c s β) : PG F c s β :=
  fold1K acc t 0 v fun v => fold1K acc t 1 v fun v => fold1K acc t 2 v fun v => fold1K acc t 3 v fun v =>
  fold1K acc t 4 v fun v => fold1K acc t 5 v fun v => fold1K acc t 6 v fun v => fold1K acc t 7 v k

/-- Sixteen words of the row from a plane's three accumulators. -/
def foldK (v₀ : FVec F S16 .f32) (a0 a1 a2 : Memref sig .scVector .vmem S8192 .f32) (t : Fin k0_t5_loop.trips) : PG F c s (BitVec 32) :=
  fold8K a0 t v₀ fun v => fold8K a1 t v fun v => fold8K a2 t v fun v =>
  .op (.load mRow (Rect.unit (s := S1024) (k0_off73 t) S16.size (k0_off73_inb t)).toLoadRect (View.loadsAt_vmem h_S16)) fun _ =>
  .op (.store mRow (Rect.unit (s := S1024) (k0_off73 t) S16.size (k0_off73_inb t)) v Finset.univ (View.stores_vmem_bits_univ h_S16 rfl) (.inl rfl)) fun _ =>
  .ret 0#32

/-- The whole row. -/
def foldsK (v₀ : FVec F S16 .f32) (a0 a1 a2 : Memref sig .scVector .vmem S8192 .f32) : PG F c s (BitVec 32) :=
  Scf.Loop.for k0_t5_loop k0_t5_ok 0#32 fun t _ => foldK v₀ a0 a1 a2 t

/-- Begin copying the row out to row `r` of the result. -/
def sendK (r : ℕ) (hr : r < 192) (sem : DmaSem sig) (k : PG F c s β) : PG F c s β :=
  .op (.enqueueDma mRow (.here (outDst r hr)) (.dma sem) (Memref.isWhole_whole _).wordExact ((View.wordExact_bits rfl).reshape _ _) ⟨Or.inl rfl, trivial⟩) fun _ => k

/-- Wait for it. -/
def sentK (r : ℕ) (hr : r < 192) (sem : DmaSem sig) (k : PG F c s β) : PG F c s β :=
  .op (.waitDma2 sem mRow (outDst r hr) (Memref.isWhole_whole _).wordExact ((View.wordExact_bits rfl).reshape _ _)) fun _ => k

/-- The row folded, and copied out. -/
def rowK (a0 a1 a2 : Memref sig .scVector .vmem S8192 .f32) (r : ℕ) (hr : r < 192) (sem : DmaSem sig) (k : PG F c s β) : PG F c s β :=
  foldsK negs a0 a1 a2 >>= fun _ => sendK r hr sem <| sentK r hr sem k

/-! ## A pass, and the kernel -/

/-- A pass over planes `p`, `p + 1`, `p + 2` of the flattened images, which lie in image `b`. -/
def passK (b p r0 r1 r2 : ℕ) (hb : b < 2) (hp : p + 3 ≤ 192) (h0 : r0 < 192) (h1 : r1 < 192) (h2 : r2 < 192) (s0 s1 s2 : DmaSem sig) (k : PG F c s β) : PG F c s β :=
  clearsK >>= fun _ =>
  fetchK (sl := 0) (by decide) semL0 semI0 b p 0 hb hp (by decide) <|
  pairsK b p hb hp >>= fun _ =>
  rowK mA0 mA1 mA2 r0 h0 s0 <| rowK mB0 mB1 mB2 r1 h1 s1 <| rowK mC0 mC1 mC2 r2 h2 s2 k

/-- The tile at `i`: its number, -/
abbrev wid (i : grid0.Coords) : BitVec 32 := Scalar.addi (Scalar.muli (BitVec.ofNat 32 (i 1).val) 2#32) (BitVec.ofNat 32 (i 0).val)
/-- the first plane of a pass, -/
def plane0 (i : grid0.Coords) (d : BitVec 32) : BitVec 32 := Scalar.addi (Scalar.muli (wid i) 6#32) d
/-- whether its sign is not ninety-six's, its quotient and remainder by it, -/
def signs (p : BitVec 32) : BitVec 1 :=
  Scalar.cmpi .ne
    (Scalar.subi (Scalar.extui (Scalar.cmpi .sgt p 0#32)) (Scalar.extui (Scalar.cmpi .slt p 0#32)))
    (Scalar.subi (Scalar.extui (Scalar.cmpi .sgt 96#32 0#32)) (Scalar.extui (Scalar.cmpi .slt 96#32 0#32)))
/-- and the image the plane lies in (the floor of its number over ninety-six, as the kernel computes it). -/
def batchOf (p : BitVec 32) : BitVec 32 :=
  Scalar.select (Scalar.andi (signs p) (Scalar.cmpi .ne (Scalar.remsi p 96#32) 0#32))
    (Scalar.subi (Scalar.divsi p 96#32) 1#32) (Scalar.divsi p 96#32)

/-- The tile's number. -/
def num (i : grid0.Coords) : ℕ := 2 * (i 1).val + (i 0).val

theorem num_lt (i : grid0.Coords) : num i < 32 := by
  have h0 : (i 0).val < 2 := (i 0).isLt
  have h1 : (i 1).val < 16 := (i 1).isLt
  unfold num; omega

theorem plane0_toNat (i : grid0.Coords) {d : ℕ} (hd : d < 4) : (plane0 i (BitVec.ofNat 32 d)).toNat = 6 * num i + d := by
  have : ∀ a < 2, ∀ b < 16, ∀ d < 4, (Scalar.addi (Scalar.muli (Scalar.addi (Scalar.muli (BitVec.ofNat 32 b) 2#32) (BitVec.ofNat 32 a)) 6#32) (BitVec.ofNat 32 d)).toNat
      = 6 * (2 * b + a) + d := by decide +kernel
  exact this (i 0).val (i 0).isLt (i 1).val (i 1).isLt d hd

theorem batchOf_toNat (i : grid0.Coords) {d : ℕ} (hd : d < 4) : (batchOf (plane0 i (BitVec.ofNat 32 d))).toNat = (6 * num i + d) / 96 := by
  have : ∀ a < 2, ∀ b < 16, ∀ d < 4, (batchOf (Scalar.addi (Scalar.muli (Scalar.addi (Scalar.muli (BitVec.ofNat 32 b) 2#32) (BitVec.ofNat 32 a)) 6#32) (BitVec.ofNat 32 d))).toNat
      = (6 * (2 * b + a) + d) / 96 := by unfold batchOf signs; decide +kernel
  exact this (i 0).val (i 0).isLt (i 1).val (i 1).isLt d hd

theorem outRow_toNat (i : grid0.Coords) {d r : ℕ} (hd : d < 4) (hr : r < 3) :
    (Scalar.addi (plane0 i (BitVec.ofNat 32 d)) (BitVec.ofNat 32 r)).toNat = 6 * num i + d + r := by
  have : ∀ a < 2, ∀ b < 16, ∀ d < 4, ∀ r < 3, (Scalar.addi (Scalar.addi (Scalar.muli (Scalar.addi (Scalar.muli (BitVec.ofNat 32 b) 2#32) (BitVec.ofNat 32 a)) 6#32) (BitVec.ofNat 32 d)) (BitVec.ofNat 32 r)).toNat
      = 6 * (2 * b + a) + d + r := by decide +kernel
  exact this (i 0).val (i 0).isLt (i 1).val (i 1).isLt d hd r hr

theorem batch_lt (i : grid0.Coords) {d : ℕ} (hd : d < 4) : (batchOf (plane0 i (BitVec.ofNat 32 d))).toNat < 2 := by
  have := num_lt i
  rw [batchOf_toNat i hd]; omega
theorem plane_le (i : grid0.Coords) {d : ℕ} (hd : d < 4) : (plane0 i (BitVec.ofNat 32 d)).toNat + 3 ≤ 192 := by
  have := num_lt i
  rw [plane0_toNat i hd]; omega
theorem outRow_lt (i : grid0.Coords) {d r : ℕ} (hd : d < 4) (hr : r < 3) : (Scalar.addi (plane0 i (BitVec.ofNat 32 d)) (BitVec.ofNat 32 r)).toNat < 192 := by
  have := num_lt i
  rw [outRow_toNat i hd hr]; omega

/-- The pass of tile `i` from its plane `d`. -/
def passAtK (i : grid0.Coords) (d : ℕ) (hd : d < 4) (s0 s1 s2 : DmaSem sig) (k : PG F c s β) : PG F c s β :=
  passK (batchOf (plane0 i (BitVec.ofNat 32 d))).toNat (plane0 i (BitVec.ofNat 32 d)).toNat
    (Scalar.addi (plane0 i (BitVec.ofNat 32 d)) (BitVec.ofNat 32 0)).toNat (Scalar.addi (plane0 i (BitVec.ofNat 32 d)) (BitVec.ofNat 32 1)).toNat
    (Scalar.addi (plane0 i (BitVec.ofNat 32 d)) (BitVec.ofNat 32 2)).toNat
    (batch_lt i hd) (plane_le i hd) (outRow_lt i hd (by decide)) (outRow_lt i hd (by decide)) (outRow_lt i hd (by decide)) s0 s1 s2 k

/-- The kernel of tile `i`. -/
def kernelK (i : grid0.Coords) : PG F c s PUnit :=
  .op (.assume (k0_chk1 rlane) (k0_chk1.dec _)) fun _ =>
  passAtK i 0 (by decide) cc0_scoped0.sem cc0_scoped1.sem cc0_scoped2.sem <|
  passAtK i 3 (by decide) cc0_scoped3.sem cc0_scoped4.sem cc0_scoped5.sem <| .ret PUnit.unit

/-! The printed function's cuts, by computation. -/

theorem part53_eq (i : grid0.Coords) : k0_part53 (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5
    = .op (.assume (k0_chk1 rlane) (k0_chk1.dec _)) fun h => clearsK >>= fun _ => .ret ⟨wid i, laneOff, negs, rlane, h.down, plane0 i (BitVec.ofNat 32 0)⟩ := by
  rfl

theorem part54_eq (i : grid0.Coords) (hw : k0_chk1 rlane) : k0_part54 (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 laneOff negs rlane hw (plane0 i (BitVec.ofNat 32 0))
    = (fetchK (sl := 0) (by decide) semL0 semI0 _ _ 0 (batch_lt i (d := 0) (by decide)) (plane_le i (d := 0) (by decide)) (by decide) <| pairsK _ _ (batch_lt i (d := 0) (by decide)) (plane_le i (d := 0) (by decide)) >>= fun _ => foldsK negs mA0 mA1 mA2 >>= fun _ => sendK _ (outRow_lt i (d := 0) (r := 0) (by decide) (by decide)) cc0_scoped0.sem <| sentK _ (outRow_lt i (d := 0) (r := 0) (by decide) (by decide)) cc0_scoped0.sem <| foldsK negs mB0 mB1 mB2 >>= fun _ => .ret 1#32) := by
  rfl

theorem part55_eq (i : grid0.Coords) : k0_part55 (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 (wid i) negs (plane0 i (BitVec.ofNat 32 0)) 1#32
    = ((sendK _ (outRow_lt i (d := 0) (r := 1) (by decide) (by decide)) cc0_scoped1.sem <| sentK _ (outRow_lt i (d := 0) (r := 1) (by decide) (by decide)) cc0_scoped1.sem <| foldsK negs mC0 mC1 mC2 >>= fun _ => sendK _ (outRow_lt i (d := 0) (r := 2) (by decide) (by decide)) cc0_scoped2.sem <| sentK _ (outRow_lt i (d := 0) (r := 2) (by decide) (by decide)) cc0_scoped2.sem <| .ret ⟨plane0 i (BitVec.ofNat 32 3), Scalar.divsi (plane0 i (BitVec.ofNat 32 3)) 96#32, signs (plane0 i (BitVec.ofNat 32 3)), Scalar.remsi (plane0 i (BitVec.ofNat 32 3)) 96#32⟩) : PG F _ _ _)
    := by
  rfl

theorem part56_eq (i : grid0.Coords) (hw : k0_chk1 rlane) : k0_part56 (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 laneOff negs rlane hw (plane0 i (BitVec.ofNat 32 3)) (Scalar.divsi (plane0 i (BitVec.ofNat 32 3)) 96#32)
      (signs (plane0 i (BitVec.ofNat 32 3))) (Scalar.remsi (plane0 i (BitVec.ofNat 32 3)) 96#32)
    = (clearsK >>= fun _ => fetchK (sl := 0) (by decide) semL0 semI0 _ _ 0 (batch_lt i (d := 3) (by decide)) (plane_le i (d := 3) (by decide)) (by decide) <| pairsK _ _ (batch_lt i (d := 3) (by decide)) (plane_le i (d := 3) (by decide)) >>= fun _ => foldsK negs mA0 mA1 mA2 >>= fun _ => .ret PUnit.unit) := by
  rfl

theorem cuts_eq (i : grid0.Coords) : cc0_k (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5
    = (k0_part53 i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 >>= fun x => k0_part54 i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 x.2.1 x.2.2.1 x.2.2.2.1 x.2.2.2.2.1 x.2.2.2.2.2 >>= fun w =>
        k0_part55 i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 x.1 x.2.2.1 x.2.2.2.2.2 w >>= fun y => k0_part56 i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 x.2.1 x.2.2.1 x.2.2.2.1 x.2.2.2.2.1 y.1 y.2.1 y.2.2.1 y.2.2.2 >>= fun _ =>
        sendK _ (outRow_lt i (d := 3) (r := 0) (by decide) (by decide)) cc0_scoped3.sem <| sentK _ (outRow_lt i (d := 3) (r := 0) (by decide) (by decide)) cc0_scoped3.sem <| foldsK x.2.2.1 mB0 mB1 mB2 >>= fun _ => sendK _ (outRow_lt i (d := 3) (r := 1) (by decide) (by decide)) cc0_scoped4.sem <| sentK _ (outRow_lt i (d := 3) (r := 1) (by decide) (by decide)) cc0_scoped4.sem <| foldsK x.2.2.1 mC0 mC1 mC2 >>= fun _ => sendK _ (outRow_lt i (d := 3) (r := 2) (by decide) (by decide)) cc0_scoped5.sem <| .ret PUnit.unit)
      >>= fun _ => sentK _ (outRow_lt i (d := 3) (r := 2) (by decide) (by decide)) cc0_scoped5.sem <| .ret PUnit.unit := by
  rfl

/-- Two ends of a sequence the parts end in. -/
theorem fetchK_bind {γ : Type} {sl : ℕ} (hsl : sl < 2) (semL semI : DmaSem sig) (b p o : ℕ) (hb : b < 2) (hp : p + 3 ≤ 192) (ho : o + 4096 ≤ 262144)
    (k : PG F c s β) (f : β → PG F c s γ) : fetchK hsl semL semI b p o hb hp ho k >>= f = fetchK hsl semL semI b p o hb hp ho (k >>= f) := rfl
theorem sendK_bind {γ : Type} (r : ℕ) (hr : r < 192) (sem : DmaSem sig) (k : PG F c s β) (f : β → PG F c s γ) :
    sendK r hr sem k >>= f = sendK r hr sem (k >>= f) := rfl
theorem sentK_bind {γ : Type} (r : ℕ) (hr : r < 192) (sem : DmaSem sig) (k : PG F c s β) (f : β → PG F c s γ) :
    sentK r hr sem k >>= f = sentK r hr sem (k >>= f) := rfl

/-- The printed function is this program. -/
theorem kernel_eq (i : grid0.Coords) : cc0_k (F := F) i mImg (Memref.isWhole_whole _) mLab (Memref.isWhole_whole _) mOut (Memref.isWhole_whole _) mLv (Memref.isWhole_whole _) mDv (Memref.isWhole_whole _)
      mA0 (Memref.isWhole_whole _) mA1 (Memref.isWhole_whole _) mA2 (Memref.isWhole_whole _) mB0 (Memref.isWhole_whole _) mB1 (Memref.isWhole_whole _) mB2 (Memref.isWhole_whole _) mC0 (Memref.isWhole_whole _) mC1 (Memref.isWhole_whole _) mC2 (Memref.isWhole_whole _)
      mRow (Memref.isWhole_whole _) mRi (Memref.isWhole_whole _) mRf (Memref.isWhole_whole _)
      cc0_scratch14 cc0_scratch15 cc0_scratch16 cc0_scratch17 cc0_scoped0 cc0_scoped1 cc0_scoped2 cc0_scoped3 cc0_scoped4 cc0_scoped5 = kernelK i := by
  rw [cuts_eq, part53_eq]
  simp only [Prog.bind_op, Prog.bind_ret, bind_assoc, fetchK_bind, sendK_bind, sentK_bind, part54_eq, part55_eq, part56_eq]
  rfl

end Cert.Proof.Tile
-- ==== Proof.Rules.lean ====
/-
  The rules a tile's run is made of, over memrefs owned at the vector they read as (`owns`): a load reads the vector at the
  rectangle's places, a store puts its payload over the rectangle's places, a fetch takes a share of the array fetched from
  and the slot fetched into and gives them back, the slot at the strip, when it is waited for.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Memref
public import Idealize.ShloMosaic.Lib.Transfers
public import Idealize.ShloMosaic.Lib.Pointwise.Index
public import proofs.«01_k».proof.Proof.Program

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the handshakes' rounds beside the transfers' counters. -/
abbrev UH : Type := URounds (GSem nD τ sig) ℕ
abbrev UU : Type := UH × Counters

local notation "𝕄" => MT nD τ sig (HIx 1) (Elt F) ℕ UU ℕ

abbrev 𝒱₀ : Variants := Variants.none

variable {d : Dev nD} {c : Fin τ.nSC} {s : Fin τ.nSub} {β : Type}

variable {Q : β → sProp (MT nD τ sig (HIx 1) (Elt F) ℕ UU ℕ)}

/-- A tile's run of a program. -/
abbrev Run (d : Dev nD) {c : Fin τ.nSC} {s : Fin τ.nSub} (p : PG F c s β) (Q : β → sProp 𝕄) : sProp 𝕄 :=
  wp frame (wpE (defs₀ (F := F)) 𝒱₀ (V d c s) none) Set.univ p Q

/-- What a tile owns of one of its memrefs, whole. -/
abbrev Own (d : Dev nD) (c : Fin τ.nSC) (s : Fin τ.nSub) {sp : Space} {sh : Shape} {e : EltTy} (m : Memref sig .scVector sp sh e) (X : sh.Idx → Elt F e) : sProp 𝕄 :=
  owns (V d c s) m fullShare X

/-! ## Loads and stores -/

theorem own_load {cs : CoreSpace} {sh : Shape} {e : EltTy} {m : Memref sig .scVector cs sh e} {r : LoadRect sh} {hl : m.view.LoadsAt r}
    {k : (r.shape.Idx → Elt F e) → PG F c s β} {X : sh.Idx → Elt F e} :
    Own d c s m X ⊢ iprop((Own d c s m X -∗ Run d (k fun x => X (r.idx x)) Q) -∗ Run d (.op (.load m r hl) k) Q) := by
  unfold Own owns
  iintro ⟨%f, %hf, H⟩ Hk
  subst hf
  iapply (wp_load 𝒱₀ (V d c s) none Set.univ (m := m) (hl := hl) (View.setOn_subset_set _ _)) $$ H
  iintro H
  iapply Hk
  iexists f
  isplitr; · ipureintro; rfl
  iexact H

/-- A store through a rectangle leaves any vector that is the payload on the rectangle and the old one off it. -/
theorem own_store {cs : CoreSpace} {sh : Shape} {e : EltTy} {m : Memref sig .scVector cs sh e} {r : Rect sh} {w : r.shape.Idx → Elt F e}
    {hx : (m.access r).Stores Finset.univ} {hm : Finset.univ = Finset.univ ∨ ∀ a, r.stride a = 1} {k : PUnit → PG F c s β} {X : sh.Idx → Elt F e} (Y : sh.Idx → Elt F e)
    (hin : ∀ x, Y (r.emb x) = w x) (hout : ∀ j, j ∉ r.set → Y j = X j) :
    Own d c s m X ⊢ iprop((Own d c s m Y -∗ Run d (k ⟨⟩) Q) -∗ Run d (.op (.store m r w Finset.univ hx hm) k) Q) := by
  unfold Own owns
  iintro ⟨%f, %hf, H⟩ Hk
  subst hf
  iapply (wp_store 𝒱₀ (V d c s) none Set.univ (m := m) (r := r) (hx := hx) (hm := hm) (S := m.view.set) (View.set_slice_subset _ _)) $$ H
  iintro H
  iapply Hk
  iexists (m.access r).write (Elt F) f w Finset.univ
  isplitr
  · ipureintro
    funext j
    by_cases hj : j ∈ r.set
    · obtain ⟨x, rfl⟩ : ∃ x, r.emb x = j := by
        rw [← Rect.map_emb_univ] at hj
        obtain ⟨x, -, hx⟩ := Finset.mem_map.mp hj
        exact ⟨x, hx⟩
      rw [View.read_slice_write_emb (v := m.view) r f w (Finset.mem_univ x), hin]
    · rw [View.read_slice_write_of_not_mem (v := m.view) r f w Finset.univ (by rwa [Rect.map_emb_univ]), hout j hj]
  · iexact H

theorem whole_emb {sh : Shape} (x : sh.Idx) : (Rect.whole sh).emb x = x := by
  funext a; apply Fin.ext; rw [Rect.emb_apply]; show 0 + 1 * (x a).val = _; omega

theorem own_load_whole {cs : CoreSpace} {sh : Shape} {e : EltTy} {m : Memref sig .scVector cs sh e} {hl : m.view.LoadsAt (.whole sh)}
    {k : (sh.Idx → Elt F e) → PG F c s β} {X : sh.Idx → Elt F e} :
    Own d c s m X ⊢ iprop((Own d c s m X -∗ Run d (k X) Q) -∗ Run d (.op (.load m (.whole sh) hl) k) Q) := by
  have h := own_load (d := d) (c := c) (s := s) (Q := Q) (m := m) (r := .whole sh) (hl := hl) (k := k) (X := X)
  rwa [show (fun x => X ((LoadRect.whole sh).idx x)) = X from funext fun x => congrArg X (whole_emb x)] at h

theorem own_store_whole {cs : CoreSpace} {sh : Shape} {e : EltTy} {m : Memref sig .scVector cs sh e} {w : sh.Idx → Elt F e}
    {hx : (m.access (.whole sh)).Stores Finset.univ} {hm : Finset.univ = Finset.univ ∨ ∀ a, (Rect.whole sh).stride a = 1} {k : PUnit → PG F c s β} {X : sh.Idx → Elt F e} :
    Own d c s m X ⊢ iprop((Own d c s m w -∗ Run d (k ⟨⟩) Q) -∗ Run d (.op (.store m (.whole sh) w Finset.univ hx hm) k) Q) :=
  own_store w (fun x => congrArg w (whole_emb x)) fun j hj => absurd (by
    rw [← Rect.map_emb_univ]; exact Finset.mem_map.mpr ⟨j, Finset.mem_univ _, whole_emb j⟩) hj

theorem run_assume {P : Prop} {dd : Decidable P} {k : PLift P → PG F c s β} (h : P) : Run d (k ⟨h⟩) Q ⊢ Run d (.op (.assume P dd) k) Q :=
  wp_assume 𝒱₀ (V d c s) none Set.univ h

/-! ## The slots -/

/-- Sixteen consecutive words. -/
def w16 {α : Type} (G : ℕ → α) (n : ℕ) : S16.Idx → α := fun x => G (n + (x 0).val)

theorem labDst_emb {sl : ℕ} (hsl : sl < 2) (j : S4096.Idx) : (labDst sl hsl).view.emb j = (ix2 ⟨sl, hsl⟩ (j 0) : S2x4096.Idx) := by
  have e : Shape.reshapeEquiv squeezes_S1x4096_S4096.numel_eq j = (ix2 ⟨0, Nat.one_pos⟩ (j 0) : S1x4096.Idx) :=
    Shape.reshapeEquiv_eq_of_rowMajor _ (by
      rw [Shape.rowMajor_val_two, Shape.rowMajor_val_one]
      show 0 * 4096 + (j 0).val = (j 0).val
      omega)
  show (Rect.unit (s := S2x4096) ![sl, 0] S1x4096.size (labDst_inb hsl)).emb (Shape.reshapeEquiv squeezes_S1x4096_S4096.numel_eq j) = _
  rw [e]
  funext a; apply Fin.ext; rw [Rect.emb_apply]
  match a with
  | 0 => show sl + 1 * 0 = sl; omega
  | 1 => show 0 + 1 * (j 0).val = (j 0).val; omega

theorem imgDst_emb {sl : ℕ} (hsl : sl < 2) (j : S3x4096.Idx) : (imgDst sl hsl).view.emb j = (ix3 ⟨sl, hsl⟩ (j 0) (j 1) : S2x3x4096.Idx) := by
  have e : Shape.reshapeEquiv squeezes_S1x3x4096_S3x4096.numel_eq j = (ix3 ⟨0, Nat.one_pos⟩ (j 0) (j 1) : S1x3x4096.Idx) :=
    Shape.reshapeEquiv_eq_of_rowMajor _ (by
      rw [Shape.rowMajor_val_three, Shape.rowMajor_val_two]
      show (0 * 3 + (j 0).val) * 4096 + (j 1).val = (j 0).val * 4096 + (j 1).val
      omega)
  show (Rect.unit (s := S2x3x4096) ![sl, 0, 0] S1x3x4096.size (imgDst_inb hsl)).emb (Shape.reshapeEquiv squeezes_S1x3x4096_S3x4096.numel_eq j) = _
  rw [e]
  funext a; apply Fin.ext; rw [Rect.emb_apply]
  match a with
  | 0 => show sl + 1 * 0 = sl; omega
  | 1 => show 0 + 1 * (j 0).val = (j 0).val; omega
  | 2 => show 0 + 1 * (j 1).val = (j 1).val; omega

/-- A slot of labels, of planes, holding these words. -/
abbrev SlotL (d : Dev nD) (c : Fin τ.nSC) (s : Fin τ.nSub) (sl : ℕ) (hsl : sl < 2) (G : ℕ → BitVec 32) : sProp 𝕄 :=
  Own (F := F) d c s (labDst sl hsl) (fun j => G (j 0).val)
abbrev SlotI (d : Dev nD) (c : Fin τ.nSC) (s : Fin τ.nSub) (sl : ℕ) (hsl : sl < 2) (G : Fin 3 → ℕ → F .f32) : sProp 𝕄 :=
  Own (F := F) d c s (imgDst sl hsl) (fun j => G (j 0) (j 1).val)

theorem cast_1x16 {α : Type} (G : ℕ → α) (o : ℕ) :
    shapeCast S16 (fun x : S1x16.Idx => G (o + (x 1).val)) shapeCasts_S1x16_S16 = w16 G o := by
  funext j
  have e : Shape.reshapeEquiv shapeCasts_S1x16_S16 j = (ix2 ⟨0, Nat.one_pos⟩ (j 0) : S1x16.Idx) :=
    Shape.reshapeEquiv_eq_of_rowMajor _ (by
      rw [Shape.rowMajor_val_two, Shape.rowMajor_val_one]
      show 0 * 16 + (j 0).val = (j 0).val
      omega)
  show (fun x : S1x16.Idx => G (o + (x 1).val)) (Shape.reshapeEquiv shapeCasts_S1x16_S16 j) = _
  rw [e]; rfl

theorem cast_1x1x16 {α : Type} (G : ℕ → α) (o : ℕ) :
    shapeCast S16 (fun x : S1x1x16.Idx => G (o + (x 2).val)) shapeCasts_S1x1x16_S16 = w16 G o := by
  funext j
  have e : Shape.reshapeEquiv shapeCasts_S1x1x16_S16 j = (ix3 ⟨0, Nat.one_pos⟩ ⟨0, Nat.one_pos⟩ (j 0) : S1x1x16.Idx) :=
    Shape.reshapeEquiv_eq_of_rowMajor _ (by
      rw [Shape.rowMajor_val_three, Shape.rowMajor_val_one]
      show (0 * 1 + 0) * 16 + (j 0).val = (j 0).val
      omega)
  show (fun x : S1x1x16.Idx => G (o + (x 2).val)) (Shape.reshapeEquiv shapeCasts_S1x1x16_S16 j) = _
  rw [e]; rfl

theorem slotL_load {sl o : ℕ} {hsl : sl < 2} {G : ℕ → BitVec 32} {inb : ∀ a, (![sl, o] : Fin 2 → ℕ) a + S1x16.size a ≤ S2x4096.size a}
    {hl : (mLv).view.LoadsAt (Rect.unit (s := S2x4096) ![sl, o] S1x16.size inb).toLoadRect} {k : (S1x16.Idx → BitVec 32) → PG F c s β} :
    SlotL (F := F) d c s sl hsl G ⊢ iprop((SlotL (F := F) d c s sl hsl G -∗ Run d (k fun x => G (o + (x 1).val)) Q)
      -∗ Run d (.op (.load mLv (Rect.unit (s := S2x4096) ![sl, o] S1x16.size inb).toLoadRect hl) k) Q) := by
  unfold SlotL Own owns
  iintro ⟨%f, %hf, H⟩ Hk
  have ho : o + 16 ≤ 4096 := inb 1
  have key : ∀ x : S1x16.Idx, (Rect.unit (s := S2x4096) ![sl, o] S1x16.size inb).toLoadRect.idx x
      = (labDst sl hsl).view.emb (ix1 (n0 := 4096) ⟨o + (x 1).val, by have : (x 1).val < 16 := (x 1).isLt; omega⟩) := fun x => by
    rw [labDst_emb]
    funext a; apply Fin.ext; rw [LoadRect.idx_apply]
    match a with
    | 0 =>
      have : (x 0).val < 1 := (x 0).isLt
      show sl + 1 * (x 0).val = sl; omega
    | 1 => show o + 1 * (x 1).val = o + (x 1).val; omega
  iapply (wp_load 𝒱₀ (V d c s) none Set.univ (m := mLv) (hl := hl) (S := (labDst sl hsl).view.set) (by
    intro i hi
    obtain ⟨j, hj, rfl⟩ := Finset.mem_map.mp hi
    obtain ⟨x, rfl⟩ := LoadRect.exists_idx_of_mem _ hj
    exact key x ▸ View.emb_mem_set _ _)) $$ H
  iintro H
  have e : (mLv).view.readAt (Elt F) (Rect.unit (s := S2x4096) ![sl, o] S1x16.size inb).toLoadRect f = fun x => G (o + (x 1).val) := by
    funext x
    have := congrFun hf (ix1 (n0 := 4096) ⟨o + (x 1).val, by have : (x 1).val < 16 := (x 1).isLt; omega⟩)
    refine Eq.trans ?_ this
    exact congrArg f (key x)
  rw [e]
  iapply Hk
  iexists f
  isplitr; · ipureintro; exact hf
  iexact H

theorem slotI_load {sl p o : ℕ} {hsl : sl < 2} {hp : p < 3} {G : Fin 3 → ℕ → F .f32} {inb : ∀ a, (![sl, p, o] : Fin 3 → ℕ) a + S1x1x16.size a ≤ S2x3x4096.size a}
    {hl : (mDv).view.LoadsAt (Rect.unit (s := S2x3x4096) ![sl, p, o] S1x1x16.size inb).toLoadRect} {k : (S1x1x16.Idx → F .f32) → PG F c s β} :
    SlotI (F := F) d c s sl hsl G ⊢ iprop((SlotI (F := F) d c s sl hsl G -∗ Run d (k fun x => G ⟨p, hp⟩ (o + (x 2).val)) Q)
      -∗ Run d (.op (.load mDv (Rect.unit (s := S2x3x4096) ![sl, p, o] S1x1x16.size inb).toLoadRect hl) k) Q) := by
  unfold SlotI Own owns
  iintro ⟨%f, %hf, H⟩ Hk
  have ho : o + 16 ≤ 4096 := inb 2
  have key : ∀ x : S1x1x16.Idx, (Rect.unit (s := S2x3x4096) ![sl, p, o] S1x1x16.size inb).toLoadRect.idx x
      = (imgDst sl hsl).view.emb (ix2 (n0 := 3) (n1 := 4096) ⟨p, hp⟩ ⟨o + (x 2).val, by have : (x 2).val < 16 := (x 2).isLt; omega⟩) := fun x => by
    rw [imgDst_emb]
    funext a; apply Fin.ext; rw [LoadRect.idx_apply]
    match a with
    | 0 =>
      have : (x 0).val < 1 := (x 0).isLt
      show sl + 1 * (x 0).val = sl; omega
    | 1 =>
      have : (x 1).val < 1 := (x 1).isLt
      show p + 1 * (x 1).val = p; omega
    | 2 => show o + 1 * (x 2).val = o + (x 2).val; omega
  iapply (wp_load 𝒱₀ (V d c s) none Set.univ (m := mDv) (hl := hl) (S := (imgDst sl hsl).view.set) (by
    intro i hi
    obtain ⟨j, hj, rfl⟩ := Finset.mem_map.mp hi
    obtain ⟨x, rfl⟩ := LoadRect.exists_idx_of_mem _ hj
    exact key x ▸ View.emb_mem_set _ _)) $$ H
  iintro H
  have e : (mDv).view.readAt (Elt F) (Rect.unit (s := S2x3x4096) ![sl, p, o] S1x1x16.size inb).toLoadRect f = fun x => G ⟨p, hp⟩ (o + (x 2).val) := by
    funext x
    have := congrFun hf (ix2 (n0 := 3) (n1 := 4096) ⟨p, hp⟩ ⟨o + (x 2).val, by have : (x 2).val < 16 := (x 2).isLt; omega⟩)
    refine Eq.trans ?_ this
    exact congrArg f (key x)
  rw [e]
  iapply Hk
  iexists f
  isplitr; · ipureintro; exact hf
  iexact H

end Cert.Proof.Tile
-- ==== Proof.Group.lean ====
/-
  A group of sixteen pixels, run: each of the three planes' sixteen words raise the accumulator the group takes. What the
  accumulators hold after any number of groups is `acc`, a function of the image's labels and planes.
-/
module

public import proofs.«01_k».proof.Proof.Rules

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## What the accumulators hold -/

/-- The lanes' places for sixteen labels: lane `x`'s accumulator row, at its label. -/
def places (l : IVec S16 32) : IVec S16 32 := addi laneOff l

/-- An accumulator raised by sixteen words under sixteen labels. -/
def raise (l : IVec S16 32) (v : FVec F S16 .f32) (a : Vec F S8192 .f32) (h : InAcc (places l)) : Vec F S8192 .f32 :=
  scat a (places l) (maximumf (gath a (places l) h) (paired (cmpi .eq (places l) (revI F (places l))) v)) h

open Classical in
/-- After `n` groups, what plane `p`'s accumulator `a` holds: group `n` raises the accumulator `n % 8 % 3`. -/
def acc (L : ℕ → BitVec 32) (G : Fin 3 → ℕ → F .f32) : ℕ → Fin 3 → ℕ → Vec F S8192 .f32
  | 0, _, _ => fun _ => Scalar.ofBits .f32 0xFF800000#32
  | n + 1, p, a => if h : a = n % 8 % 3 ∧ InAcc (places (w16 L (16 * n))) then raise (w16 L (16 * n)) (w16 (G p) (16 * n)) (acc L G n p a) h.2 else acc L G n p a

/-- The labels are segment numbers. -/
def Labels (L : ℕ → BitVec 32) : Prop := ∀ n, (L n).toNat < 1024

theorem laneOff_le (x : S16.Idx) : (laneOff x).toNat ≤ 7168 := by
  have : ∀ x : S16.Idx, (laneOff x).toNat ≤ 7168 := by unfold laneOff; decide +kernel
  exact this x

theorem places_toNat {L : ℕ → BitVec 32} (hL : Labels L) (n : ℕ) (x : S16.Idx) :
    (places (w16 L n) x).toNat = (laneOff x).toNat + (L (n + (x 0).val)).toNat := by
  show (laneOff x + L (n + (x 0).val)).toNat = _
  have h1 := laneOff_le x
  have h2 := hL (n + (x 0).val)
  rw [BitVec.toNat_add]; omega

theorem inAcc_of {L : ℕ → BitVec 32} (hL : Labels L) (n : ℕ) : InAcc (places (w16 L n)) := by
  intro a x
  obtain rfl : a = 0 := Subsingleton.elim _ _
  show (places (w16 L n) x).toNat < 8192
  rw [places_toNat hL]
  have h1 := laneOff_le x
  have h2 := hL (n + (x 0).val)
  omega

theorem chk_of {L : ℕ → BitVec 32} (hL : Labels L) (n : ℕ) : k0_chk2 (addi laneOff (w16 L n)) := by
  have h : InAcc (places (w16 L n)) := inAcc_of hL n
  unfold k0_chk2
  refine ⟨?_, ?_⟩ <;> first | exact h | (refine ⟨h, ?_⟩; repeat (first | exact h | refine ⟨h, ?_⟩))

theorem acc_hit {L : ℕ → BitVec 32} (hL : Labels L) (G : Fin 3 → ℕ → F .f32) {n a : ℕ} (ha : n % 8 % 3 = a) (p : Fin 3) :
    acc L G (n + 1) p a = raise (w16 L (16 * n)) (w16 (G p) (16 * n)) (acc L G n p a) (inAcc_of hL _) := by
  subst ha
  show (if h : _ then _ else _) = _
  rw [dif_pos ⟨rfl, inAcc_of hL _⟩]

theorem acc_miss (L : ℕ → BitVec 32) (G : Fin 3 → ℕ → F .f32) {n a : ℕ} (ha : a ≠ n % 8 % 3) (p : Fin 3) : acc L G (n + 1) p a = acc L G n p a := by
  show (if h : _ then _ else _) = _
  rw [dif_neg fun h => ha h.1]

/-! ## The run -/

variable {d : Dev nD} {c : Fin τ.nSC} {s : Fin τ.nSub} {β : Type}

variable {Q : β → sProp (MT nD τ sig (HIx 1) (Elt F) ℕ UU ℕ)}

theorem unit16_emb (x : S16.Idx) : (Rect.unit (s := S16) ![0] S16.size inb_S16_S16_0).emb x = x := by
  funext a; apply Fin.ext; rw [Rect.emb_apply]
  obtain rfl : a = 0 := Subsingleton.elim _ _
  show 0 + 1 * (x 0).val = _; omega

theorem unit16_mem (x : S16.Idx) : x ∈ (Rect.unit (s := S16) ![0] S16.size inb_S16_S16_0).set := by
  rw [← Rect.map_emb_univ]; exact Finset.mem_map.mpr ⟨x, Finset.mem_univ _, unit16_emb x⟩

/-- A store of a whole register. -/
theorem own_store16 {e : EltTy} {m : Memref sig .scVector .vmem S16 e} {w X : S16.Idx → Elt F e}
    {hx : (m.access (Rect.unit (s := S16) ![0] S16.size inb_S16_S16_0)).Stores Finset.univ}
    {hm : (Finset.univ : Finset (Rect.unit (s := S16) ![0] S16.size inb_S16_S16_0).shape.Idx) = Finset.univ ∨ ∀ a, (Rect.unit (s := S16) ![0] S16.size inb_S16_S16_0).stride a = 1} {k : PUnit → PG F c s β} :
    Own d c s m X ⊢ iprop((Own d c s m w -∗ Run d (k ⟨⟩) Q)
      -∗ Run d (.op (.store m (Rect.unit (s := S16) ![0] S16.size inb_S16_S16_0) w Finset.univ hx hm) k) Q) :=
  own_store (r := Rect.unit (s := S16) ![0] S16.size inb_S16_S16_0) (w := w) w (fun x => congrArg w (unit16_emb x)) (fun j hj => absurd (unit16_mem j) hj)

/-- The two registers' worth of scratch, at anything. -/
abbrev Regs (d : Dev nD) (c : Fin τ.nSC) (s : Fin τ.nSub) : sProp 𝕄 :=
  iprop((∃ z, Own (F := F) d c s mRi z) ∗ ∃ z, Own (F := F) d c s mRf z)

theorem plane_run {sl p o : ℕ} {hsl : sl < 2} {hp : p < 3} {G : Fin 3 → ℕ → F .f32} {lk : IVec S16 32} {eq : IVec S16 1} {hlk : InAcc lk}
    {hoff : ∀ a, (![sl, p, o] : Fin 3 → ℕ) a + S1x1x16.size a ≤ S2x3x4096.size a} {m : Memref sig .scVector .vmem S8192 .f32} {a : Vec F S8192 .f32} {k : PG F c s β} :
    iprop(SlotI d c s sl hsl G ∗ (∃ z, Own (F := F) d c s mRf z) ∗ Own d c s m a)
      ⊢ iprop((iprop(SlotI d c s sl hsl G ∗ (∃ z, Own (F := F) d c s mRf z)
          ∗ Own d c s m (scat a lk (maximumf (gath a lk hlk) (paired eq (w16 (G ⟨p, hp⟩) o))) hlk)) -∗ Run d k Q)
        -∗ Run d (planeK lk eq hlk ![sl, p, o] hoff m k) Q) := by
  unfold planeK
  iintro ⟨HI, ⟨%z, HR⟩, HA⟩ Hk
  iapply (slotI_load (hp := hp)) $$ HI
  iintro HI
  rw [cast_1x1x16]
  iapply own_load $$ HR
  iintro HR
  iapply own_store16 $$ HR
  iintro HR
  iapply own_load_whole $$ HR
  iintro HR
  iapply own_load_whole $$ HA
  iintro HA
  iapply own_load_whole $$ HA
  iintro HA
  iapply own_store_whole $$ HA
  iintro HA
  iapply Hk
  isplitl [HI]; · iexact HI
  isplitl [HR]; · iexists _; iexact HR
  iexact HA

/-- The three accumulators of rotation `a`, after `n` groups. -/
abbrev Row3 (d : Dev nD) (c : Fin τ.nSC) (s : Fin τ.nSub) (L : ℕ → BitVec 32) (G : Fin 3 → ℕ → F .f32) (m0 m1 m2 : Memref sig .scVector .vmem S8192 .f32) (a n : ℕ) : sProp 𝕄 :=
  iprop(Own d c s m0 (acc L G n 0 a) ∗ Own d c s m1 (acc L G n 1 a) ∗ Own d c s m2 (acc L G n 2 a))

/-- The slot being worked through, and the scratch. -/
abbrev Work (d : Dev nD) (c : Fin τ.nSC) (s : Fin τ.nSub) (sl : ℕ) (hsl : sl < 2) (L : ℕ → BitVec 32) (G : Fin 3 → ℕ → F .f32) (q : ℕ) : sProp 𝕄 :=
  iprop(SlotL (F := F) d c s sl hsl (fun j => L (4096 * q + j)) ∗ SlotI d c s sl hsl (fun p j => G p (4096 * q + j)) ∗ Regs (F := F) d c s)

theorem w16_shift {α : Type} (G : ℕ → α) (b o : ℕ) : w16 (fun j => G (b + j)) o = w16 G (b + o) := by
  funext x; show G (b + (o + (x 0).val)) = G (b + o + (x 0).val); rw [Nat.add_assoc]

theorem raise_congr {l l' : IVec S16 32} (el : l = l') {v v' : FVec F S16 .f32} (ev : v = v') (a : Vec F S8192 .f32) (h : InAcc (places l)) (h' : InAcc (places l')) :
    raise l v a h = raise l' v' a h' := by
  subst el; subst ev; rfl

/-- Group `g` of span `t` of strip `q` is group `256 q + 8 t + g` of the image. -/
theorem group_run {sl : ℕ} {hsl : sl < 2} {L : ℕ → BitVec 32} (hL : Labels L) {G : Fin 3 → ℕ → F .f32} {q : ℕ} {t : Fin k0_t3_loop.trips} {g : ℕ} {hg : g < 8}
    {m0 m1 m2 : Memref sig .scVector .vmem S8192 .f32} {a : ℕ} (ha : g % 3 = a) {k : PG F c s β} :
    iprop(Work d c s sl hsl L G q ∗ Row3 d c s L G m0 m1 m2 a (8 * (32 * q + t.val) + g))
      ⊢ iprop((iprop(Work d c s sl hsl L G q ∗ Row3 d c s L G m0 m1 m2 a (8 * (32 * q + t.val) + g + 1)) -∗ Run d k Q)
        -∗ Run d (grpK hsl t g hg m0 m1 m2 k) Q) := by
  have hn : (8 * (32 * q + t.val) + g) % 8 % 3 = a := by rw [Nat.mul_add_mod, Nat.mod_eq_of_lt hg]; exact ha
  have ho : 4096 * q + (grpOff t g).toNat = 16 * (8 * (32 * q + t.val) + g) := by rw [grpOff_toNat t hg]; omega
  unfold grpK
  iintro ⟨⟨HL, HI, ⟨%z, HRi⟩, HRf⟩, H0, H1, H2⟩ Hk
  iapply slotL_load $$ HL
  iintro HL
  have ec : shapeCast S16 (fun x : S1x16.Idx => L (4096 * q + ((grpOff t g).toNat + (x 1).val))) shapeCasts_S1x16_S16 = w16 L (16 * (8 * (32 * q + t.val) + g)) := by
    rw [← ho, ← w16_shift]; exact cast_1x16 (fun j => L (4096 * q + j)) _
  have hc : k0_chk2 (addi laneOff (shapeCast S16 (fun x : S1x16.Idx => L (4096 * q + ((grpOff t g).toNat + (x 1).val))) shapeCasts_S1x16_S16)) := by
    rw [ec]; exact chk_of hL _
  iapply (run_assume hc)
  iapply own_load $$ HRi
  iintro HRi
  iapply own_store16 $$ HRi
  iintro HRi
  iapply own_load_whole $$ HRi
  iintro HRi
  iapply (plane_run (hp := (by decide : 0 < 3))) $$ [HI HRf H0]
  · isplitl [HI]; · iexact HI
    isplitl [HRf]; · iexact HRf
    iexact H0
  iintro ⟨HI, HRf, H0⟩
  iapply (plane_run (hp := (by decide : 1 < 3))) $$ [HI HRf H1]
  · isplitl [HI]; · iexact HI
    isplitl [HRf]; · iexact HRf
    iexact H1
  iintro ⟨HI, HRf, H1⟩
  iapply (plane_run (hp := (by decide : 2 < 3))) $$ [HI HRf H2]
  · isplitl [HI]; · iexact HI
    isplitl [HRf]; · iexact HRf
    iexact H2
  iintro ⟨HI, HRf, H2⟩
  have leaf : ∀ p : Fin 3, acc L G (8 * (32 * q + t.val) + g + 1) p a
      = raise (shapeCast S16 (fun x : S1x16.Idx => L (4096 * q + ((grpOff t g).toNat + (x 1).val))) shapeCasts_S1x16_S16)
          (w16 (fun j => G p (4096 * q + j)) (grpOff t g).toNat) (acc L G (8 * (32 * q + t.val) + g) p a) (ec ▸ inAcc_of hL _) := by
    intro p
    rw [acc_hit hL G hn]
    refine (raise_congr ec ?_ _ _ _).symm
    rw [w16_shift, ho]
  iapply Hk
  isplitl [HL HI HRi HRf]
  · isplitl [HL]; · iexact HL
    isplitl [HI]; · iexact HI
    isplitl [HRi]; · iexists _; iexact HRi
    iexact HRf
  isplitl [H0]; · rw [leaf 0]; iexact H0
  isplitl [H1]; · rw [leaf 1]; iexact H1
  rw [leaf 2]; iexact H2

end Cert.Proof.Tile
-- ==== Proof.Span.lean ====
/-
  A strip, run: its thirty-two spans of eight groups. A group raises the accumulators of one rotation; the other two
  rotations keep theirs.
-/
module

public import proofs.«01_k».proof.Proof.Group

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

theorem row3_miss (L : ℕ → BitVec 32) (G : Fin 3 → ℕ → F .f32) (m0 m1 m2 : Memref sig .scVector .vmem S8192 .f32) {n a : ℕ} (h : a ≠ n % 8 % 3) :
    Row3 d c s L G m0 m1 m2 a (n + 1) = Row3 d c s L G m0 m1 m2 a n := by
  unfold Row3; rw [acc_miss L G h, acc_miss L G h, acc_miss L G h]

/-- The nine accumulators after `n` groups. -/
abbrev Accs (d : Dev nD) (c : Fin τ.nSC) (s : Fin τ.nSub) (L : ℕ → BitVec 32) (G : Fin 3 → ℕ → F .f32) (n : ℕ) : sProp 𝕄 :=
  iprop(Row3 d c s L G mA0 mB0 mC0 0 n ∗ Row3 d c s L G mA1 mB1 mC1 1 n ∗ Row3 d c s L G mA2 mB2 mC2 2 n)

theorem grp_mod {q t g : ℕ} (hg : g < 8) : (8 * (32 * q + t) + g) % 8 % 3 = g % 3 := by
  rw [Nat.mul_add_mod, Nat.mod_eq_of_lt hg]

section
variable {sl : ℕ} {hsl : sl < 2} {L : ℕ → BitVec 32} {G : Fin 3 → ℕ → F .f32} {q : ℕ} {t : Fin k0_t3_loop.trips} {g : ℕ} {hg : g < 8} {k : PG F c s β}

theorem group0_run (hL : Labels L) (ha : g % 3 = 0) :
    iprop(Work d c s sl hsl L G q ∗ Accs d c s L G (8 * (32 * q + t.val) + g))
      ⊢ iprop((iprop(Work d c s sl hsl L G q ∗ Accs d c s L G (8 * (32 * q + t.val) + g + 1)) -∗ Run d k Q)
        -∗ Run d (grpK hsl t g hg mA0 mB0 mC0 k) Q) := by
  unfold Accs
  rw [row3_miss L G mA1 mB1 mC1 (a := 1) (by rw [grp_mod hg, ha]; decide), row3_miss L G mA2 mB2 mC2 (a := 2) (by rw [grp_mod hg, ha]; decide)]
  iintro ⟨HW, H0, H1, H2⟩ Hk
  iapply (group_run hL ha) $$ [HW H0]
  · isplitl [HW]; · iexact HW
    iexact H0
  iintro ⟨HW, H0⟩
  iapply Hk
  isplitl [HW]; · iexact HW
  isplitl [H0]; · iexact H0
  isplitl [H1]; · iexact H1
  iexact H2

theorem group1_run (hL : Labels L) (ha : g % 3 = 1) :
    iprop(Work d c s sl hsl L G q ∗ Accs d c s L G (8 * (32 * q + t.val) + g))
      ⊢ iprop((iprop(Work d c s sl hsl L G q ∗ Accs d c s L G (8 * (32 * q + t.val) + g + 1)) -∗ Run d k Q)
        -∗ Run d (grpK hsl t g hg mA1 mB1 mC1 k) Q) := by
  unfold Accs
  rw [row3_miss L G mA0 mB0 mC0 (a := 0) (by rw [grp_mod hg, ha]; decide), row3_miss L G mA2 mB2 mC2 (a := 2) (by rw [grp_mod hg, ha]; decide)]
  iintro ⟨HW, H0, H1, H2⟩ Hk
  iapply (group_run hL ha) $$ [HW H1]
  · isplitl [HW]; · iexact HW
    iexact H1
  iintro ⟨HW, H1⟩
  iapply Hk
  isplitl [HW]; · iexact HW
  isplitl [H0]; · iexact H0
  isplitl [H1]; · iexact H1
  iexact H2

theorem group2_run (hL : Labels L) (ha : g % 3 = 2) :
    iprop(Work d c s sl hsl L G q ∗ Accs d c s L G (8 * (32 * q + t.val) + g))
      ⊢ iprop((iprop(Work d c s sl hsl L G q ∗ Accs d c s L G (8 * (32 * q + t.val) + g + 1)) -∗ Run d k Q)
        -∗ Run d (grpK hsl t g hg mA2 mB2 mC2 k) Q) := by
  unfold Accs
  rw [row3_miss L G mA0 mB0 mC0 (a := 0) (by rw [grp_mod hg, ha]; decide), row3_miss L G mA1 mB1 mC1 (a := 1) (by rw [grp_mod hg, ha]; decide)]
  iintro ⟨HW, H0, H1, H2⟩ Hk
  iapply (group_run hL ha) $$ [HW H2]
  · isplitl [HW]; · iexact HW
    iexact H2
  iintro ⟨HW, H2⟩
  iapply Hk
  isplitl [HW]; · iexact HW
  isplitl [H0]; · iexact H0
  isplitl [H1]; · iexact H1
  iexact H2
end

theorem span_run {sl : ℕ} {hsl : sl < 2} {L : ℕ → BitVec 32} (hL : Labels L) {G : Fin 3 → ℕ → F .f32} {q : ℕ} {t : Fin k0_t3_loop.trips}
    {R : BitVec 32 → sProp (MT nD τ sig (HIx 1) (Elt F) ℕ UU ℕ)} :
    iprop(Work d c s sl hsl L G q ∗ Accs d c s L G (8 * (32 * q + t.val)))
      ⊢ iprop((iprop(Work d c s sl hsl L G q ∗ Accs d c s L G (8 * (32 * q + (t.val + 1)))) -∗ R 0#32) -∗ Run d (spanK (F := F) (c := c) (s := s) hsl t) R) := by
  unfold spanK
  iintro H Hk
  iapply (group0_run hL (g := 0) rfl) $$ H
  iintro H
  iapply (group1_run hL (g := 1) rfl) $$ H
  iintro H
  iapply (group2_run hL (g := 2) rfl) $$ H
  iintro H
  iapply (group0_run hL (g := 3) rfl) $$ H
  iintro H
  iapply (group1_run hL (g := 4) rfl) $$ H
  iintro H
  iapply (group2_run hL (g := 5) rfl) $$ H
  iintro H
  iapply (group0_run hL (g := 6) rfl) $$ H
  iintro H
  iapply (group1_run hL (g := 7) rfl) $$ H
  iintro H
  rw [show Run d (Prog.ret 0#32 : PG F c s (BitVec 32)) R = iprop(|={Set.univ}[frame]=> R 0#32) from rfl]; imodintro
  iapply Hk
  iexact H

/-- The whole strip `q`, in its slot. -/
theorem spans_run {sl : ℕ} {hsl : sl < 2} {L : ℕ → BitVec 32} (hL : Labels L) {G : Fin 3 → ℕ → F .f32} {q : ℕ} {kk : BitVec 32 → PG F c s β} :
    iprop(Work d c s sl hsl L G q ∗ Accs d c s L G (256 * q))
      ⊢ iprop((∀ v, iprop(Work d c s sl hsl L G q ∗ Accs d c s L G (256 * (q + 1))) -∗ Run d (kk v) Q) -∗ Run d (spansK hsl >>= kk) Q) := by
  have step : ∀ (t : Fin k0_t3_loop.trips) (_ : BitVec 32), iprop(Work d c s sl hsl L G q ∗ Accs d c s L G (8 * (32 * q + t.val)))
      ⊢ Run d (spanK (F := F) (c := c) (s := s) hsl t) (fun _ => iprop(Work d c s sl hsl L G q ∗ Accs d c s L G (8 * (32 * q + (t.val + 1))))) := by
    intro t _
    iintro H
    iapply (span_run hL) $$ H
    iintro H
    iexact H
  have e0 : 256 * q = 8 * (32 * q + 0) := by omega
  have e1 : 256 * (q + 1) = 8 * (32 * q + k0_t3_loop.trips) := by
    rw [show k0_t3_loop.trips = 32 from rfl]; omega
  rw [e0, e1]
  iintro H Hk
  unfold spansK
  iapply (Scf.wp_for_bind frame _ Set.univ _ _ _ k0_t3_ok 0#32 _ (fun n _ => iprop(Work d c s sl hsl L G q ∗ Accs d c s L G (8 * (32 * q + n)))) step) $$ H
  iexact Hk

end Cert.Proof.Tile
-- ==== Proof.Fold.lean ====
/-
  The accumulators cleared before an image, and folded into a row of the result after it.
-/
module

public import proofs.«01_k».proof.Proof.Span

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

/-! ## Sixteen consecutive words of a vector, stored -/

/-- A vector with sixteen words from `o` replaced. -/
def seg {α : Type} {n : ℕ} (X : (⟨1, ![n]⟩ : Shape).Idx → α) (o : ℕ) (w : S16.Idx → α) : (⟨1, ![n]⟩ : Shape).Idx → α :=
  fun j => if h : o ≤ (j 0).val ∧ (j 0).val < o + 16 then w (ix1 (n0 := 16) ⟨(j 0).val - o, by omega⟩) else X j

theorem own_store_seg {n : ℕ} {m : Memref sig .scVector .vmem ⟨1, ![n]⟩ .f32} {off : Fin 1 → ℕ} {inb : ∀ a, off a + S16.size a ≤ (⟨1, ![n]⟩ : Shape).size a} {w : S16.Idx → F .f32}
    {hx : (m.access (Rect.unit (s := ⟨1, ![n]⟩) off S16.size inb)).Stores Finset.univ}
    {hm : (Finset.univ : Finset (Rect.unit (s := ⟨1, ![n]⟩) off S16.size inb).shape.Idx) = Finset.univ ∨ ∀ a, (Rect.unit (s := ⟨1, ![n]⟩) off S16.size inb).stride a = 1}
    {k : PUnit → PG F c s β} {X : (⟨1, ![n]⟩ : Shape).Idx → F .f32} (o : ℕ) (ho : off 0 = o) :
    Own d c s m X ⊢ iprop((Own d c s m (seg X o w) -∗ Run d (k ⟨⟩) Q)
      -∗ Run d (.op (.store m (Rect.unit (s := ⟨1, ![n]⟩) off S16.size inb) w Finset.univ hx hm) k) Q) := by
  refine own_store (e := .f32) (r := Rect.unit (s := ⟨1, ![n]⟩) off S16.size inb) (w := w) (X := X) (seg X o w) ?_ ?_
  · intro x
    have hx16 : (x 0).val < 16 := (x 0).isLt
    have e : (((Rect.unit (s := ⟨1, ![n]⟩) off S16.size inb).emb x) 0).val = o + (x 0).val := by
      rw [Rect.emb_apply]; show off 0 + 1 * (x 0).val = _; omega
    unfold seg
    rw [dif_pos (by rw [e]; omega)]
    congr 1
    refine Eq.trans ?_ (ix1_eta (n0 := 16) x)
    congr 1; apply Fin.ext
    show (((Rect.unit (s := ⟨1, ![n]⟩) off S16.size inb).emb x) 0).val - o = (x 0).val
    rw [e]; omega
  · intro j hj
    unfold seg
    rw [dif_neg]
    rintro ⟨h1, h2⟩
    refine hj ?_
    rw [← Rect.map_emb_univ]
    refine Finset.mem_map.mpr ⟨ix1 (n0 := 16) ⟨(j 0).val - o, by omega⟩, Finset.mem_univ _, ?_⟩
    funext a; obtain rfl : a = 0 := Subsingleton.elim _ _
    apply Fin.ext; rw [Rect.emb_apply]
    show off 0 + 1 * ((j 0).val - o) = (j 0).val
    omega

theorem idx_unit16 {n : ℕ} {off : Fin 1 → ℕ} {inb : ∀ a, off a + S16.size a ≤ (⟨1, ![n]⟩ : Shape).size a} (x : S16.Idx) (h : off 0 + (x 0).val < n) :
    (Rect.unit (s := ⟨1, ![n]⟩) off S16.size inb).toLoadRect.idx x = ix1 (n0 := n) ⟨off 0 + (x 0).val, h⟩ := by
  funext a; obtain rfl : a = 0 := Subsingleton.elim _ _
  apply Fin.ext; rw [LoadRect.idx_apply]
  show off 0 + 1 * (x 0).val = off 0 + (x 0).val
  omega

/-! ## Clearing -/

/-- An accumulator cleared below word `n`. -/
def Clr (d : Dev nD) (c : Fin τ.nSC) (s : Fin τ.nSub) (m : Memref sig .scVector .vmem S8192 .f32) (n : ℕ) : sProp 𝕄 :=
  iprop(∃ X, ⌜∀ j : S8192.Idx, (j 0).val < n → X j = (Scalar.ofBits .f32 0xFF800000#32 : F .f32)⌝ ∗ Own (F := F) d c s m X)

theorem off1_zero (t : Fin k0_t1_loop.trips) (r : Fin 4) : (k0_off1 t (BitVec.ofNat 32 (16 * r.val))) 0 = 64 * t.val + 16 * r.val := by
  have : ∀ t : Fin k0_t1_loop.trips, ∀ r : Fin 4, (k0_off1 t (BitVec.ofNat 32 (16 * r.val))) 0 = 64 * t.val + 16 * r.val := by decide +kernel
  exact this t r

theorem clear1_run {m : Memref sig .scVector .vmem S8192 .f32} {t : Fin k0_t1_loop.trips} {r : Fin 4} {k : PG F c s β} :
    Clr (F := F) d c s m (64 * t.val + 16 * r.val) ⊢ iprop((Clr (F := F) d c s m (64 * t.val + 16 * (r.val + 1)) -∗ Run d k Q) -∗ Run d (clear1K m t r k) Q) := by
  unfold clear1K Clr
  iintro ⟨%X, %hX, H⟩ Hk
  iapply own_load $$ H
  iintro H
  iapply (own_store_seg (64 * t.val + 16 * r.val) (off1_zero t r)) $$ H
  iintro H
  iapply Hk
  iexists seg X (64 * t.val + 16 * r.val) negs
  isplitr
  · ipureintro
    intro j hj
    unfold seg
    by_cases h : 64 * t.val + 16 * r.val ≤ (j 0).val ∧ (j 0).val < 64 * t.val + 16 * r.val + 16
    · rw [dif_pos h]; rfl
    · rw [dif_neg h]; exact hX j (by omega)
  · iexact H

theorem clear4_run {m : Memref sig .scVector .vmem S8192 .f32} {t : Fin k0_t1_loop.trips} {k : PG F c s β} :
    Clr (F := F) d c s m (64 * t.val) ⊢ iprop((Clr (F := F) d c s m (64 * (t.val + 1)) -∗ Run d k Q) -∗ Run d (clear4K m t k) Q) := by
  unfold clear4K
  iintro H Hk
  iapply (clear1_run (r := 0)) $$ H
  iintro H
  iapply (clear1_run (r := 1)) $$ H
  iintro H
  iapply (clear1_run (r := 2)) $$ H
  iintro H
  iapply (clear1_run (r := 3)) $$ H
  iintro H
  iapply Hk
  iexact H

/-- The nine accumulators, cleared below word `n`. -/
abbrev Clrs (d : Dev nD) (c : Fin τ.nSC) (s : Fin τ.nSub) (n : ℕ) : sProp 𝕄 :=
  iprop((Clr (F := F) d c s mA0 n ∗ Clr (F := F) d c s mB0 n ∗ Clr (F := F) d c s mC0 n)
    ∗ (Clr (F := F) d c s mA1 n ∗ Clr (F := F) d c s mB1 n ∗ Clr (F := F) d c s mC1 n)
    ∗ (Clr (F := F) d c s mA2 n ∗ Clr (F := F) d c s mB2 n ∗ Clr (F := F) d c s mC2 n))

theorem clear_run (t : Fin k0_t1_loop.trips) :
    Clrs (F := F) d c s (64 * t.val) ⊢ Run d (clearK (F := F) (c := c) (s := s) t) (fun _ => Clrs (F := F) d c s (64 * (t.val + 1))) := by
  unfold clearK
  iintro ⟨⟨A0, B0, C0⟩, ⟨A1, B1, C1⟩, A2, B2, C2⟩
  iapply clear4_run $$ A0
  iintro A0
  iapply clear4_run $$ A1
  iintro A1
  iapply clear4_run $$ A2
  iintro A2
  iapply clear4_run $$ B0
  iintro B0
  iapply clear4_run $$ B1
  iintro B1
  iapply clear4_run $$ B2
  iintro B2
  iapply clear4_run $$ C0
  iintro C0
  iapply clear4_run $$ C1
  iintro C1
  iapply clear4_run $$ C2
  iintro C2
  unfold Run
  rw [wp_ret]; imodintro
  isplitl [A0 B0 C0]
  · isplitl [A0]; · iexact A0
    isplitl [B0]; · iexact B0
    iexact C0
  isplitl [A1 B1 C1]
  · isplitl [A1]; · iexact A1
    isplitl [B1]; · iexact B1
    iexact C1
  isplitl [A2]; · iexact A2
  isplitl [B2]; · iexact B2
  iexact C2

theorem clr_of {m : Memref sig .scVector .vmem S8192 .f32} {X : Vec F S8192 .f32} : Own d c s m X ⊢ Clr (F := F) d c s m 0 := by
  unfold Clr
  iintro H
  iexists X
  isplitr; · ipureintro; intro j hj; exact absurd hj (Nat.not_lt_zero _)
  iexact H

theorem own_of_clr {m : Memref sig .scVector .vmem S8192 .f32} (L : ℕ → BitVec 32) (G : Fin 3 → ℕ → F .f32) (p a : Fin 3) :
    Clr (F := F) d c s m 8192 ⊢ Own d c s m (acc L G 0 p a) := by
  unfold Clr
  iintro ⟨%X, %hX, H⟩
  have e : X = acc L G 0 p a := funext fun j => hX j (j 0).isLt
  subst e
  iexact H

theorem clears_run (L : ℕ → BitVec 32) (G : Fin 3 → ℕ → F .f32) {kk : BitVec 32 → PG F c s β} :
    Clrs (F := F) d c s 0 ⊢ iprop((∀ v, Accs d c s L G 0 -∗ Run d (kk v) Q) -∗ Run d (clearsK >>= kk) Q) := by
  iintro H Hk
  unfold clearsK
  iapply (Scf.wp_for_bind frame _ Set.univ _ _ _ k0_t1_ok 0#32 _ (fun n _ => Clrs (F := F) d c s (64 * n)) (fun t _ => clear_run t)) $$ H
  rw [show 64 * Scf.trips k0_t1_loop.lb k0_t1_loop.ub k0_t1_loop.st = 8192 from rfl]
  iintro %v ⟨⟨A0, B0, C0⟩, ⟨A1, B1, C1⟩, A2, B2, C2⟩
  iapply Hk
  isplitl [A0 B0 C0]
  · isplitl [A0]; · iapply (own_of_clr L G 0 0) $$ A0
    isplitl [B0]; · iapply (own_of_clr L G 1 0) $$ B0
    iapply (own_of_clr L G 2 0) $$ C0
  isplitl [A1 B1 C1]
  · isplitl [A1]; · iapply (own_of_clr L G 0 1) $$ A1
    isplitl [B1]; · iapply (own_of_clr L G 1 1) $$ B1
    iapply (own_of_clr L G 2 1) $$ C1
  isplitl [A2]; · iapply (own_of_clr L G 0 2) $$ A2
  isplitl [B2]; · iapply (own_of_clr L G 1 2) $$ B2
  iapply (own_of_clr L G 2 2) $$ C2

/-! ## Folding -/

/-- The word of an accumulator in row `r`, at column `k`. -/
def cell (A : Vec F S8192 .f32) (r : Fin 8) (k : ℕ) : F .f32 := if h : 1024 * r.val + k < 8192 then A (ix1 (n0 := 8192) ⟨1024 * r.val + k, h⟩) else Scalar.ofBits .f32 0xFF800000#32

/-- An accumulator's column folded into a word, row by row. -/
def fold8 (A : Vec F S8192 .f32) (k : ℕ) (v : F .f32) : F .f32 :=
  ([0, 1, 2, 3, 4, 5, 6, 7] : List (Fin 8)).foldl (fun v r => FloatOps.maximumf v (cell A r k)) v

/-- The row the three accumulators of a plane fold into. -/
def rowOf (A0 A1 A2 : Vec F S8192 .f32) : Vec F S1024 .f32 := fun j =>
  fold8 A2 (j 0).val (fold8 A1 (j 0).val (fold8 A0 (j 0).val (Scalar.ofBits .f32 0xFF800000#32)))

theorem off72_zero (t : Fin k0_t5_loop.trips) (r : Fin 8) : (k0_off72 t (BitVec.ofNat 32 (1024 * r.val))) 0 = 1024 * r.val + 16 * t.val := by
  have : ∀ t : Fin k0_t5_loop.trips, ∀ r : Fin 8, (k0_off72 t (BitVec.ofNat 32 (1024 * r.val))) 0 = 1024 * r.val + 16 * t.val := by decide +kernel
  exact this t r

theorem off73_zero (t : Fin k0_t5_loop.trips) : (k0_off73 t) 0 = 16 * t.val := by
  have : ∀ t : Fin k0_t5_loop.trips, (k0_off73 t) 0 = 16 * t.val := by decide +kernel
  exact this t

theorem fold1_run {m : Memref sig .scVector .vmem S8192 .f32} {A : Vec F S8192 .f32} {t : Fin k0_t5_loop.trips} {r : Fin 8} {v : FVec F S16 .f32} {k : FVec F S16 .f32 → PG F c s β} :
    Own d c s m A ⊢ iprop((Own d c s m A -∗ Run d (k fun x => FloatOps.maximumf (v x) (cell A r (16 * t.val + (x 0).val))) Q) -∗ Run d (fold1K m t r v k) Q) := by
  unfold fold1K
  iintro H Hk
  iapply own_load $$ H
  iintro H
  have e : maximumf v (fun x : S16.Idx => A ((Rect.unit (s := S8192) (k0_off72 t (BitVec.ofNat 32 (1024 * r.val))) S16.size (k0_off72_inb t r)).toLoadRect.idx x))
      = fun x => FloatOps.maximumf (v x) (cell A r (16 * t.val + (x 0).val)) := by
    funext x
    have hx : (x 0).val < 16 := (x 0).isLt
    have ht : t.val < 64 := t.isLt
    have hr : r.val < 8 := r.isLt
    have h0 := off72_zero t r
    show FloatOps.maximumf (v x) (A _) = FloatOps.maximumf (v x) _
    unfold cell
    rw [dif_pos (by omega), idx_unit16 (n := 8192) x (by omega)]
    congr 2; apply congrArg; apply Fin.ext
    show _ + _ = _ + _
    omega
  rw [← e]
  iapply Hk
  iexact H

theorem fold8_run {m : Memref sig .scVector .vmem S8192 .f32} {A : Vec F S8192 .f32} {t : Fin k0_t5_loop.trips} {v : FVec F S16 .f32} {k : FVec F S16 .f32 → PG F c s β} :
    Own d c s m A ⊢ iprop((Own d c s m A -∗ Run d (k fun x => fold8 A (16 * t.val + (x 0).val) (v x)) Q) -∗ Run d (fold8K m t v k) Q) := by
  unfold fold8K
  iintro H Hk
  iapply fold1_run $$ H
  iintro H
  iapply fold1_run $$ H
  iintro H
  iapply fold1_run $$ H
  iintro H
  iapply fold1_run $$ H
  iintro H
  iapply fold1_run $$ H
  iintro H
  iapply fold1_run $$ H
  iintro H
  iapply fold1_run $$ H
  iintro H
  iapply fold1_run $$ H
  iintro H
  iapply Hk
  iexact H

/-- The row, folded below word `n`. -/
def RowTo (d : Dev nD) (c : Fin τ.nSC) (s : Fin τ.nSub) (Y : Vec F S1024 .f32) (n : ℕ) : sProp 𝕄 :=
  iprop(∃ X, ⌜∀ j : S1024.Idx, (j 0).val < n → X j = Y j⌝ ∗ Own (F := F) d c s mRow X)

section
variable {a0 a1 a2 : Memref sig .scVector .vmem S8192 .f32} {A0 A1 A2 : Vec F S8192 .f32}

theorem fold_run (t : Fin k0_t5_loop.trips) :
    iprop((Own d c s a0 A0 ∗ Own d c s a1 A1 ∗ Own d c s a2 A2) ∗ RowTo d c s (rowOf A0 A1 A2) (16 * t.val))
      ⊢ Run d (foldK (F := F) (c := c) (s := s) negs a0 a1 a2 t) (fun _ => iprop((Own d c s a0 A0 ∗ Own d c s a1 A1 ∗ Own d c s a2 A2) ∗ RowTo d c s (rowOf A0 A1 A2) (16 * (t.val + 1)))) := by
  unfold foldK RowTo
  iintro ⟨⟨H0, H1, H2⟩, %X, %hX, H⟩
  iapply fold8_run $$ H0
  iintro H0
  iapply fold8_run $$ H1
  iintro H1
  iapply fold8_run $$ H2
  iintro H2
  iapply own_load $$ H
  iintro H
  iapply (own_store_seg (16 * t.val) (off73_zero t)) $$ H
  iintro H
  unfold Run
  rw [wp_ret]; imodintro
  isplitl [H0 H1 H2]
  · isplitl [H0]; · iexact H0
    isplitl [H1]; · iexact H1
    iexact H2
  iexists _
  isplitr
  rotate_left
  · iexact H
  · ipureintro
    intro j hj
    unfold seg
    by_cases h : 16 * t.val ≤ (j 0).val ∧ (j 0).val < 16 * t.val + 16
    · rw [dif_pos h]
      have ej : 16 * t.val + ((j 0).val - 16 * t.val) = (j 0).val := by omega
      show fold8 A2 (16 * t.val + ((j 0).val - 16 * t.val)) (fold8 A1 (16 * t.val + ((j 0).val - 16 * t.val)) (fold8 A0 (16 * t.val + ((j 0).val - 16 * t.val)) _)) = _
      rw [ej]; rfl
    · rw [dif_neg h]; exact hX j (by omega)

theorem folds_run {kk : BitVec 32 → PG F c s β} :
    iprop((Own d c s a0 A0 ∗ Own d c s a1 A1 ∗ Own d c s a2 A2) ∗ ∃ X, Own (F := F) d c s mRow X)
      ⊢ iprop((∀ v, iprop((Own d c s a0 A0 ∗ Own d c s a1 A1 ∗ Own d c s a2 A2) ∗ Own d c s mRow (rowOf A0 A1 A2)) -∗ Run d (kk v) Q) -∗ Run d (foldsK negs a0 a1 a2 >>= kk) Q) := by
  iintro ⟨HA, %X, H⟩ Hk
  unfold foldsK
  iapply (Scf.wp_for_bind frame _ Set.univ _ _ _ k0_t5_ok 0#32 _
    (fun n _ => iprop((Own d c s a0 A0 ∗ Own d c s a1 A1 ∗ Own d c s a2 A2) ∗ RowTo d c s (rowOf A0 A1 A2) (16 * n))) (fun t _ => fold_run t)) $$ [HA H]
  · isplitl [HA]; · iexact HA
    unfold RowTo
    iexists X
    isplitr; · ipureintro; intro j hj; exact absurd hj (Nat.not_lt_zero _)
    iexact H
  unfold RowTo
  iintro %v ⟨HA, %Y, %hY, H⟩
  have e : Y = rowOf A0 A1 A2 := funext fun j => hY j (j 0).isLt
  subst e
  iapply Hk
  isplitl [HA]; · iexact HA
  iexact H
end

end Cert.Proof.Tile
-- ==== Proof.Copy.lean ====
/-
  Copies: one begun takes a share of what it reads and all of what it writes, and hands them back, the copy made, when it is
  waited for.
-/
module

public import proofs.«01_k».proof.Proof.Fold

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

/-- What a tile owes, waits of its own aside, and that it may wait. -/
def Owes (d : Dev nD) (c : Fin τ.nSC) (s : Fin τ.nSub) (O : CellTallies nD τ sig (HIx 1)) (W : Waits sig (HIx 1)) : sProp 𝕄 :=
  iprop(Transfers.MayWaits (V d c s) none O ∗ ∃ W' : Waits sig (HIx 1), ⌜∀ p ∈ W', p ∈ W ∨ p.2 = none⌝ ∗ owes (V d c s) O W')

/-- A copy under way into `dst`, which will hold `X`, from elements `ℓ` held at share `q`. -/
def Fly (d : Dev nD) (c : Fin τ.nSC) (s : Fin τ.nSub) {sp : Space} {sh : Shape} {e : EltTy} (dst : Memref sig .scVector sp sh e) (X : sh.Idx → Elt F e) (sem : DmaSem sig)
    (ℓ : Loc nD τ sig) (q : PosShare TreeShare) (f : Buf (Elt F) ℓ) : sProp 𝕄 :=
  iprop(∃ S : Finset (Idx ℓ), Transfers.Flight (countersEmb) (V d c s) (.dma sem) none (dst.view.dmaCredit) iprop(Own d c s dst X ∗ (ℓ ↦[S]{q} f)) ∗ (ℓ ↦[Finset.univ \ S]{q} f))

section
variable {sp sp' : Space} {sh : Shape} {e : EltTy} {src : Memref sig .scVector sp sh e} {dst : Memref sig .scVector sp' sh e} {sem : DmaSem sig} {q : PosShare TreeShare}
  {f : Buf (Elt F) (src.view.loc (V d c s))}

theorem copy_run {hsrc : src.view.WordExact} {hdst : dst.view.WordExact} {hsem : DmaTarget.Typed (nD := nD) sp (.dma sem) (DmaTarget.here (p := .scVector c s) dst)} {k : PUnit → PG F c s β} (h0 : 0 < sh.numel) :
    iprop((src.view.loc (V d c s) ↦{q} f) ∗ (∃ X, Own d c s dst X) ∗ semVal (V d c s, .dma sem) 0)
      ⊢ iprop((Fly d c s dst (src.view.read (Elt F) f) sem (src.view.loc (V d c s)) q f -∗ Run d (k ⟨⟩) Q)
        -∗ Run d (.op (.enqueueDma src (.here dst) (.dma sem) hsrc hdst hsem) k) Q) := by
  unfold Own owns Fly
  iintro ⟨Hs, ⟨%X, %g, %hg, Hd⟩, Hv⟩ Hk
  ihave Hs := (pointsTo_split_subset (Finset.subset_univ src.view.set)).1 $$ Hs
  icases Hs with ⟨Hs, Hr⟩
  iapply (Transfers.wp_dmaLocal countersEmb 𝒱₀ (V d c s) none none dst.view.dmaCredit rfl (View.dmaCredit_pos _ h0) (Finset.Subset.refl _)) $$ [Hs Hd Hv]
  · isplitl [Hs]; · iexact Hs
    isplitl [Hd]; · iexact Hd
    iexact Hv
  iintro HF
  iapply Hk
  iexists src.view.set
  isplitl [HF]
  · iapply (Transfers.Flight_mono countersEmb (V d c s) ?_) $$ HF
    iintro ⟨Hd, Hs⟩
    isplitl [Hd]
    · unfold Own owns
      iexists _
      isplitr
      rotate_left
      · iexact Hd
      · ipureintro
        rw [View.read_write_univ]
    iexact Hs
  iexact Hr

theorem wait_run {sh' : Shape} {e' : EltTy} {srcw : Memref sig .scVector sp sh' e'} {hsrc : srcw.view.WordExact} {hdst : dst.view.WordExact} {k : PUnit → PG F c s β}
    {X : sh.Idx → Elt F e} {ℓ : Loc nD τ sig} {f : Buf (Elt F) ℓ} {O : CellTallies nD τ sig (HIx 1)} {W : Waits sig (HIx 1)} :
    iprop(Fly d c s dst X sem ℓ q f ∗ Owes (F := F) d c s O W)
      ⊢ iprop((iprop((ℓ ↦{q} f) ∗ Own d c s dst X ∗ semVal (V d c s, .dma sem) 0 ∗ Owes (F := F) d c s O W) -∗ Run d (k ⟨⟩) Q)
        -∗ Run d (.op (.waitDma2 sem srcw dst hsrc hdst) k) Q) := by
  unfold Fly Owes
  iintro ⟨⟨%S, HF, Hr⟩, #HM, %W', %hW, HO⟩ Hk
  iapply (Transfers.wp_waitLocalO countersEmb 𝒱₀ (V d c s) none none rfl) $$ [HF HO]
  · isplitl [HF]; · iexact HF
    isplitl [HO]; · iexact HO
    iapply (Transfers.MayWaits.elim (.dma sem)) $$ HM
  iintro ⟨⟨Hd, Hs⟩, Hv, HO⟩
  iapply Hk
  isplitl [Hs Hr]
  · iapply (pointsTo_split_subset (Finset.subset_univ S)).2
    isplitl [Hs]; · iexact Hs
    iexact Hr
  isplitl [Hd]; · iexact Hd
  isplitl [Hv]; · iexact Hv
  isplitr; · iexact HM
  iexists _
  isplitr
  rotate_left
  · iexact HO
  · ipureintro
    intro p hp
    rcases Finset.mem_insert.mp hp with rfl | hp
    · exact .inr rfl
    · exact hW p hp
end

end Cert.Proof.Tile
-- ==== Proof.Strips.lean ====
/-
  The strips of an image, run: the next one fetched while the one before it is worked through, two slots in turn.
-/
module

public import proofs.«01_k».proof.Proof.Copy

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

/-! ## The arrays read -/

/-- Where the labels and the planes lie, and the result. -/
abbrev locL (d : Dev nD) (c : Fin τ.nSC) (s : Fin τ.nSub) : Loc nD τ sig := mLab.view.loc (V d c s)
abbrev locI (d : Dev nD) (c : Fin τ.nSC) (s : Fin τ.nSub) : Loc nD τ sig := mImg.view.loc (V d c s)

/-- Label `n` of image `b`; word `n` of plane `p + r`. -/
def Lr (A : IVec S2x262144 32) (b n : ℕ) : BitVec 32 := if h : b < 2 ∧ n < 262144 then A (ix2 ⟨b, h.1⟩ ⟨n, h.2⟩) else 0#32
def Dr (B : FVec F S192x262144 .f32) (p : ℕ) (r : Fin 3) (n : ℕ) : F .f32 :=
  if h : p + r.val < 192 ∧ n < 262144 then B (ix2 ⟨p + r.val, h.1⟩ ⟨n, h.2⟩) else Scalar.ofBits .f32 0xFF800000#32

theorem labSrc_read (A : IVec S2x262144 32) {b o : ℕ} (hb : b < 2) (ho : o + 4096 ≤ 262144) :
    (labSrc b o hb ho).view.read (Elt F) (κ := .scVector) A = fun j : S4096.Idx => Lr A b (o + (j 0).val) := by
  funext j
  have hj : (j 0).val < 4096 := (j 0).isLt
  have e : Shape.reshapeEquiv squeezes_S1x4096_S4096.numel_eq j = (ix2 ⟨0, Nat.one_pos⟩ (j 0) : S1x4096.Idx) :=
    Shape.reshapeEquiv_eq_of_rowMajor _ (by
      rw [Shape.rowMajor_val_two, Shape.rowMajor_val_one]
      show 0 * 4096 + (j 0).val = (j 0).val
      omega)
  show A ((Rect.unit (s := S2x262144) ![b, o] S1x4096.size (labSrc_inb hb ho)).emb (Shape.reshapeEquiv squeezes_S1x4096_S4096.numel_eq j)) = _
  unfold Lr
  rw [e, dif_pos ⟨hb, by omega⟩]
  congr 1
  funext a; apply Fin.ext; rw [Rect.emb_apply]
  match a with
  | 0 => show b + 1 * 0 = b; omega
  | 1 => show o + 1 * (j 0).val = o + (j 0).val; omega

theorem imgSrc_read (B : FVec F S192x262144 .f32) {p o : ℕ} (hp : p + 3 ≤ 192) (ho : o + 4096 ≤ 262144) :
    (imgSrc p o hp ho).view.read (Elt F) B = fun j : S3x4096.Idx => Dr B p (j 0) (o + (j 1).val) := by
  funext j
  have hj0 : (j 0).val < 3 := (j 0).isLt
  have hj : (j 1).val < 4096 := (j 1).isLt
  show B ((Rect.unit (s := S192x262144) ![p, o] S3x4096.size (imgSrc_inb hp ho)).emb j) = _
  unfold Dr
  rw [dif_pos ⟨by omega, by omega⟩]
  congr 1
  funext a; apply Fin.ext; rw [Rect.emb_apply]
  match a with
  | 0 => show p + 1 * (j 0).val = p + (j 0).val; omega
  | 1 => show o + 1 * (j 1).val = o + (j 1).val; omega

/-! ## A slot -/

section
variable {sl : ℕ} {hsl : sl < 2} {semL semI : DmaSem sig} {q : PosShare TreeShare} {A : IVec S2x262144 32} {B : FVec F S192x262144 .f32} {b p : ℕ}

/-- What a slot's fetches read, at the slot's share, and their semaphores. -/
abbrev Src (d : Dev nD) (c : Fin τ.nSC) (s : Fin τ.nSub) (semL semI : DmaSem sig) (q : PosShare TreeShare) (A : IVec S2x262144 32) (B : FVec F S192x262144 .f32) : sProp 𝕄 :=
  iprop(((locL d c s ↦{q} A) ∗ semVal (V d c s, .dma semL) 0) ∗ ((locI d c s ↦{q} B) ∗ semVal (V d c s, .dma semI) 0))

/-- A slot at rest. -/
abbrev Idle (d : Dev nD) (c : Fin τ.nSC) (s : Fin τ.nSub) (sl : ℕ) (hsl : sl < 2) (semL semI : DmaSem sig) (q : PosShare TreeShare) (A : IVec S2x262144 32) (B : FVec F S192x262144 .f32) : sProp 𝕄 :=
  iprop((∃ X, Own (F := F) d c s (labDst sl hsl) X) ∗ (∃ X, Own (F := F) d c s (imgDst sl hsl) X) ∗ Src d c s semL semI q A B)

/-- A slot being fetched into: strip `n` of the image `b`'s labels and of the planes from `p`. -/
abbrev Going (d : Dev nD) (c : Fin τ.nSC) (s : Fin τ.nSub) (sl : ℕ) (hsl : sl < 2) (semL semI : DmaSem sig) (q : PosShare TreeShare) (A : IVec S2x262144 32) (B : FVec F S192x262144 .f32) (b p n : ℕ) : sProp 𝕄 :=
  iprop(Fly (F := F) d c s (labDst sl hsl) (fun j : S4096.Idx => Lr A b (4096 * n + (j 0).val)) semL (locL d c s) q A
    ∗ Fly (F := F) d c s (imgDst sl hsl) (fun j : S3x4096.Idx => Dr B p (j 0) (4096 * n + (j 1).val)) semI (locI d c s) q B)

theorem fetch_run {o : ℕ} {hb : b < 2} {hp : p + 3 ≤ 192} {ho : o + 4096 ≤ 262144} (n : ℕ) (hn : o = 4096 * n) {k : PG F c s β} :
    Idle d c s sl hsl semL semI q A B
      ⊢ iprop((Going d c s sl hsl semL semI q A B b p n -∗ Run d k Q) -∗ Run d (fetchK hsl semL semI b p o hb hp ho k) Q) := by
  subst hn
  unfold fetchK
  iintro ⟨HL, HI, ⟨HA, HvL⟩, HB, HvI⟩ Hk
  iapply (copy_run (src := labSrc b (4096 * n) hb ho) (dst := labDst sl hsl) (f := A) (by decide)) $$ [HL HA HvL]
  · isplitl [HA]; · iexact HA
    isplitl [HL]; · iexact HL
    iexact HvL
  iintro HL
  iapply (copy_run (src := imgSrc p (4096 * n) hp ho) (dst := imgDst sl hsl) (f := B) (by decide)) $$ [HI HB HvI]
  · isplitl [HB]; · iexact HB
    isplitl [HI]; · iexact HI
    iexact HvI
  iintro HI
  rw [labSrc_read A hb ho, imgSrc_read B hp ho]
  iapply Hk
  isplitl [HL]; · iexact HL
  iexact HI

theorem arrive_run {n : ℕ} {O : CellTallies nD τ sig (HIx 1)} {W : Waits sig (HIx 1)} {k : PG F c s β} :
    iprop(Going d c s sl hsl semL semI q A B b p n ∗ Owes (F := F) d c s O W)
      ⊢ iprop((iprop((SlotL (F := F) d c s sl hsl (fun j => Lr A b (4096 * n + j)) ∗ SlotI d c s sl hsl (fun r j => Dr B p r (4096 * n + j)))
          ∗ Src d c s semL semI q A B ∗ Owes (F := F) d c s O W) -∗ Run d k Q) -∗ Run d (arriveK hsl semL semI k) Q) := by
  unfold arriveK
  iintro ⟨⟨HL, HI⟩, HO⟩ Hk
  iapply wait_run $$ [HL HO]
  · isplitl [HL]; · iexact HL
    iexact HO
  iintro ⟨HA, HL, HvL, HO⟩
  iapply wait_run $$ [HI HO]
  · isplitl [HI]; · iexact HI
    iexact HO
  iintro ⟨HB, HI, HvI, HO⟩
  iapply Hk
  isplitl [HL HI]
  · isplitl [HL]; · iexact HL
    iexact HI
  isplitr [HO]
  · isplitl [HA HvL]
    · isplitl [HA]; · iexact HA
      iexact HvL
    isplitl [HB]; · iexact HB
    iexact HvI
  iexact HO
end

end Cert.Proof.Tile
-- ==== Proof.Pairs.lean ====
/-
  An image, run: thirty-two pairs of strips; then a pass over its three planes, which clears the accumulators, runs the
  image and folds the accumulators out.
-/
module

public import proofs.«01_k».proof.Proof.Strips

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

section
variable {q₀ q₁ : PosShare TreeShare} {A : IVec S2x262144 32} {B : FVec F S192x262144 .f32} {b p : ℕ} {O : CellTallies nD τ sig (HIx 1)} {W : Waits sig (HIx 1)}

/-- The two slots. -/
abbrev Idle0 (d : Dev nD) (c : Fin τ.nSC) (s : Fin τ.nSub) (q : PosShare TreeShare) (A : IVec S2x262144 32) (B : FVec F S192x262144 .f32) : sProp 𝕄 :=
  Idle d c s 0 (by decide) semL0 semI0 q A B
abbrev Idle1 (d : Dev nD) (c : Fin τ.nSC) (s : Fin τ.nSub) (q : PosShare TreeShare) (A : IVec S2x262144 32) (B : FVec F S192x262144 .f32) : sProp 𝕄 :=
  Idle d c s 1 (by decide) semL1 semI1 q A B

/-- Slot 0 when pair `t` begins: strip `2 t` on its way, unless the image is done. -/
def Next (d : Dev nD) (c : Fin τ.nSC) (s : Fin τ.nSub) (q : PosShare TreeShare) (A : IVec S2x262144 32) (B : FVec F S192x262144 .f32) (b p t : ℕ) : sProp 𝕄 :=
  if t < 32 then Going d c s 0 (by decide) semL0 semI0 q A B b p (2 * t) else Idle0 d c s q A B

theorem next_lt {t : ℕ} (h : t < 32) : Next d c s q₀ A B b p t = Going d c s 0 (by decide) semL0 semI0 q₀ A B b p (2 * t) := if_pos h
theorem next_end {t : ℕ} (h : ¬ t < 32) : Next d c s q₀ A B b p t = Idle0 d c s q₀ A B := if_neg h

/-- What a pair's run begins and ends with. -/
abbrev Pair (d : Dev nD) (c : Fin τ.nSC) (s : Fin τ.nSub) (q₀ q₁ : PosShare TreeShare) (A : IVec S2x262144 32) (B : FVec F S192x262144 .f32) (b p : ℕ)
    (O : CellTallies nD τ sig (HIx 1)) (W : Waits sig (HIx 1)) (t : ℕ) : sProp 𝕄 :=
  iprop(Next d c s q₀ A B b p t ∗ Idle1 d c s q₁ A B ∗ Regs (F := F) d c s ∗ Accs d c s (Lr A b) (Dr B p) (256 * (2 * t)) ∗ Owes (F := F) d c s O W)

theorem rest {sl : ℕ} {hsl : sl < 2} {semL semI : DmaSem sig} {q : PosShare TreeShare} {G : ℕ → BitVec 32} {H : Fin 3 → ℕ → F .f32} :
    iprop((SlotL (F := F) d c s sl hsl G ∗ SlotI d c s sl hsl H) ∗ Src d c s semL semI q A B) ⊢ Idle d c s sl hsl semL semI q A B := by
  iintro ⟨⟨HL, HI⟩, HS⟩
  isplitl [HL]; · iexists _; iexact HL
  isplitl [HI]; · iexists _; iexact HI
  iexact HS

/-- A strip in its slot, worked through. -/
theorem work_run (hL : Labels (Lr A b)) {sl : ℕ} {hsl : sl < 2} {n : ℕ} {kk : BitVec 32 → PG F c s β} :
    iprop((SlotL (F := F) d c s sl hsl (fun j => Lr A b (4096 * n + j)) ∗ SlotI d c s sl hsl (fun r j => Dr B p r (4096 * n + j))) ∗ Regs (F := F) d c s
        ∗ Accs d c s (Lr A b) (Dr B p) (256 * n))
      ⊢ iprop((∀ v, iprop((SlotL (F := F) d c s sl hsl (fun j => Lr A b (4096 * n + j)) ∗ SlotI d c s sl hsl (fun r j => Dr B p r (4096 * n + j))) ∗ Regs (F := F) d c s
        ∗ Accs d c s (Lr A b) (Dr B p) (256 * (n + 1))) -∗ Run d (kk v) Q) -∗ Run d (spansK hsl >>= kk) Q) := by
  iintro ⟨⟨HL, HI⟩, HR, HA⟩ Hk
  iapply (spans_run hL (G := Dr B p) (q := n)) $$ [HL HI HR HA]
  · isplitl [HL HI HR]
    · isplitl [HL]; · iexact HL
      isplitl [HI]; · iexact HI
      iexact HR
    iexact HA
  iintro %v ⟨⟨HL, HI, HR⟩, HA⟩
  iapply Hk
  isplitl [HL HI]
  · isplitl [HL]; · iexact HL
    iexact HI
  isplitl [HR]; · iexact HR
  iexact HA

theorem second_run (hL : Labels (Lr A b)) {n m : ℕ} (hm : m = n + 1) {R : BitVec 32 → sProp (MT nD τ sig (HIx 1) (Elt F) ℕ UU ℕ)} :
    iprop(Going d c s 1 (by decide) semL1 semI1 q₁ A B b p n ∗ Regs (F := F) d c s ∗ Accs d c s (Lr A b) (Dr B p) (256 * n) ∗ Owes (F := F) d c s O W)
      ⊢ iprop((iprop(Idle1 d c s q₁ A B ∗ Regs (F := F) d c s ∗ Accs d c s (Lr A b) (Dr B p) (256 * m) ∗ Owes (F := F) d c s O W) -∗ R 0#32)
        -∗ Run d (secondK (F := F) (c := c) (s := s)) R) := by
  subst hm
  unfold secondK
  iintro ⟨HG, HR, HA, HO⟩ Hk
  iapply arrive_run $$ [HG HO]
  · isplitl [HG]; · iexact HG
    iexact HO
  iintro ⟨HS, HC, HO⟩
  iapply (work_run hL) $$ [HS HR HA]
  · isplitl [HS]; · iexact HS
    isplitl [HR]; · iexact HR
    iexact HA
  iintro %v ⟨HS, HR, HA⟩
  rw [show Run d (Prog.ret 0#32 : PG F c s (BitVec 32)) R = iprop(|={Set.univ}[frame]=> R 0#32) from rfl]; imodintro
  iapply Hk
  isplitl [HS HC]
  · iapply rest
    isplitl [HS]; · iexact HS
    iexact HC
  isplitl [HR]; · iexact HR
  isplitl [HA]; · iexact HA
  iexact HO

theorem pair_run (hL : Labels (Lr A b)) {hb : b < 2} {hp : p + 3 ≤ 192} (t : Fin k0_t2_loop.trips) :
    Pair d c s q₀ q₁ A B b p O W t.val ⊢ Run d (pairK (F := F) (c := c) (s := s) b p hb hp t) (fun _ => Pair d c s q₀ q₁ A B b p O W (t.val + 1)) := by
  have ht : t.val < 32 := t.isLt
  unfold pairK Pair
  rw [next_lt ht]
  iintro ⟨H0, H1, HR, HA, HO⟩
  iapply (fetch_run (b := b) (p := p) (2 * t.val + 1) (stripOff_toNat t (d := 1) (by decide))) $$ H1
  iintro H1
  iapply arrive_run $$ [H0 HO]
  · isplitl [H0]; · iexact H0
    iexact HO
  iintro ⟨HS, HC, HO⟩
  iapply (work_run hL) $$ [HS HR HA]
  · isplitl [HS]; · iexact HS
    isplitl [HR]; · iexact HR
    iexact HA
  iintro %v ⟨HS, HR, HA⟩
  ihave H0 := rest $$ [HS HC]
  · isplitl [HS]; · iexact HS
    iexact HC
  by_cases hc : k0_cond1 t = 1#1
  · rw [dif_pos hc, next_lt ((cond_iff t).1 hc)]
    iapply (fetch_run (b := b) (p := p) (2 * (t.val + 1)) (stripOff_toNat t (d := 2) (by decide))) $$ H0
    iintro H0
    iapply (second_run hL (n := 2 * t.val + 1) (m := 2 * (t.val + 1)) (by omega)) $$ [H1 HR HA HO]
    · isplitl [H1]; · iexact H1
      isplitl [HR]; · iexact HR
      isplitl [HA]; · iexact HA
      iexact HO
    iintro H
    isplitl [H0]; · iexact H0
    iexact H
  · rw [dif_neg hc, next_end (fun h => hc ((cond_iff t).2 h))]
    iapply (second_run hL (n := 2 * t.val + 1) (m := 2 * (t.val + 1)) (by omega)) $$ [H1 HR HA HO]
    · isplitl [H1]; · iexact H1
      isplitl [HR]; · iexact HR
      isplitl [HA]; · iexact HA
      iexact HO
    iintro H
    isplitl [H0]; · iexact H0
    iexact H

/-- What a pass holds throughout: the slots at rest, the scratch, what it owes. -/
abbrev Rest (d : Dev nD) (c : Fin τ.nSC) (s : Fin τ.nSub) (q₀ q₁ : PosShare TreeShare) (A : IVec S2x262144 32) (B : FVec F S192x262144 .f32)
    (O : CellTallies nD τ sig (HIx 1)) (W : Waits sig (HIx 1)) : sProp 𝕄 :=
  iprop(Idle0 d c s q₀ A B ∗ Idle1 d c s q₁ A B ∗ Regs (F := F) d c s ∗ Owes (F := F) d c s O W)

theorem image_run (hL : Labels (Lr A b)) {hb : b < 2} {hp : p + 3 ≤ 192} {kk : BitVec 32 → PG F c s β} :
    iprop(Rest d c s q₀ q₁ A B O W ∗ Clrs (F := F) d c s 0)
      ⊢ iprop((∀ v, iprop(Rest d c s q₀ q₁ A B O W ∗ Accs d c s (Lr A b) (Dr B p) 16384) -∗ Run d (kk v) Q)
        -∗ Run d (clearsK >>= fun _ => fetchK (sl := 0) (by decide) semL0 semI0 b p 0 hb hp (by decide) <| pairsK b p hb hp >>= kk) Q) := by
  iintro ⟨⟨H0, H1, HR, HO⟩, HC⟩ Hk
  iapply (clears_run (Lr A b) (Dr B p)) $$ HC
  iintro %v HA
  iapply (fetch_run (b := b) (p := p) 0 rfl) $$ H0
  iintro H0
  unfold pairsK
  iapply (Scf.wp_for_bind frame _ Set.univ _ _ _ k0_t2_ok 0#32 _ (fun t _ => Pair d c s q₀ q₁ A B b p O W t) (fun t _ => pair_run hL t)) $$ [H0 H1 HR HA HO]
  · unfold Pair
    rw [next_lt (by decide)]
    isplitl [H0]; · iexact H0
    isplitl [H1]; · iexact H1
    isplitl [HR]; · iexact HR
    isplitl [HA]; · iexact HA
    iexact HO
  rw [show Scf.trips k0_t2_loop.lb k0_t2_loop.ub k0_t2_loop.st = 32 from rfl]
  unfold Pair
  rw [next_end (by decide)]
  iintro %w ⟨H0, H1, HR, HA, HO⟩
  iapply Hk
  isplitr [HA]
  · isplitl [H0]; · iexact H0
    isplitl [H1]; · iexact H1
    isplitl [HR]; · iexact HR
    iexact HO
  iexact HA

/-! ## A row, sent out -/

/-- A row of the result, its semaphore, at anything; holding `Y`. -/
abbrev RowAt (d : Dev nD) (c : Fin τ.nSC) (s : Fin τ.nSub) (r : ℕ) (hr : r < 192) (sem : DmaSem sig) (Y : Vec F S1024 .f32) : sProp 𝕄 :=
  iprop(Own d c s (outDst r hr) Y ∗ semVal (V d c s, .dma sem) 0)

theorem own_row (X : Vec F S1024 .f32) : Own (F := F) d c s mRow X = ((V d c s).loc cc0_scratch11 ↦{fullShare} X : sProp 𝕄) :=
  owns_whole (V d c s) cc0_scratch11 fullShare X

theorem own_row_elim (X : Vec F S1024 .f32) : Own (F := F) d c s mRow X ⊢ ((V d c s).loc cc0_scratch11 ↦{fullShare} X : sProp 𝕄) := by
  rw [own_row]
theorem own_row_intro (X : Vec F S1024 .f32) : ((V d c s).loc cc0_scratch11 ↦{fullShare} X : sProp 𝕄) ⊢ Own (F := F) d c s mRow X := by
  rw [own_row]

theorem row_run {a0 a1 a2 : Memref sig .scVector .vmem S8192 .f32} {A0 A1 A2 : Vec F S8192 .f32} {r : ℕ} {hr : r < 192} {sem : DmaSem sig} {k : PG F c s β} :
    iprop((Own d c s a0 A0 ∗ Own d c s a1 A1 ∗ Own d c s a2 A2) ∗ (∃ X, Own (F := F) d c s mRow X) ∗ (∃ Y, RowAt d c s r hr sem Y) ∗ Owes (F := F) d c s O W)
      ⊢ iprop((iprop((Own d c s a0 A0 ∗ Own d c s a1 A1 ∗ Own d c s a2 A2) ∗ (∃ X, Own (F := F) d c s mRow X) ∗ RowAt d c s r hr sem (rowOf A0 A1 A2) ∗ Owes (F := F) d c s O W) -∗ Run d k Q)
        -∗ Run d (rowK a0 a1 a2 r hr sem k) Q) := by
  unfold rowK
  iintro ⟨HA, HX, ⟨%Y, HY, Hv⟩, HO⟩ Hk
  iapply folds_run $$ [HA HX]
  · isplitl [HA]; · iexact HA
    iexact HX
  iintro %v ⟨HA, HX⟩
  unfold sendK sentK
  ihave HX := (own_row_elim (rowOf A0 A1 A2)) $$ HX
  iapply (copy_run (src := mRow) (dst := outDst r hr) (q := fullShare) (f := rowOf A0 A1 A2) (by decide)) $$ [HX HY Hv]
  · isplitl [HX]; · iexact HX
    isplitl [HY]; · iexists _; iexact HY
    iexact Hv
  iintro HF
  iapply wait_run $$ [HF HO]
  · isplitl [HF]; · iexact HF
    iexact HO
  iintro ⟨HX, HY, Hv, HO⟩
  iapply Hk
  isplitl [HA]; · iexact HA
  isplitl [HX]; · iexists rowOf A0 A1 A2; iapply (own_row_intro (rowOf A0 A1 A2)) $$ HX
  isplitl [HY Hv]
  · isplitl [HY]; · iexact HY
    iexact Hv
  iexact HO
end

end Cert.Proof.Tile
-- ==== Proof.Kernel.lean ====
/-
  A pass, and the whole kernel of a tile: six rows of the result.
-/
module

public import proofs.«01_k».proof.Proof.Pairs

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

variable {Q : β → sProp (MT nD τ sig (HIx 1) (Elt F) ℕ UU ℕ)}

/-! ## What a row of the result is -/

/-- An accumulator depends on its own plane alone. -/
theorem acc_plane (L : ℕ → BitVec 32) (G : Fin 3 → ℕ → F .f32) (p a : Fin 3) (n : ℕ) : ∀ a : ℕ, acc L G n p a = acc L (fun _ => G p) n 0 a := by
  induction n with
  | zero => intro a; rfl
  | succ n ih =>
    intro a
    show (if h : _ then _ else _) = (if h : _ then _ else _)
    rw [ih a]

/-- The row of sixteen thousand three hundred and eighty-four groups of labels `L` and words `g`. -/
def result (L : ℕ → BitVec 32) (g : ℕ → F .f32) : Vec F S1024 .f32 :=
  rowOf (acc L (fun _ => g) 16384 0 0) (acc L (fun _ => g) 16384 0 1) (acc L (fun _ => g) 16384 0 2)

/-- Row `P` of the result: the plane `P` under the labels of its image. -/
def outRow (A : IVec S2x262144 32) (B : FVec F S192x262144 .f32) (P : ℕ) : Vec F S1024 .f32 := result (Lr A (P / 96)) (Dr B P 0)

theorem dr_shift (B : FVec F S192x262144 .f32) (p : ℕ) (r : Fin 3) : Dr B p r = Dr B (p + r.val) 0 := rfl

theorem row_eq (A : IVec S2x262144 32) (B : FVec F S192x262144 .f32) {b p P : ℕ} (r : Fin 3) (hP : P = p + r.val) (hb : b = P / 96) :
    rowOf (acc (Lr A b) (Dr B p) 16384 r 0) (acc (Lr A b) (Dr B p) 16384 r 1) (acc (Lr A b) (Dr B p) 16384 r 2) = outRow A B P := by
  subst hP hb
  unfold outRow result
  rw [acc_plane _ _ r 0, acc_plane _ _ r 0, acc_plane _ _ r 0, dr_shift]

/-! ## A pass -/

section
variable {q₀ q₁ : PosShare TreeShare} {A : IVec S2x262144 32} {B : FVec F S192x262144 .f32} {b p : ℕ} {O : CellTallies nD τ sig (HIx 1)} {W : Waits sig (HIx 1)}

/-- What a tile holds from pass to pass. -/
abbrev Base (d : Dev nD) (c : Fin τ.nSC) (s : Fin τ.nSub) (q₀ q₁ : PosShare TreeShare) (A : IVec S2x262144 32) (B : FVec F S192x262144 .f32)
    (O : CellTallies nD τ sig (HIx 1)) (W : Waits sig (HIx 1)) : sProp 𝕄 :=
  iprop((Idle0 d c s q₀ A B ∗ Idle1 d c s q₁ A B ∗ Regs (F := F) d c s) ∗ Clrs (F := F) d c s 0 ∗ (∃ X, Own (F := F) d c s mRow X) ∗ Owes (F := F) d c s O W)

theorem row3_clr {L : ℕ → BitVec 32} {G : Fin 3 → ℕ → F .f32} {m0 m1 m2 : Memref sig .scVector .vmem S8192 .f32} {X0 X1 X2 : Vec F S8192 .f32} :
    iprop(Own d c s m0 X0 ∗ Own d c s m1 X1 ∗ Own d c s m2 X2) ⊢ iprop(Clr (F := F) d c s m0 0 ∗ Clr (F := F) d c s m1 0 ∗ Clr (F := F) d c s m2 0) := by
  iintro ⟨H0, H1, H2⟩
  isplitl [H0]; · iapply clr_of $$ H0
  isplitl [H1]; · iapply clr_of $$ H1
  iapply clr_of $$ H2

theorem pass_run (hL : Labels (Lr A b)) {r0 r1 r2 : ℕ} {hb : b < 2} {hp : p + 3 ≤ 192} {h0 : r0 < 192} {h1 : r1 < 192} {h2 : r2 < 192} {s0 s1 s2 : DmaSem sig} {k : PG F c s β}
    (e0 : r0 = p) (e1 : r1 = p + 1) (e2 : r2 = p + 2) (hb0 : b = r0 / 96) (hb1 : b = r1 / 96) (hb2 : b = r2 / 96) :
    iprop(Base d c s q₀ q₁ A B O W ∗ (∃ Y, RowAt (F := F) d c s r0 h0 s0 Y) ∗ (∃ Y, RowAt (F := F) d c s r1 h1 s1 Y) ∗ (∃ Y, RowAt (F := F) d c s r2 h2 s2 Y))
      ⊢ iprop((iprop(Base d c s q₀ q₁ A B O W ∗ RowAt d c s r0 h0 s0 (outRow A B r0) ∗ RowAt d c s r1 h1 s1 (outRow A B r1) ∗ RowAt d c s r2 h2 s2 (outRow A B r2)) -∗ Run d k Q)
        -∗ Run d (passK b p r0 r1 r2 hb hp h0 h1 h2 s0 s1 s2 k) Q) := by
  rw [← row_eq A B (b := b) (p := p) 0 e0 hb0, ← row_eq A B (b := b) (p := p) 1 e1 hb1, ← row_eq A B (b := b) (p := p) 2 e2 hb2]
  unfold passK
  iintro ⟨⟨⟨H0, H1, HR⟩, HC, HX, HO⟩, HY0, HY1, HY2⟩ Hk
  iapply (image_run (q₀ := q₀) (q₁ := q₁) hL) $$ [H0 H1 HR HC HO]
  · isplitr [HC]
    · isplitl [H0]; · iexact H0
      isplitl [H1]; · iexact H1
      isplitl [HR]; · iexact HR
      iexact HO
    iexact HC
  iintro %v ⟨⟨H0, H1, HR, HO⟩, ⟨A0, B0, C0⟩, ⟨A1, B1, C1⟩, A2, B2, C2⟩
  iapply row_run $$ [A0 A1 A2 HX HY0 HO]
  · isplitl [A0 A1 A2]
    · isplitl [A0]; · iexact A0
      isplitl [A1]; · iexact A1
      iexact A2
    isplitl [HX]; · iexact HX
    isplitl [HY0]; · iexact HY0
    iexact HO
  iintro ⟨⟨A0, A1, A2⟩, HX, HY0, HO⟩
  iapply row_run $$ [B0 B1 B2 HX HY1 HO]
  · isplitl [B0 B1 B2]
    · isplitl [B0]; · iexact B0
      isplitl [B1]; · iexact B1
      iexact B2
    isplitl [HX]; · iexact HX
    isplitl [HY1]; · iexact HY1
    iexact HO
  iintro ⟨⟨B0, B1, B2⟩, HX, HY1, HO⟩
  iapply row_run $$ [C0 C1 C2 HX HY2 HO]
  · isplitl [C0 C1 C2]
    · isplitl [C0]; · iexact C0
      isplitl [C1]; · iexact C1
      iexact C2
    isplitl [HX]; · iexact HX
    isplitl [HY2]; · iexact HY2
    iexact HO
  iintro ⟨⟨C0, C1, C2⟩, HX, HY2, HO⟩
  iapply Hk
  isplitr [HY0 HY1 HY2]
  · isplitl [H0 H1 HR]
    · isplitl [H0]; · iexact H0
      isplitl [H1]; · iexact H1
      iexact HR
    isplitr [HX HO]
    · isplitl [A0 B0 C0]
      · iapply (row3_clr (L := Lr A b) (G := Dr B p)) $$ [A0 B0 C0]
        isplitl [A0]; · iexact A0
        isplitl [B0]; · iexact B0
        iexact C0
      isplitl [A1 B1 C1]
      · iapply (row3_clr (L := Lr A b) (G := Dr B p)) $$ [A1 B1 C1]
        isplitl [A1]; · iexact A1
        isplitl [B1]; · iexact B1
        iexact C1
      iapply (row3_clr (L := Lr A b) (G := Dr B p)) $$ [A2 B2 C2]
      isplitl [A2]; · iexact A2
      isplitl [B2]; · iexact B2
      iexact C2
    isplitl [HX]; · iexact HX
    iexact HO
  isplitl [HY0]; · iexact HY0
  isplitl [HY1]; · iexact HY1
  iexact HY2

/-! ## The kernel -/

theorem row_lt (i : grid0.Coords) {e : ℕ} (he : e < 6) : 6 * num i + e < 192 := by have := num_lt i; omega

/-- Row `6 num + e` of tile `i`. -/
abbrev TileRow (d : Dev nD) (c : Fin τ.nSC) (s : Fin τ.nSub) (i : grid0.Coords) (e : ℕ) (he : e < 6) (sem : DmaSem sig) (Y : Vec F S1024 .f32) : sProp 𝕄 :=
  RowAt d c s (6 * num i + e) (row_lt i he) sem Y

theorem rowAt_congr {r r' : ℕ} (h : r = r') (hr : r < 192) (hr' : r' < 192) (sem : DmaSem sig) (Y : Vec F S1024 .f32) : RowAt d c s r hr sem Y = RowAt d c s r' hr' sem Y := by
  subst h; rfl

theorem passAt_run (hL : ∀ b, b < 2 → Labels (Lr A b)) (i : grid0.Coords) (e : ℕ) {he : e < 4} (h6 : e + 3 ≤ 6) {s0 s1 s2 : DmaSem sig} {k : PG F c s β} :
    iprop(Base d c s q₀ q₁ A B O W ∗ (∃ Y, TileRow (F := F) d c s i e (by omega) s0 Y) ∗ (∃ Y, TileRow (F := F) d c s i (e + 1) (by omega) s1 Y) ∗ (∃ Y, TileRow (F := F) d c s i (e + 2) (by omega) s2 Y))
      ⊢ iprop((iprop(Base d c s q₀ q₁ A B O W ∗ TileRow d c s i e (by omega) s0 (outRow A B (6 * num i + e)) ∗ TileRow d c s i (e + 1) (by omega) s1 (outRow A B (6 * num i + (e + 1)))
          ∗ TileRow d c s i (e + 2) (by omega) s2 (outRow A B (6 * num i + (e + 2)))) -∗ Run d k Q)
        -∗ Run d (passAtK i e he s0 s1 s2 k) Q) := by
  have hn := num_lt i
  have r0 := outRow_toNat i (r := 0) he (by decide)
  have r1 := outRow_toNat i (r := 1) he (by decide)
  have r2 := outRow_toNat i (r := 2) he (by decide)
  have hp := plane0_toNat i he
  have hb := batchOf_toNat i he
  simp only [TileRow]
  simp only [rowAt_congr (F := F) (d := d) (c := c) (s := s) (show 6 * num i + e = _ from r0.symm) _ (outRow_lt i he (by decide)),
    rowAt_congr (F := F) (d := d) (c := c) (s := s) (show 6 * num i + (e + 1) = _ from r1.symm) _ (outRow_lt i he (by decide)),
    rowAt_congr (F := F) (d := d) (c := c) (s := s) (show 6 * num i + (e + 2) = _ from r2.symm) _ (outRow_lt i he (by decide))]
  rw [show outRow A B (6 * num i + e) = outRow A B _ from congrArg _ r0.symm, show outRow A B (6 * num i + (e + 1)) = outRow A B _ from congrArg _ r1.symm,
    show outRow A B (6 * num i + (e + 2)) = outRow A B _ from congrArg _ r2.symm]
  exact pass_run (hL _ (batch_lt i he)) (by omega) (by omega) (by omega) (by omega) (by omega) (by omega)

/-- The six rows of a tile, with the semaphores they are sent on. -/
abbrev Rows (d : Dev nD) (c : Fin τ.nSC) (s : Fin τ.nSub) (i : grid0.Coords) (Y0 Y1 Y2 Y3 Y4 Y5 : Vec F S1024 .f32) : sProp 𝕄 :=
  iprop((TileRow d c s i 0 (by decide) cc0_scoped0.sem Y0 ∗ TileRow d c s i 1 (by decide) cc0_scoped1.sem Y1 ∗ TileRow d c s i 2 (by decide) cc0_scoped2.sem Y2)
    ∗ (TileRow d c s i 3 (by decide) cc0_scoped3.sem Y3 ∗ TileRow d c s i 4 (by decide) cc0_scoped4.sem Y4 ∗ TileRow d c s i 5 (by decide) cc0_scoped5.sem Y5))

theorem kernel_run (hL : ∀ b, b < 2 → Labels (Lr A b)) (i : grid0.Coords) {Y0 Y1 Y2 Y3 Y4 Y5 : Vec F S1024 .f32} {R : PUnit → sProp (MT nD τ sig (HIx 1) (Elt F) ℕ UU ℕ)} :
    iprop(Base d c s q₀ q₁ A B O W ∗ Rows d c s i Y0 Y1 Y2 Y3 Y4 Y5)
      ⊢ iprop((iprop(Base d c s q₀ q₁ A B O W ∗ Rows d c s i (outRow A B (6 * num i + 0)) (outRow A B (6 * num i + 1)) (outRow A B (6 * num i + 2))
          (outRow A B (6 * num i + 3)) (outRow A B (6 * num i + 4)) (outRow A B (6 * num i + 5))) -∗ R ⟨⟩)
        -∗ Run d (kernelK (F := F) (c := c) (s := s) i) R) := by
  unfold kernelK
  iintro ⟨HB, ⟨H0, H1, H2⟩, H3, H4, H5⟩ Hk
  iapply (run_assume rlane_chk)
  iapply (passAt_run hL i 0 (by decide)) $$ [HB H0 H1 H2]
  · isplitl [HB]; · iexact HB
    isplitl [H0]; · iexists _; iexact H0
    isplitl [H1]; · iexists _; iexact H1
    iexists _; iexact H2
  iintro ⟨HB, H0, H1, H2⟩
  iapply (passAt_run hL i 3 (by decide)) $$ [HB H3 H4 H5]
  · isplitl [HB]; · iexact HB
    isplitl [H3]; · iexists _; iexact H3
    isplitl [H4]; · iexists _; iexact H4
    iexists _; iexact H5
  iintro ⟨HB, H3, H4, H5⟩
  rw [show Run d (Prog.ret PUnit.unit : PG F c s PUnit) R = iprop(|={Set.univ}[frame]=> R ⟨⟩) from rfl]; imodintro
  iapply Hk
  isplitl [HB]; · iexact HB
  isplitl [H0 H1 H2]
  · isplitl [H0]; · iexact H0
    isplitl [H1]; · iexact H1
    iexact H2
  isplitl [H3]; · iexact H3
  isplitl [H4]; · iexact H4
  iexact H5
end

end Cert.Proof.Tile
-- ==== Proof.Dealt.lean ====
/-
  What a tile is dealt by the launch, and what it gives back: its scratch and its semaphores, unpacked; the rows of the result.
-/
module

public import proofs.«01_k».proof.Proof.Kernel

@[expose] public section

set_option maxRecDepth 16384

noncomputable section

namespace Cert.Proof.Tile

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {c : Fin τ.nSC} {s : Fin τ.nSub} {β : Type}

/-! ## What a tile is dealt, unpacked -/

/-- The members of a list, one by one, and the rest. -/
theorem bigSep_take {I : Type} [DecidableEq I] {Φ : I → sProp 𝕄} :
    ∀ (l : List I) (t : Finset I), l.Nodup → (∀ i ∈ l, i ∈ t) → bigSep t Φ = l.foldr (fun i R => iprop(Φ i ∗ R)) (bigSep (t \ l.toFinset) Φ)
  | [], t, _, _ => by simp
  | i :: l, t, hn, ht => by
    have hn' := List.nodup_cons.1 hn
    rw [SparseCore.bigSep_erase' (ht i List.mem_cons_self), bigSep_take l (t.erase i) hn'.2 fun j hj =>
      Finset.mem_erase.2 ⟨fun e => hn'.1 (e ▸ hj), ht j (List.mem_cons_of_mem _ hj)⟩]
    rw [show t.erase i \ l.toFinset = t \ (i :: l).toFinset from by
      ext x; simp only [Finset.mem_sdiff, Finset.mem_erase, List.mem_toFinset, List.mem_cons]; tauto]
    rfl

/-- The scratch buffers, and the semaphores. -/
def bufL : List (Ref sig .scVector) :=
  [cc0_scratch0, cc0_scratch1, cc0_scratch2, cc0_scratch3, cc0_scratch4, cc0_scratch5, cc0_scratch6, cc0_scratch7, cc0_scratch8, cc0_scratch9, cc0_scratch10,
    cc0_scratch11, cc0_scratch12, cc0_scratch13]
def semL : List (SemLoc sig) :=
  [.dma semL0, .dma semL1, .dma semI0, .dma semI1, .dma cc0_scoped0.sem, .dma cc0_scoped1.sem, .dma cc0_scoped2.sem, .dma cc0_scoped3.sem, .dma cc0_scoped4.sem, .dma cc0_scoped5.sem]

theorem bufL_nodup : bufL.Nodup := by decide
theorem semL_nodup : semL.Nodup := by decide
theorem semL_scoped : ∀ x ∈ semL, x.isScoped .scVector = true := by decide

/-- A buffer of the tile, at some contents. -/
abbrev Any (d : Dev nD) (c : Fin τ.nSC) (s : Fin τ.nSub) (b : Ref sig .scVector) : sProp 𝕄 := iprop(∃ f, (V d c s).loc b ↦{fullShare} f)

theorem bufs_eq (d : Dev nD) (c : Fin τ.nSC) (s : Fin τ.nSub) : ∃ R : sProp 𝕄, (ownBufs (V d c s) : sProp 𝕄)
    = iprop(Any (F := F) d c s cc0_scratch0 ∗ Any (F := F) d c s cc0_scratch1 ∗ Any (F := F) d c s cc0_scratch2 ∗ Any (F := F) d c s cc0_scratch3 ∗ Any (F := F) d c s cc0_scratch4
      ∗ Any (F := F) d c s cc0_scratch5 ∗ Any (F := F) d c s cc0_scratch6 ∗ Any (F := F) d c s cc0_scratch7 ∗ Any (F := F) d c s cc0_scratch8 ∗ Any (F := F) d c s cc0_scratch9
      ∗ Any (F := F) d c s cc0_scratch10 ∗ Any (F := F) d c s cc0_scratch11 ∗ Any (F := F) d c s cc0_scratch12 ∗ Any (F := F) d c s cc0_scratch13 ∗ R) := by
  unfold SparseCore.Cfg.ownBufs
  exact ⟨_, bigSep_take (bufL.map (Proc.scVector c s).devRef) _ ((List.nodup_map_iff (Proc.devRef_injective _)).2 bufL_nodup) (by
    intro i hi
    obtain ⟨b, hb, rfl⟩ := List.mem_map.1 hi
    refine SparseCore.Cfg.mem_ownRefs_of_owner (p := Proc.scVector c s) ?_
    fin_cases hb <;> rfl)⟩

theorem sems_eq (d : Dev nD) (c : Fin τ.nSC) (s : Fin τ.nSub) : ∃ R : sProp 𝕄, (ownSems0 (V d c s) : sProp 𝕄)
    = iprop(semVal (V d c s, .dma semL0) 0 ∗ semVal (V d c s, .dma semL1) 0 ∗ semVal (V d c s, .dma semI0) 0 ∗ semVal (V d c s, .dma semI1) 0
      ∗ semVal (V d c s, .dma cc0_scoped0.sem) 0 ∗ semVal (V d c s, .dma cc0_scoped1.sem) 0 ∗ semVal (V d c s, .dma cc0_scoped2.sem) 0
      ∗ semVal (V d c s, .dma cc0_scoped3.sem) 0 ∗ semVal (V d c s, .dma cc0_scoped4.sem) 0 ∗ semVal (V d c s, .dma cc0_scoped5.sem) 0 ∗ R) := by
  unfold SparseCore.Cfg.ownSems0
  exact ⟨_, bigSep_take (semL.map fun x => ((V d c s, x) : GSem nD τ sig)) _ ((List.nodup_map_iff fun x y e => (Prod.mk.inj e).2).2 semL_nodup) (by
    intro i hi
    obtain ⟨x, hx, rfl⟩ := List.mem_map.1 hi
    refine mem_ownCells.2 ⟨rfl, ?_⟩
    exact semL_scoped x hx)⟩

/-! ## Buffers as memrefs -/

theorem any_own (b : Ref sig .scVector) : (Any (F := F) d c s b : sProp 𝕄) = iprop(∃ X, owns (V d c s) (Memref.whole b) fullShare X) := by
  unfold Any
  congr 1
  funext X
  exact (owns_whole (V d c s) b fullShare X).symm

/-- A memref's own elements, at anything. -/
theorem own_any {sp : Space} {sh : Shape} {e : EltTy} (m : Memref sig .scVector sp sh e) :
    (iprop(∃ X, Own (F := F) d c s m X) : sProp 𝕄) ⊣⊢ iprop(∃ f, m.view.loc (V d c s) ↦[m.view.set]{fullShare} f) := by
  unfold Own owns
  constructor
  · iintro ⟨%X, %f, %hf, H⟩
    iexists f; iexact H
  · iintro ⟨%f, H⟩
    iexists _; iexists f
    isplitr; · ipureintro; rfl
    iexact H

/-- A buffer of two parts. -/
theorem halves {ℓ : Loc nD τ sig} {S0 S1 : Finset (Idx ℓ)} (hd : Disjoint S0 S1) (hu : S0 ∪ S1 = Finset.univ) :
    (iprop(∃ f, ℓ ↦{fullShare} f) : sProp 𝕄) ⊣⊢ iprop((∃ f, ℓ ↦[S0]{fullShare} f) ∗ ∃ f, ℓ ↦[S1]{fullShare} f) := by
  rw [← hu]
  constructor
  · iintro ⟨%f, H⟩
    ihave H := (pointsTo_union hd).1 $$ H
    icases H with ⟨H0, H1⟩
    isplitl [H0]; · iexists f; iexact H0
    iexists f; iexact H1
  · iintro ⟨⟨%f, H0⟩, %g, H1⟩
    iexists _
    iapply (pointsTo_join hd)
    isplitl [H0]; · iexact H0
    iexact H1

theorem mem_lab {sl : ℕ} (hsl : sl < 2) (j : S2x4096.Idx) : j ∈ (labDst sl hsl).view.set ↔ (j 0).val = sl := by
  constructor
  · intro h
    obtain ⟨x, -, rfl⟩ := Finset.mem_map.1 h
    rw [labDst_emb]; rfl
  · intro h
    refine Finset.mem_map.2 ⟨(ix1 (j 1) : S4096.Idx), Finset.mem_univ _, ?_⟩
    rw [labDst_emb]
    funext a
    match a with
    | 0 => exact Fin.ext h.symm
    | 1 => rfl

theorem mem_img {sl : ℕ} (hsl : sl < 2) (j : S2x3x4096.Idx) : j ∈ (imgDst sl hsl).view.set ↔ (j 0).val = sl := by
  constructor
  · intro h
    obtain ⟨x, -, rfl⟩ := Finset.mem_map.1 h
    rw [imgDst_emb]; rfl
  · intro h
    refine Finset.mem_map.2 ⟨(ix2 (j 1) (j 2) : S3x4096.Idx), Finset.mem_univ _, ?_⟩
    rw [imgDst_emb]
    funext a
    match a with
    | 0 => exact Fin.ext h.symm
    | 1 => rfl
    | 2 => rfl

/-- The elements of a slot of labels. -/
def labSet (sl : ℕ) : Finset S2x4096.Idx := Finset.univ.filter fun j => (j 0).val = sl

theorem labDst_set {sl : ℕ} (hsl : sl < 2) : (labDst sl hsl).view.set = labSet sl := by
  ext j
  rw [mem_lab]
  exact ⟨fun h => Finset.mem_filter.2 ⟨Finset.mem_univ _, h⟩, fun h => (Finset.mem_filter.1 h).2⟩
theorem lab_disjoint : Disjoint (labSet 0) (labSet 1) :=
  Finset.disjoint_left.2 fun j h0 h1 => by
    have e0 := (Finset.mem_filter.1 h0).2
    have e1 := (Finset.mem_filter.1 h1).2
    omega
theorem lab_cover : labSet 0 ∪ labSet 1 = Finset.univ :=
  Finset.eq_univ_iff_forall.2 fun j => Finset.mem_union.2 (by
    have h : (j 0).val < 2 := (j 0).isLt
    rcases (by omega : (j 0).val = 0 ∨ (j 0).val = 1) with e | e
    · exact .inl (Finset.mem_filter.2 ⟨Finset.mem_univ _, e⟩)
    · exact .inr (Finset.mem_filter.2 ⟨Finset.mem_univ _, e⟩))
theorem lab_any {sl : ℕ} (hsl : sl < 2) : (iprop(∃ X, Own (F := F) d c s (labDst sl hsl) X) : sProp 𝕄) ⊣⊢ iprop(∃ f, (V d c s).loc cc0_scratch0 ↦[labSet sl]{fullShare} f) := by
  rw [← labDst_set hsl]
  exact own_any (labDst sl hsl)

theorem slots_lab : (Any (F := F) d c s cc0_scratch0 : sProp 𝕄)
    ⊣⊢ iprop((∃ X, Own (F := F) d c s (labDst 0 (by decide)) X) ∗ ∃ X, Own (F := F) d c s (labDst 1 (by decide)) X) := by
  have h := halves (F := F) (ℓ := (V d c s).loc cc0_scratch0) lab_disjoint lab_cover
  exact ⟨h.1.trans (BI.sep_mono (lab_any _).2 (lab_any _).2), (BI.sep_mono (lab_any _).1 (lab_any _).1).trans h.2⟩

/-- The elements of a slot of planes. -/
def imgSet (sl : ℕ) : Finset S2x3x4096.Idx := Finset.univ.filter fun j => (j 0).val = sl

theorem imgDst_set {sl : ℕ} (hsl : sl < 2) : (imgDst sl hsl).view.set = imgSet sl := by
  ext j
  rw [mem_img]
  exact ⟨fun h => Finset.mem_filter.2 ⟨Finset.mem_univ _, h⟩, fun h => (Finset.mem_filter.1 h).2⟩
theorem img_disjoint : Disjoint (imgSet 0) (imgSet 1) :=
  Finset.disjoint_left.2 fun j h0 h1 => by
    have e0 := (Finset.mem_filter.1 h0).2
    have e1 := (Finset.mem_filter.1 h1).2
    omega
theorem img_cover : imgSet 0 ∪ imgSet 1 = Finset.univ :=
  Finset.eq_univ_iff_forall.2 fun j => Finset.mem_union.2 (by
    have h : (j 0).val < 2 := (j 0).isLt
    rcases (by omega : (j 0).val = 0 ∨ (j 0).val = 1) with e | e
    · exact .inl (Finset.mem_filter.2 ⟨Finset.mem_univ _, e⟩)
    · exact .inr (Finset.mem_filter.2 ⟨Finset.mem_univ _, e⟩))
theorem img_any {sl : ℕ} (hsl : sl < 2) : (iprop(∃ X, Own (F := F) d c s (imgDst sl hsl) X) : sProp 𝕄) ⊣⊢ iprop(∃ f, (V d c s).loc cc0_scratch1 ↦[imgSet sl]{fullShare} f) := by
  rw [← imgDst_set hsl]
  exact own_any (imgDst sl hsl)

theorem slots_img : (Any (F := F) d c s cc0_scratch1 : sProp 𝕄)
    ⊣⊢ iprop((∃ X, Own (F := F) d c s (imgDst 0 (by decide)) X) ∗ ∃ X, Own (F := F) d c s (imgDst 1 (by decide)) X) := by
  have h := halves (F := F) (ℓ := (V d c s).loc cc0_scratch1) img_disjoint img_cover
  exact ⟨h.1.trans (BI.sep_mono (img_any _).2 (img_any _).2), (BI.sep_mono (img_any _).1 (img_any _).1).trans h.2⟩

theorem clr_any {b : Memref sig .scVector .vmem S8192 .f32} : (Clr (F := F) d c s b 0 : sProp 𝕄) ⊣⊢ iprop(∃ X, Own (F := F) d c s b X) := by
  constructor
  · unfold Clr
    iintro ⟨%X, -, H⟩
    iexists X; iexact H
  · iintro ⟨%X, H⟩
    iapply clr_of $$ H

/-! ## The rows of a tile -/

/-- The elements of row `r`; of tile `i`'s six rows; of SparseCore `k`'s. -/
def rowSet (r : ℕ) : Finset S192x1024.Idx := Finset.univ.filter fun j => (j 0).val = r
def tileSet (n : ℕ) : Finset S192x1024.Idx := Finset.univ.filter fun j => (j 0).val / 6 = n
def coreSet (k : ℕ) : Finset S192x1024.Idx := Finset.univ.filter fun j => (j 0).val / 6 % 2 = k

theorem outDst_emb {r : ℕ} (hr : r < 192) (j : S1024.Idx) : (outDst r hr).view.emb j = (ix2 ⟨r, hr⟩ (j 0) : S192x1024.Idx) := by
  have e : Shape.reshapeEquiv squeezes_S1x1024_S1024.numel_eq j = (ix2 ⟨0, Nat.one_pos⟩ (j 0) : S1x1024.Idx) :=
    Shape.reshapeEquiv_eq_of_rowMajor _ (by
      rw [Shape.rowMajor_val_two, Shape.rowMajor_val_one]
      show 0 * 1024 + (j 0).val = (j 0).val
      omega)
  show (Rect.unit (s := S192x1024) ![r, 0] S1x1024.size (outDst_inb hr)).emb (Shape.reshapeEquiv squeezes_S1x1024_S1024.numel_eq j) = _
  rw [e]
  funext a; apply Fin.ext; rw [Rect.emb_apply]
  match a with
  | 0 => show r + 1 * 0 = r; omega
  | 1 => show 0 + 1 * (j 0).val = (j 0).val; omega

theorem outDst_set {r : ℕ} (hr : r < 192) : (outDst r hr).view.set = rowSet r := by
  ext j
  unfold rowSet
  rw [Finset.mem_filter]
  constructor
  · intro h
    obtain ⟨x, -, rfl⟩ := Finset.mem_map.1 h
    rw [outDst_emb]; exact ⟨Finset.mem_univ _, rfl⟩
  · intro h
    refine Finset.mem_map.2 ⟨(ix1 (j 1) : S1024.Idx), Finset.mem_univ _, ?_⟩
    rw [outDst_emb]
    funext a
    match a with
    | 0 => exact Fin.ext h.2.symm
    | 1 => rfl

/-- The result, whole. -/
def outBuf (A : IVec S2x262144 32) (B : FVec F S192x262144 .f32) : FVec F S192x1024 .f32 := fun j => outRow A B (j 0).val (ix1 (j 1) : S1024.Idx)

/-- The elements of a row at the whole result are the row's memref at that row of it. -/
theorem row_at (A : IVec S2x262144 32) (B : FVec F S192x262144 .f32) {r : ℕ} (hr : r < 192) :
    (Own (F := F) d c s (outDst r hr) (outRow A B r) : sProp 𝕄) ⊢ mOut.view.loc (V d c s) ↦[rowSet r]{fullShare} outBuf A B := by
  unfold Own owns
  rw [outDst_set]
  iintro ⟨%f, %hf, H⟩
  have e : (mOut.view.loc (V d c s) ↦[rowSet r]{fullShare} f : sProp 𝕄) = mOut.view.loc (V d c s) ↦[rowSet r]{fullShare} outBuf A B := by
    refine pointsTo_congr fun j hj => ?_
    obtain ⟨x, rfl⟩ : ∃ x : S1024.Idx, (outDst r hr).view.emb x = j := by
      rw [← outDst_set hr] at hj
      obtain ⟨x, -, hx⟩ := Finset.mem_map.1 hj
      exact ⟨x, hx⟩
    refine Eq.trans (b := outRow A B r x) (congrFun hf x) ?_
    rw [outDst_emb]
    show outRow A B r x = outRow A B r (ix1 (x 0))
    congr 1
    funext a
    rw [Subsingleton.elim a 0]
    rfl
  iapply (Entails.of_eq e) $$ H

theorem row_of (f : FVec F S192x1024 .f32) {r : ℕ} (hr : r < 192) :
    (mOut.view.loc (V d c s) ↦[rowSet r]{fullShare} f : sProp 𝕄) ⊢ ∃ Y, Own (F := F) d c s (outDst r hr) Y := by
  rw [← outDst_set hr]
  iintro H
  iapply (own_any (outDst r hr)).2
  iexists f; iexact H

theorem tileSet_rows (n : ℕ) : tileSet n = (Finset.univ : Finset (Fin 6)).biUnion fun e => rowSet (6 * n + e.val) := by
  ext j
  simp only [tileSet, rowSet, Finset.mem_filter, Finset.mem_univ, true_and, Finset.mem_biUnion]
  constructor
  · intro h; exact ⟨⟨(j 0).val % 6, Nat.mod_lt _ (by decide)⟩, by show (j 0).val = 6 * n + (j 0).val % 6; omega⟩
  · rintro ⟨e, he⟩; have := e.isLt; omega

theorem rowSet_disjoint {r r' : ℕ} (h : r ≠ r') : Disjoint (rowSet r) (rowSet r') :=
  Finset.disjoint_left.2 fun _ h0 h1 => h ((Finset.mem_filter.1 h0).2.symm.trans (Finset.mem_filter.1 h1).2)

theorem tile_rows (n : ℕ) (f : FVec F S192x1024 .f32) : (mOut.view.loc (V d c s) ↦[tileSet n]{fullShare} f : sProp 𝕄)
    = iprop((mOut.view.loc (V d c s) ↦[rowSet (6 * n + 0)]{fullShare} f) ∗ (mOut.view.loc (V d c s) ↦[rowSet (6 * n + 1)]{fullShare} f) ∗ (mOut.view.loc (V d c s) ↦[rowSet (6 * n + 2)]{fullShare} f)
      ∗ (mOut.view.loc (V d c s) ↦[rowSet (6 * n + 3)]{fullShare} f) ∗ (mOut.view.loc (V d c s) ↦[rowSet (6 * n + 4)]{fullShare} f) ∗ (mOut.view.loc (V d c s) ↦[rowSet (6 * n + 5)]{fullShare} f)) := by
  rw [tileSet_rows]
  refine (pointsTo_biUnion (ℓ := mOut.view.loc (V d c s)) Finset.univ (fun e : Fin 6 => rowSet (6 * n + e.val)) fun e _ e' _ h => rowSet_disjoint fun hh => h (Fin.ext (by omega))).trans ?_
  rw [show (Finset.univ : Finset (Fin 6)) = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton]
  rfl

/-! ## The tile's run, from what it is dealt to what it gives back -/

/-- A share dealt in two. -/
theorem two_shares {ℓ : Loc nD τ sig} (q : PosShare TreeShare) (f : Buf (Elt F) ℓ) :
    (ℓ ↦{q} f : sProp 𝕄) = iprop((ℓ ↦{Transfers.dealOf q Finset.univ (0 : Fin 2)} f) ∗ ℓ ↦{Transfers.dealOf q Finset.univ (1 : Fin 2)} f) := by
  rw [Transfers.pointsTo_deal (Finset.univ : Finset (Fin 2)) Finset.univ_nonempty q]
  exact BI.bigSep_fin_two _

section
variable {q : PosShare TreeShare} {A : IVec S2x262144 32} {B : FVec F S192x262144 .f32} {O : CellTallies nD τ sig (HIx 1)} {W : Waits sig (HIx 1)}

/-- What the launch deals a tile of the arrays: a share of the two it reads, its rows of the result at `f`. -/
abbrev Got (d : Dev nD) (c : Fin τ.nSC) (s : Fin τ.nSub) (q : PosShare TreeShare) (A : IVec S2x262144 32) (B : FVec F S192x262144 .f32) (n : ℕ) (f : FVec F S192x1024 .f32) : sProp 𝕄 :=
  iprop((locL d c s ↦{q} A) ∗ (locI d c s ↦{q} B) ∗ mOut.view.loc (V d c s) ↦[tileSet n]{fullShare} f)

/-- The scratch and the semaphores, as the run wants them. -/
abbrev Kit (d : Dev nD) (c : Fin τ.nSC) (s : Fin τ.nSub) : sProp 𝕄 :=
  iprop(((∃ X, Own (F := F) d c s (labDst 0 (by decide)) X) ∗ ∃ X, Own (F := F) d c s (labDst 1 (by decide)) X)
    ∗ ((∃ X, Own (F := F) d c s (imgDst 0 (by decide)) X) ∗ ∃ X, Own (F := F) d c s (imgDst 1 (by decide)) X)
    ∗ Clr (F := F) d c s mA0 0 ∗ Clr (F := F) d c s mA1 0 ∗ Clr (F := F) d c s mA2 0 ∗ Clr (F := F) d c s mB0 0 ∗ Clr (F := F) d c s mB1 0 ∗ Clr (F := F) d c s mB2 0
    ∗ Clr (F := F) d c s mC0 0 ∗ Clr (F := F) d c s mC1 0 ∗ Clr (F := F) d c s mC2 0
    ∗ (∃ X, Own (F := F) d c s mRow X) ∗ (∃ X, Own (F := F) d c s mRi X) ∗ ∃ X, Own (F := F) d c s mRf X)

theorem kit_eq (d : Dev nD) (c : Fin τ.nSC) (s : Fin τ.nSub) : ∃ R : sProp 𝕄, (ownBufs (V d c s) : sProp 𝕄) = iprop(Kit (F := F) d c s ∗ R) := by
  obtain ⟨R, h⟩ := bufs_eq (F := F) d c s
  have e (b : Ref sig .scVector) {m : Memref sig .scVector .vmem S8192 .f32} (hm : (Any (F := F) d c s b : sProp 𝕄) = iprop(∃ X, Own (F := F) d c s m X)) :
      (Any (F := F) d c s b : sProp 𝕄) = Clr (F := F) d c s m 0 := hm.trans (BI.Entails.antisymm clr_any.2 clr_any.1)
  refine ⟨R, h.trans ?_⟩
  rw [BI.Entails.antisymm slots_lab.1 slots_lab.2, BI.Entails.antisymm slots_img.1 slots_img.2,
    e cc0_scratch2 (m := mA0) (any_own _), e cc0_scratch3 (m := mA1) (any_own _), e cc0_scratch4 (m := mA2) (any_own _),
    e cc0_scratch5 (m := mB0) (any_own _), e cc0_scratch6 (m := mB1) (any_own _), e cc0_scratch7 (m := mB2) (any_own _),
    e cc0_scratch8 (m := mC0) (any_own _), e cc0_scratch9 (m := mC1) (any_own _), e cc0_scratch10 (m := mC2) (any_own _),
    any_own cc0_scratch11, any_own cc0_scratch12, any_own cc0_scratch13]
  apply BI.Entails.antisymm
  · show (_ : sProp 𝕄) ⊢ (_ : sProp 𝕄)
    iintro ⟨HL, HI, A0, A1, A2, B0, B1, B2, C0, C1, C2, HX, HR, HS, H⟩
    isplitr [H]
    · isplitl [HL]; · iexact HL
      isplitl [HI]; · iexact HI
      isplitl [A0]; · iexact A0
      isplitl [A1]; · iexact A1
      isplitl [A2]; · iexact A2
      isplitl [B0]; · iexact B0
      isplitl [B1]; · iexact B1
      isplitl [B2]; · iexact B2
      isplitl [C0]; · iexact C0
      isplitl [C1]; · iexact C1
      isplitl [C2]; · iexact C2
      isplitl [HX]; · iexact HX
      isplitl [HR]; · iexact HR
      iexact HS
    iexact H
  · show (_ : sProp 𝕄) ⊢ (_ : sProp 𝕄)
    iintro ⟨⟨HL, HI, A0, A1, A2, B0, B1, B2, C0, C1, C2, HX, HR, HS⟩, H⟩
    isplitl [HL]; · iexact HL
    isplitl [HI]; · iexact HI
    isplitl [A0]; · iexact A0
    isplitl [A1]; · iexact A1
    isplitl [A2]; · iexact A2
    isplitl [B0]; · iexact B0
    isplitl [B1]; · iexact B1
    isplitl [B2]; · iexact B2
    isplitl [C0]; · iexact C0
    isplitl [C1]; · iexact C1
    isplitl [C2]; · iexact C2
    isplitl [HX]; · iexact HX
    isplitl [HR]; · iexact HR
    isplitl [HS]; · iexact HS
    iexact H

theorem row_out (A : IVec S2x262144 32) (B : FVec F S192x262144 .f32) (i : grid0.Coords) {e : ℕ} (he : e < 6) :
    (Own (F := F) d c s (outDst (6 * num i + e) (row_lt i he)) (outRow A B (6 * num i + e)) : sProp 𝕄) ⊢ mOut.view.loc (V d c s) ↦[rowSet (6 * num i + e)]{fullShare} outBuf A B :=
  row_at A B _

theorem row_in (f : FVec F S192x1024 .f32) (i : grid0.Coords) {e : ℕ} (he : e < 6) :
    (mOut.view.loc (V d c s) ↦[rowSet (6 * num i + e)]{fullShare} f : sProp 𝕄) ⊢ ∃ Y, Own (F := F) d c s (outDst (6 * num i + e) (row_lt i he)) Y :=
  row_of f _

theorem owes_elim : Owes (F := F) d c s O W ⊢ ∃ W' : Waits sig (HIx 1), ⌜∀ p ∈ W', p ∈ W ∨ p.2 = none⌝ ∗ owes (V d c s) O W' := by
  unfold Owes
  iintro ⟨-, H⟩
  iexact H

theorem tile_run (hL : ∀ b, b < 2 → Labels (Lr A b)) (i : grid0.Coords) (f : FVec F S192x1024 .f32) :
    iprop(Transfers.MayWaits (V d c s) none O ∗ Got (F := F) d c s q A B (num i) f ∗ ownBufs (V d c s) ∗ ownSems0 (V d c s) ∗ owes (V d c s) O W)
      ⊢ Run d (kernelK (F := F) (c := c) (s := s) i) fun _ => iprop(Got (F := F) d c s q A B (num i) (outBuf A B) ∗ ownBufs (V d c s) ∗ ownSems0 (V d c s)
          ∗ ∃ W' : Waits sig (HIx 1), ⌜∀ p ∈ W', p ∈ W ∨ p.2 = none⌝ ∗ owes (V d c s) O W') := by
  obtain ⟨R, hR⟩ := kit_eq (F := F) d c s
  obtain ⟨R', hR'⟩ := sems_eq (F := F) d c s
  rw [hR, hR']
  unfold Got
  rw [two_shares (ℓ := locL d c s) q A, two_shares (ℓ := locI d c s) q B, tile_rows, tile_rows]
  iintro ⟨HM, ⟨⟨HA0, HA1⟩, ⟨HB0, HB1⟩, Y0, Y1, Y2, Y3, Y4, Y5⟩, ⟨⟨⟨L0, L1⟩, ⟨I0, I1⟩, A0, A1, A2, B0, B1, B2, C0, C1, C2, HX, HRi, HRf⟩, HR⟩,
    ⟨V0, V1, V2, V3, S0, S1, S2, S3, S4, S5, HR'⟩, HO⟩
  ihave Y0 := (row_in f i (e := 0) (by decide)) $$ Y0
  ihave Y1 := (row_in f i (e := 1) (by decide)) $$ Y1
  ihave Y2 := (row_in f i (e := 2) (by decide)) $$ Y2
  ihave Y3 := (row_in f i (e := 3) (by decide)) $$ Y3
  ihave Y4 := (row_in f i (e := 4) (by decide)) $$ Y4
  ihave Y5 := (row_in f i (e := 5) (by decide)) $$ Y5
  icases Y0 with ⟨%y0, Y0⟩
  icases Y1 with ⟨%y1, Y1⟩
  icases Y2 with ⟨%y2, Y2⟩
  icases Y3 with ⟨%y3, Y3⟩
  icases Y4 with ⟨%y4, Y4⟩
  icases Y5 with ⟨%y5, Y5⟩
  iapply (kernel_run hL i) $$ [HM HA0 HA1 HB0 HB1 Y0 Y1 Y2 Y3 Y4 Y5 L0 L1 I0 I1 A0 A1 A2 B0 B1 B2 C0 C1 C2 HX HRi HRf V0 V1 V2 V3 S0 S1 S2 S3 S4 S5 HO]
  · isplitr [Y0 Y1 Y2 Y3 Y4 Y5 S0 S1 S2 S3 S4 S5]
    · isplitl [HA0 HA1 HB0 HB1 L0 L1 I0 I1 V0 V1 V2 V3 HRi HRf]
      · isplitl [L0 I0 HA0 HB0 V0 V2]
        · isplitl [L0]; · iexact L0
          isplitl [I0]; · iexact I0
          isplitl [HA0 V0]
          · isplitl [HA0]; · iexact HA0
            iexact V0
          isplitl [HB0]; · iexact HB0
          iexact V2
        isplitl [L1 I1 HA1 HB1 V1 V3]
        · isplitl [L1]; · iexact L1
          isplitl [I1]; · iexact I1
          isplitl [HA1 V1]
          · isplitl [HA1]; · iexact HA1
            iexact V1
          isplitl [HB1]; · iexact HB1
          iexact V3
        isplitl [HRi]; · iexact HRi
        iexact HRf
      isplitl [A0 A1 A2 B0 B1 B2 C0 C1 C2]
      · isplitl [A0 B0 C0]
        · isplitl [A0]; · iexact A0
          isplitl [B0]; · iexact B0
          iexact C0
        isplitl [A1 B1 C1]
        · isplitl [A1]; · iexact A1
          isplitl [B1]; · iexact B1
          iexact C1
        isplitl [A2]; · iexact A2
        isplitl [B2]; · iexact B2
        iexact C2
      isplitl [HX]; · iexact HX
      unfold Owes
      isplitl [HM]; · iexact HM
      iexists W
      isplitr; · ipureintro; exact fun p hp => .inl hp
      iexact HO
    isplitl [Y0 Y1 Y2 S0 S1 S2]
    · isplitl [Y0 S0]
      · isplitl [Y0]; · iexact Y0
        iexact S0
      isplitl [Y1 S1]
      · isplitl [Y1]; · iexact Y1
        iexact S1
      isplitl [Y2]; · iexact Y2
      iexact S2
    isplitl [Y3 S3]
    · isplitl [Y3]; · iexact Y3
      iexact S3
    isplitl [Y4 S4]
    · isplitl [Y4]; · iexact Y4
      iexact S4
    isplitl [Y5]; · iexact Y5
    iexact S5
  iintro ⟨⟨⟨⟨L0, I0, ⟨HA0, V0⟩, HB0, V2⟩, ⟨L1, I1, ⟨HA1, V1⟩, HB1, V3⟩, HRi, HRf⟩, ⟨⟨A0, B0, C0⟩, ⟨A1, B1, C1⟩, A2, B2, C2⟩, HX, HO⟩,
    ⟨⟨Y0, S0⟩, ⟨Y1, S1⟩, Y2, S2⟩, ⟨Y3, S3⟩, ⟨Y4, S4⟩, Y5, S5⟩
  isplitl [HA0 HA1 HB0 HB1 Y0 Y1 Y2 Y3 Y4 Y5]
  · isplitl [HA0 HA1]
    · isplitl [HA0]; · iexact HA0
      iexact HA1
    isplitl [HB0 HB1]
    · isplitl [HB0]; · iexact HB0
      iexact HB1
    isplitl [Y0]; · iapply (row_out A B i (e := 0) (by decide)) $$ Y0
    isplitl [Y1]; · iapply (row_out A B i (e := 1) (by decide)) $$ Y1
    isplitl [Y2]; · iapply (row_out A B i (e := 2) (by decide)) $$ Y2
    isplitl [Y3]; · iapply (row_out A B i (e := 3) (by decide)) $$ Y3
    isplitl [Y4]; · iapply (row_out A B i (e := 4) (by decide)) $$ Y4
    iapply (row_out A B i (e := 5) (by decide)) $$ Y5
  isplitl [L0 L1 I0 I1 A0 A1 A2 B0 B1 B2 C0 C1 C2 HX HRi HRf HR]
  · isplitr [HR]
    · isplitl [L0 L1]
      · isplitl [L0]; · iexact L0
        iexact L1
      isplitl [I0 I1]
      · isplitl [I0]; · iexact I0
        iexact I1
      isplitl [A0]; · iexact A0
      isplitl [A1]; · iexact A1
      isplitl [A2]; · iexact A2
      isplitl [B0]; · iexact B0
      isplitl [B1]; · iexact B1
      isplitl [B2]; · iexact B2
      isplitl [C0]; · iexact C0
      isplitl [C1]; · iexact C1
      isplitl [C2]; · iexact C2
      isplitl [HX]; · iexact HX
      isplitl [HRi]; · iexact HRi
      iexact HRf
    iexact HR
  isplitl [V0 V1 V2 V3 S0 S1 S2 S3 S4 S5 HR']
  · isplitl [V0]; · iexact V0
    isplitl [V1]; · iexact V1
    isplitl [V2]; · iexact V2
    isplitl [V3]; · iexact V3
    isplitl [S0]; · iexact S0
    isplitl [S1]; · iexact S1
    isplitl [S2]; · iexact S2
    isplitl [S3]; · iexact S3
    isplitl [S4]; · iexact S4
    isplitl [S5]; · iexact S5
    iexact HR'
  iapply owes_elim $$ HO
end

end Cert.Proof.Tile
-- ==== Proof.Launch.lean ====
/-
  The launch: the two SparseCores and their thirty-two tiles are each dealt a share of the labels and of the planes and their
  rows of the result, and give them back with the rows computed; around the call, the arrays are reshaped on the TensorCore.
-/
module

public import proofs.«01_k».proof.Proof.Dealt
public import Idealize.ShloMosaic.Lib.Pipeline.Kit

@[expose] public section

set_option maxRecDepth 16384

noncomputable section

namespace Cert.Proof.Launch

open Cert.KernelIdeal Cert.KernelIdeal.Gen

open Idealize.ShloMosaic
open Idealize.ShloMosaic.SparseCore (S V T)
open Idealize.ShloMosaic.SparseCore.Cfg (HIx Pay tileRest ownBufs ownSems0)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Proof.Tile (UH UU 𝒱₀ Lr Dr num kernelK kernel_eq tile_run Got tileSet coreSet outBuf outRow)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

abbrev dataLoc (d : Dev nD) : Loc nD τ sig := (SparseCore.T d).loc main_arg0
abbrev segLoc (d : Dev nD) : Loc nD τ sig := (SparseCore.T d).loc main_arg1
abbrev imgLoc (d : Dev nD) : Loc nD τ sig := (SparseCore.T d).loc main_v0
abbrev labLoc (d : Dev nD) : Loc nD τ sig := (SparseCore.T d).loc main_v1
abbrev outLoc (d : Dev nD) : Loc nD τ sig := (SparseCore.T d).loc main_v2
abbrev resLoc (d : Dev nD) : Loc nD τ sig := (SparseCore.T d).loc main_v3

/-- The planes, one a row, and the labels, one image a row, as the tiles read them. -/
def planes (d : Dev nD) : FVec F S192x262144 .f32 := shapeCast S192x262144 (m (dataLoc d)) shapeCasts_S2x96x512x512_S192x262144
def labels (d : Dev nD) : IVec S2x262144 32 := shapeCast S2x262144 (m (segLoc d)) shapeCasts_S2x512x512_S2x262144

/-- What the run asks of the launch memory: every label names one of the thousand and twenty-four segments. -/
def InRange : Prop := ∀ d b, b < 2 → Cert.Proof.Tile.Labels (Lr (labels m d) b)

variable [FloatOps F]

/-- What the tiles leave, and the result. -/
def made (d : Dev nD) : FVec F S192x1024 .f32 := outBuf (labels m d) (planes m d)
def res (d : Dev nD) : FVec F S2x96x1024 .f32 := shapeCast S2x96x1024 (made m d) shapeCasts_S192x1024_S2x96x1024

/-! ## The shares -/

def coreShare (c : Fin 2) : PosShare TreeShare := Transfers.dealOf fullShare Finset.univ c
def tileShare (c : Fin 2) (s : Fin 16) : PosShare TreeShare := Transfers.dealOf (coreShare c) Finset.univ s

omit [FloatOps F] in
theorem coreSet_cover : (Finset.univ : Finset (Fin 2)).biUnion (fun c => coreSet c.val) = Finset.univ := by
  ext j
  simp only [coreSet, Finset.mem_filter, Finset.mem_univ, true_and, Finset.mem_biUnion, iff_true]
  exact ⟨⟨(j 0).val / 6 % 2, Nat.mod_lt _ (by decide)⟩, rfl⟩

omit [FloatOps F] in
theorem coreSet_tiles (c : Fin 2) : coreSet c.val = (Finset.univ : Finset (Fin 16)).biUnion fun s => tileSet (2 * s.val + c.val) := by
  ext j
  simp only [coreSet, tileSet, Finset.mem_filter, Finset.mem_univ, true_and, Finset.mem_biUnion]
  have hj : (j 0).val < 192 := (j 0).isLt
  have hc := c.isLt
  constructor
  · intro h; exact ⟨⟨(j 0).val / 12, by omega⟩, by show (j 0).val / 6 = 2 * ((j 0).val / 12) + c.val; omega⟩
  · rintro ⟨s, hs⟩; omega

omit [FloatOps F] in
theorem out_cores (d : Dev nD) (f : Buf (Elt F) (outLoc d)) :
    (outLoc d ↦{fullShare} f : sProp 𝕄) = bigSep Finset.univ fun c : Fin 2 => outLoc d ↦[coreSet c.val]{fullShare} f := by
  rw [← pointsTo_biUnion Finset.univ (ℓ := outLoc d) (fun c : Fin 2 => coreSet c.val) fun c _ c' _ h => Finset.disjoint_left.2 fun _ h0 h1 =>
    h (Fin.ext ((Finset.mem_filter.1 h0).2.symm.trans (Finset.mem_filter.1 h1).2)), coreSet_cover]
  try rfl

omit [FloatOps F] in
theorem out_tiles (d : Dev nD) (c : Fin 2) (f : Buf (Elt F) (outLoc d)) :
    (outLoc d ↦[coreSet c.val]{fullShare} f : sProp 𝕄) = bigSep Finset.univ fun s : Fin 16 => outLoc d ↦[tileSet (2 * s.val + c.val)]{fullShare} f := by
  rw [← pointsTo_biUnion Finset.univ (ℓ := outLoc d) (fun s : Fin 16 => tileSet (2 * s.val + c.val)) fun s _ s' _ h => Finset.disjoint_left.2 fun _ h0 h1 =>
    h (Fin.ext (by have := (Finset.mem_filter.1 h0).2.symm.trans (Finset.mem_filter.1 h1).2; omega)), ← coreSet_tiles]
  try rfl

/-! ## What the handshakes carry -/

abbrev ForAll (d : Dev nD) (f : Buf (Elt F) (outLoc d)) : sProp 𝕄 :=
  iprop((labLoc d ↦{fullShare} labels m d) ∗ (imgLoc d ↦{fullShare} planes m d) ∗ outLoc d ↦{fullShare} f)
abbrev ForCore (d : Dev nD) (c : Fin 2) (f : Buf (Elt F) (outLoc d)) : sProp 𝕄 :=
  iprop((labLoc d ↦{coreShare c} labels m d) ∗ (imgLoc d ↦{coreShare c} planes m d) ∗ outLoc d ↦[coreSet c.val]{fullShare} f)
abbrev ForTile (d : Dev nD) (c : Fin 2) (s : Fin 16) (f : Buf (Elt F) (outLoc d)) : sProp 𝕄 :=
  iprop((labLoc d ↦{tileShare c s} labels m d) ∗ (imgLoc d ↦{tileShare c s} planes m d) ∗ outLoc d ↦[tileSet (2 * s.val + c.val)]{fullShare} f)

omit [FloatOps F] in
theorem forAll_cores (d : Dev nD) (f : Buf (Elt F) (outLoc d)) : (ForAll m d f : sProp 𝕄) = bigSep Finset.univ fun c : Fin 2 => ForCore m d c f := by
  rw [bigSep_sep', bigSep_sep', ← out_cores]
  unfold coreShare
  rw [← Transfers.pointsTo_deal Finset.univ Finset.univ_nonempty, ← Transfers.pointsTo_deal Finset.univ Finset.univ_nonempty]

omit [FloatOps F] in
theorem forCore_tiles (d : Dev nD) (c : Fin 2) (f : Buf (Elt F) (outLoc d)) : (ForCore m d c f : sProp 𝕄) = bigSep Finset.univ fun s : Fin 16 => ForTile m d c s f := by
  rw [bigSep_sep', bigSep_sep', ← out_tiles]
  unfold tileShare
  rw [← Transfers.pointsTo_deal Finset.univ Finset.univ_nonempty, ← Transfers.pointsTo_deal Finset.univ Finset.univ_nonempty]

def P : (K (F := F)).Pay (nD := nD) (Val := Elt F) (Name := ℕ) (U := UU) where
  st := fun q d c => match q with | 0 => ForCore m d (Fin.cast nCore_zero c) (m (outLoc d))
  dn := fun q d c => match q with | 0 => ForCore m d (Fin.cast nCore_zero c) (made m d)
  go := fun q d c s => match q with | 0 => ForTile m d (Fin.cast nCore_zero c) (Fin.cast nSub_zero s) (m (outLoc d))
  td := fun q d c s => match q with | 0 => ForTile m d (Fin.cast nCore_zero c) (Fin.cast nSub_zero s) (made m d)
  x := fun _ _ => iprop(emp)

instance P_storable : (P (F := F) m).IsStorable where
  st q d c := match q with
    | 0 => (inferInstance : BI.Storable (upEmb : UEmb _ 𝕄) (ForCore m d (Fin.cast nCore_zero c) (m (outLoc d))))
  dn q d c := match q with
    | 0 => (inferInstance : BI.Storable (upEmb : UEmb _ 𝕄) (ForCore m d (Fin.cast nCore_zero c) (made m d)))
  go q d c s := match q with
    | 0 => (inferInstance : BI.Storable (upEmb : UEmb _ 𝕄) (ForTile m d (Fin.cast nCore_zero c) (Fin.cast nSub_zero s) (m (outLoc d))))
  td q d c s := match q with
    | 0 => (inferInstance : BI.Storable (upEmb : UEmb _ 𝕄) (ForTile m d (Fin.cast nCore_zero c) (Fin.cast nSub_zero s) (made m d)))

/-! ## A tile's obligation -/

abbrev cV (i : grid0.Coords) : Fin τ.nSC := (i 0).castLE hcore0
abbrev jV (i : grid0.Coords) : Fin τ.nSub := (i 1).castLE hsub0

/-- The tile's kernel, as the body table calls it. -/
abbrev body (i : grid0.Coords) : Prog (TpuEff nD τ sig (Elt F) Λ₀ (.scVector (cV i) (jV i))) PUnit :=
  cc0_k i (Memref.whole main_v0_scv) (Memref.isWhole_whole _) (Memref.whole main_v1_scv) (Memref.isWhole_whole _) (Memref.whole main_v2_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scoped0 cc0_scoped1 cc0_scoped2 cc0_scoped3 cc0_scoped4 cc0_scoped5

omit [FloatOps F] in
theorem bound_zero : grid0.bound 0 = 2 := rfl
omit [FloatOps F] in
theorem bound_one : grid0.bound 1 = 16 := rfl

theorem tile_body (hL : InRange m) (d : Dev nD) (i : grid0.Coords) (O : CellTallies nD τ sig (HIx 1)) (W : Waits sig (HIx 1)) (hO : ∀ g, O g none = 0) :
    iprop(levAts (K (F := F)).L (K (F := F)).lev ∗ emp ∗ ForTile m d (Fin.cast bound_zero (i 0)) (Fin.cast bound_one (i 1)) (m (outLoc d))
        ∗ scopedBufs (V d (cV i) (jV i)) ∗ scopedSems0 (V d (cV i) (jV i)) ∗ owes (V d (cV i) (jV i)) O W)
      ⊢ wp frame (wpE (defs₀ (F := F)) 𝒱₀ (V d (cV i) (jV i)) none) Set.univ (body i)
          fun _ => iprop(ForTile m d (Fin.cast bound_zero (i 0)) (Fin.cast bound_one (i 1)) (made m d) ∗ scopedBufs (V d (cV i) (jV i)) ∗ scopedSems0 (V d (cV i) (jV i))
            ∗ ∃ W' : Waits sig (HIx 1), ⌜∀ p ∈ W', p ∈ W ∨ p.2 = none⌝ ∗ owes (V d (cV i) (jV i)) O W') := by
  rw [(K (F := F)).scopedBufs_V facts d (cV i) (jV i), SparseCore.Cfg.scopedSems0_V (Val := Elt F) d (cV i) (jV i)]
  rw [show (body i : Prog (TpuEff nD τ sig (Elt F) Λ₀ (.scVector (cV i) (jV i))) PUnit) = kernelK i from kernel_eq i]
  refine BI.Entails.trans ?_ (tile_run (q := tileShare (Fin.cast bound_zero (i 0)) (Fin.cast bound_one (i 1))) (A := labels m d) (B := planes m d) (hL d) i (m (outLoc d)))
  show (_ : sProp 𝕄) ⊢ (_ : sProp 𝕄)
  iintro ⟨#Hlv, -, HG, H⟩
  isplitr; · iapply ((K (F := F)).mayWaits_none hO); iexact Hlv
  isplitl [HG]; · iexact HG
  iexact H

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => body (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem tileObl (hL : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hL d (coordsV ⟨_, hc.1⟩ ⟨_, hc.2⟩) O W hO).trans (wp_mono frame _ _ fun _ => obl_post)

/-! ## A SparseCore's payload, dealt to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show ForCore m d (Fin.cast nCore_zero c) (m (outLoc d)) ⊢ |={Set.univ}=> iprop(
      (bigSep Finset.univ fun s : Fin ((K (F := F)).nSub 0) => ForTile m d (Fin.cast nCore_zero c) (Fin.cast nSub_zero s) (m (outLoc d)))
      ∗ ((bigSep Finset.univ fun s : Fin ((K (F := F)).nSub 0) => ForTile m d (Fin.cast nCore_zero c) (Fin.cast nSub_zero s) (made m d))
          -∗ ForCore m d (Fin.cast nCore_zero c) (made m d)))
  rw [bigSep_tasks (F := F) (fun s => ForTile m d (Fin.cast nCore_zero c) s (m (outLoc d))), bigSep_tasks (F := F) (fun s => ForTile m d (Fin.cast nCore_zero c) s (made m d)),
    ← forCore_tiles, ← forCore_tiles]
  iintro H; imodintro
  isplitl [H]; · iexact H
  iintro H; iexact H

theorem st0_eq (d : Dev nD) : (bigSep Finset.univ fun c : Fin ((K (F := F)).nCore 0) => (P m).st 0 d c) = ForAll m d (m (outLoc d)) := by
  show (bigSep Finset.univ fun c : Fin ((K (F := F)).nCore 0) => ForCore m d (Fin.cast nCore_zero c) (m (outLoc d))) = _
  rw [bigSep_cores (F := F) (fun c => ForCore m d c (m (outLoc d))), ← forAll_cores]
theorem dn0_eq (d : Dev nD) : (bigSep Finset.univ fun c : Fin ((K (F := F)).nCore 0) => (P m).dn 0 d c) = ForAll m d (made m d) := by
  show (bigSep Finset.univ fun c : Fin ((K (F := F)).nCore 0) => ForCore m d (Fin.cast nCore_zero c) (made m d)) = _
  rw [bigSep_cores (F := F) (fun c => ForCore m d c (made m d)), ← forAll_cores]

/-! ## The launch element -/

def u₀ : UU := (initOf (K (F := F)).hsCells (K (F := F)).hsToks, 1)

omit [FloatOps F] in
theorem bigSep_none {I : Type} (t : Finset I) : (bigSep t fun _ => iprop(emp)) = (iprop(emp) : sProp 𝕄) := bigSep_emp_const t

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The TensorCore's program -/

abbrev rArg0 : DevRef τ sig := Proc.devRef .tc (main_arg0 : Ref sig .tc)
abbrev rArg1 : DevRef τ sig := Proc.devRef .tc (main_arg1 : Ref sig .tc)
abbrev rImg : DevRef τ sig := Proc.devRef .tc (main_v0 : Ref sig .tc)
abbrev rLab : DevRef τ sig := Proc.devRef .tc (main_v1 : Ref sig .tc)
abbrev rOut : DevRef τ sig := Proc.devRef .tc (main_v2 : Ref sig .tc)
abbrev rRes : DevRef τ sig := Proc.devRef .tc (main_v3 : Ref sig .tc)
abbrev all : Finset (DevRef τ sig) := {rArg0, rArg1, rImg, rLab, rOut, rRes}

abbrev opImg : HloOp τ sig (Elt F) := StableHlo.reshape main_arg0 main_v0 (rfl : (.f32 : EltTy) = .f32) shapeCasts_S2x96x512x512_S192x262144
abbrev opLab : HloOp τ sig (Elt F) := StableHlo.reshape main_arg1 main_v1 (rfl : (.i32 : EltTy) = .i32) shapeCasts_S2x512x512_S2x262144
abbrev opRes : HloOp τ sig (Elt F) := StableHlo.reshape main_v2 main_v3 (rfl : (.f32 : EltTy) = .f32) shapeCasts_S192x1024_S2x96x1024

omit [FloatOps F] in
theorem held_all (d : Dev nD) (Y : Valuation τ sig (Elt F)) :
    (held (T d) all Y : sProp 𝕄) = iprop((dataLoc d ↦{fullShare} Y rArg0) ∗ (segLoc d ↦{fullShare} Y rArg1) ∗ (imgLoc d ↦{fullShare} Y rImg)
      ∗ (labLoc d ↦{fullShare} Y rLab) ∗ (outLoc d ↦{fullShare} Y rOut) ∗ resLoc d ↦{fullShare} Y rRes) := by
  unfold held all
  rw [SparseCore.bigSep_insert' (by decide), SparseCore.bigSep_insert' (by decide), SparseCore.bigSep_insert' (by decide), SparseCore.bigSep_insert' (by decide),
    SparseCore.bigSep_insert' (by decide), bigSep_singleton]

omit [FloatOps F] in
theorem unscopedBufs_eq (d : Dev nD) (Y : (b : Ref sig .tc) → Buf (Elt F) ((d.tc : Thread nD τ).loc b)) :
    (unscopedBufs d Y : sProp 𝕄) = iprop((dataLoc d ↦{fullShare} Y main_arg0) ∗ (segLoc d ↦{fullShare} Y main_arg1) ∗ (imgLoc d ↦{fullShare} Y main_v0)
      ∗ (labLoc d ↦{fullShare} Y main_v1) ∗ (outLoc d ↦{fullShare} Y main_v2) ∗ resLoc d ↦{fullShare} Y main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The launch's contents; after the reshapes; after the call. -/
def Y0 (d : Dev nD) : Valuation τ sig (Elt F) := fun b => m (d, b)
def Y2 (d : Dev nD) : Valuation τ sig (Elt F) := (opLab (F := F)).result ((opImg (F := F)).result (Y0 m d))
def Y3 (d : Dev nD) : Valuation τ sig (Elt F) := Function.update (Y2 m d) rOut (made m d)

omit [FloatOps F] in
theorem unscoped_held (d : Dev nD) : (unscopedBufs d (fun b => m ((SparseCore.T d).loc b)) : sProp 𝕄) = held (T d) all (Y0 m d) := by
  rw [unscopedBufs_eq, held_all]; rfl

section
open Idealize.ShloMosaic.StableHlo (reshape_result' reshape_result_ne')

omit [FloatOps F] in
theorem Y2_arg0 (d : Dev nD) : Y2 m d rArg0 = m (dataLoc d) := by
  unfold Y2 opLab opImg
  rw [reshape_result_ne' _ _ _ _ _ (by decide), reshape_result_ne' _ _ _ _ _ (by decide)]; rfl
omit [FloatOps F] in
theorem Y2_arg1 (d : Dev nD) : Y2 m d rArg1 = m (segLoc d) := by
  unfold Y2 opLab opImg
  rw [reshape_result_ne' _ _ _ _ _ (by decide), reshape_result_ne' _ _ _ _ _ (by decide)]; rfl
omit [FloatOps F] in
theorem Y2_img (d : Dev nD) : Y2 m d rImg = planes m d := by
  unfold Y2 opLab opImg
  rw [reshape_result_ne' _ _ _ _ _ (by decide), reshape_result']; rfl
omit [FloatOps F] in
theorem Y2_lab (d : Dev nD) : Y2 m d rLab = labels m d := by
  unfold Y2 opLab opImg
  rw [reshape_result', reshape_result_ne' _ _ _ _ _ (by decide)]; rfl
omit [FloatOps F] in
theorem Y2_out (d : Dev nD) : Y2 m d rOut = m (outLoc d) := by
  unfold Y2 opLab opImg
  rw [reshape_result_ne' _ _ _ _ _ (by decide), reshape_result_ne' _ _ _ _ _ (by decide)]; rfl

theorem Y3_ne (d : Dev nD) {r : DevRef τ sig} (h : r ≠ rOut) : Y3 m d r = Y2 m d r := Function.update_of_ne h _ _
theorem Y3_out (d : Dev nD) : Y3 m d rOut = made m d := Function.update_self _ _ _

theorem Y4_arg0 (d : Dev nD) : (opRes (F := F)).result (Y3 m d) rArg0 = m (dataLoc d) := by
  unfold opRes
  rw [reshape_result_ne' _ _ _ _ _ (by decide), Y3_ne m d (by decide), Y2_arg0]
theorem Y4_arg1 (d : Dev nD) : (opRes (F := F)).result (Y3 m d) rArg1 = m (segLoc d) := by
  unfold opRes
  rw [reshape_result_ne' _ _ _ _ _ (by decide), Y3_ne m d (by decide), Y2_arg1]
theorem Y4_res (d : Dev nD) : (opRes (F := F)).result (Y3 m d) rRes = res m d := by
  unfold opRes
  rw [reshape_result', Y3_out]; rfl
end

omit [FloatOps F] in
theorem sub_img : (opImg (F := F)).bufs ⊆ all := show ({rArg0, rImg} : Finset (DevRef τ sig)) ⊆ all by decide
omit [FloatOps F] in
theorem sub_lab : (opLab (F := F)).bufs ⊆ all := show ({rArg1, rLab} : Finset (DevRef τ sig)) ⊆ all by decide
omit [FloatOps F] in
theorem sub_res : (opRes (F := F)).bufs ⊆ all := show ({rOut, rRes} : Finset (DevRef τ sig)) ⊆ all by decide

/-- What the program leaves: the arguments as they were, the result. -/
abbrev FIN (d : Dev nD) : sProp 𝕄 := iprop((dataLoc d ↦{fullShare} m (dataLoc d)) ∗ (segLoc d ↦{fullShare} m (segLoc d)) ∗ resLoc d ↦{fullShare} res m d)

theorem held_before (d : Dev nD) : (held (T d) all (Y2 m d) : sProp 𝕄)
    = iprop((dataLoc d ↦{fullShare} m (dataLoc d)) ∗ (segLoc d ↦{fullShare} m (segLoc d)) ∗ (imgLoc d ↦{fullShare} planes m d)
      ∗ (labLoc d ↦{fullShare} labels m d) ∗ (outLoc d ↦{fullShare} m (outLoc d)) ∗ resLoc d ↦{fullShare} Y2 m d rRes) := by
  rw [held_all, Y2_arg0, Y2_arg1, Y2_img, Y2_lab, Y2_out]
theorem held_after (d : Dev nD) : (held (T d) all (Y3 m d) : sProp 𝕄)
    = iprop((dataLoc d ↦{fullShare} m (dataLoc d)) ∗ (segLoc d ↦{fullShare} m (segLoc d)) ∗ (imgLoc d ↦{fullShare} planes m d)
      ∗ (labLoc d ↦{fullShare} labels m d) ∗ (outLoc d ↦{fullShare} made m d) ∗ resLoc d ↦{fullShare} Y2 m d rRes) := by
  rw [held_all, Y3_out, Y3_ne m d (by decide), Y3_ne m d (by decide), Y3_ne m d (by decide), Y3_ne m d (by decide), Y3_ne m d (by decide),
    Y2_arg0, Y2_arg1, Y2_img, Y2_lab]
theorem held_last (d : Dev nD) : (held (T d) all ((opRes (F := F)).result (Y3 m d)) : sProp 𝕄) ⊢ FIN m d := by
  rw [held_all, Y4_arg0, Y4_arg1, Y4_res]
  iintro ⟨H0, H1, -, -, -, H⟩
  isplitl [H0]; · iexact H0
  isplitl [H1]; · iexact H1
  iexact H

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opImg) (S := all) sub_img (V := Y0 m d)) $$ [Hb Hheld]
  · isplitl [Hb]; · iexact Hb
    iexact Hheld
  iintro ⟨Hb, Hheld⟩
  rw [wp_ret]; imodintro
  iapply (wp_hlo_within 𝒱 (SparseCore.T d) none Set.univ (op := opLab) (S := all) sub_lab (V := (opImg (F := F)).result (Y0 m d))) $$ [Hb Hheld]
  · isplitl [Hb]; · iexact Hb
    iexact Hheld
  iintro ⟨Hb, Hheld⟩
  rw [wp_ret]; imodintro
  ihave Hh := (show held (SparseCore.T d) all ((opLab (F := F)).result ((opImg (F := F)).result (Y0 m d))) ⊢ _ from Entails.of_eq (held_before (F := F) m d)) $$ Hheld
  icases Hh with ⟨H0, H1, HI, HL, HO, HR⟩
  iapply ((K (F := F)).wp_run (D (F := F)) 𝒱 (EH := EH) (P := P m) κ d 0) $$ [Hst HI HL HO Hb H0 H1 HR Hts]
  isplitr; · iexact Hctx
  isplitl [Hst]; · iexact Hst
  isplitl [HI HL HO]
  · rw [st0_eq]
    isplitl [HL]; · iexact HL
    isplitl [HI]; · iexact HI
    iexact HO
  iintro ⟨Hst, Hdn⟩
  ihave Hdn' := (Entails.of_eq (dn0_eq m d)) $$ Hdn
  icases Hdn' with ⟨HL, HI, HO⟩
  iapply (wp_hlo_within 𝒱 (SparseCore.T d) none Set.univ (op := opRes) (S := all) sub_res (V := Y3 m d)) $$ [Hb H0 H1 HI HL HO HR]
  · isplitl [Hb]; · iexact Hb
    rw [held_after]
    isplitl [H0]; · iexact H0
    isplitl [H1]; · iexact H1
    isplitl [HI]; · iexact HI
    isplitl [HL]; · iexact HL
    isplitl [HO]; · iexact HO
    iexact HR
  iintro ⟨Hb, Hheld⟩
  ihave Hh := (held_last (F := F) m d) $$ Hheld
  rw [wp_ret]; imodintro; imodintro
  isplitl [Hst]; · iexact Hst
  isplitl [Hh]; · iexact Hh
  isplitl [Hb] <;> iassumption

def fq (d : Dev nD) (s' : Phys nD τ sig (Elt F)) : Prop :=
  s'.mem.mem (resLoc d) = res m d ∧ s'.mem.mem (dataLoc d) = m (dataLoc d) ∧ s'.mem.mem (segLoc d) = m (segLoc d)

omit [FloatOps F] in
theorem agrees {ℓ : Loc nD τ sig} {f : Buf (Elt F) ℓ} (s' : Phys nD τ sig (Elt F)) :
    iprop((ℓ ↦{fullShare} f) ∗ SI s') ⊢ (iprop(⌜s'.mem.mem ℓ = f⌝ ∗ SI s') : sProp 𝕄) := by
  iintro ⟨H, HS⟩
  ihave %h := (SI_pointsTo_agree (st := s') (ℓ := ℓ) (I := Finset.univ) (q := fullShare) (f := f)) $$ [HS H]
  · isplitl [HS] <;> iassumption
  isplitr; · ipureintro; exact funext fun i => h i (Finset.mem_univ i)
  iexact HS

theorem hfin (d : Dev nD) (s' : Phys nD τ sig (Elt F)) : iprop(FIN m d ∗ SI s') ⊢ (⌜fq m d s'⌝ : sProp 𝕄) := by
  iintro ⟨⟨H0, H1, HR⟩, HS⟩
  ihave H := (agrees s') $$ [H0 HS]
  · isplitl [H0] <;> iassumption
  icases H with ⟨%h0, HS⟩
  ihave H := (agrees s') $$ [H1 HS]
  · isplitl [H1] <;> iassumption
  icases H with ⟨%h1, HS⟩
  ihave H := (agrees s') $$ [HR HS]
  · isplitl [HR] <;> iassumption
  icases H with ⟨%hr, -⟩
  ipureintro; exact ⟨hr, h0, h1⟩

/-! ## The program's run -/

def QC : PUnit × MemSt nD τ sig (Elt F) → Prop := fun r =>
  (∀ d : Dev nD, r.2.mem (resLoc d) = res m d ∧ r.2.mem (dataLoc d) = m (dataLoc d) ∧ r.2.mem (segLoc d) = m (segLoc d)) ∧ r.2.sem = fun _ => 0

/-- The program runs to its end, leaves its arguments as they were and every semaphore at zero, and its result is `res`. -/
theorem run_main [∀ e, Nonempty (Elt F e)] (hL : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hL)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch
-- ==== Proof.Raise.lean ====
/-
  What the tiles' rows hold over the extended reals: a row's word `k` is the maximum of the plane's pixels labelled `k`. Every
  maximum is described by its upper bounds.
-/
module

public import proofs.«01_k».proof.Proof.Kernel
public import Idealize.ShloMosaic.PureOps.Ideal.Laws

@[expose] public section

set_option maxRecDepth 16384

noncomputable section

namespace Cert.Proof.Tile

open Cert.KernelIdeal Cert.KernelIdeal.Gen

open Idealize.ShloMosaic

/-! ## An indexed store, read back -/

section Store
variable {F : FTy → Type} [FloatOps F]

/-- Writes at places `pos`, one after the other: a word keeps what it had if no write hits it, else it has what one of them wrote. -/
theorem writes_at {I J α : Type} (hit : I → J → Prop) [∀ i j, Decidable (hit i j)] (v : I → α) (j : J) :
    ∀ (l : List I) (f : J → α),
      (l.foldl (fun g i => fun j => if hit i j then v i else g j) f j = f j ∧ ∀ i ∈ l, ¬ hit i j)
        ∨ ∃ i ∈ l, hit i j ∧ l.foldl (fun g i => fun j => if hit i j then v i else g j) f j = v i
  | [], f => Or.inl ⟨rfl, fun _ h => absurd h List.not_mem_nil⟩
  | i :: l, f => by
    rw [List.foldl_cons]
    rcases writes_at hit v j l (fun j => if hit i j then v i else f j) with ⟨h, hm⟩ | ⟨x, hx, hh, e⟩
    · by_cases hi : hit i j
      · exact Or.inr ⟨i, List.mem_cons_self, hi, h.trans (if_pos hi)⟩
      · refine Or.inl ⟨h.trans (if_neg hi), fun y hy => ?_⟩
        rcases List.mem_cons.1 hy with rfl | hy
        · exact hi
        · exact hm y hy
    · exact Or.inr ⟨x, List.mem_cons_of_mem _ hx, hh, e⟩

/-- An accumulator after a store at the lanes' places: a word has what some lane stored there, or what it had where no lane stores. -/
theorem scat_at (f : Vec F S8192 .f32) (lk : IVec S16 32) (v : FVec F S16 .f32) (h : InAcc lk) (j : S8192.Idx) :
    (scat f lk v h j = f j ∧ ∀ x : S16.Idx, (lk x).toNat ≠ (j 0).val) ∨ ∃ x : S16.Idx, (lk x).toNat = (j 0).val ∧ scat f lk v h j = v x := by
  have key := writes_at (I := Fin 16) (J := S8192.Idx) (fun k j => ∀ a, (j a).val = (idxAt (s := S8192) ![lk] h (Shape.ofLane (d := ![16]) k) a).val)
    (fun k => v (Shape.ofLane (d := ![16]) k)) j (List.finRange 16) f
  have hs : scat f lk v h = (List.finRange 16).foldl (fun g k => fun j => if (∀ a, (j a).val = (idxAt (s := S8192) ![lk] h (Shape.ofLane (d := ![16]) k) a).val) then v (Shape.ofLane (d := ![16]) k) else g j) f := by
    unfold scat storeIdx
    simp only [if_true, Bool.false_eq_true, if_false]
    rfl
  rw [hs]
  rcases key with ⟨e, hm⟩ | ⟨k, _, hh, e⟩
  · refine Or.inl ⟨e, fun x hx => ?_⟩
    refine hm (x 0) (List.mem_finRange _) fun a => ?_
    obtain rfl : a = 0 := Subsingleton.elim _ _
    have ex : Shape.ofLane (d := ![16]) (x 0) = x := by
      funext a; obtain rfl : a = 0 := Subsingleton.elim _ _; rfl
    rw [ex]; exact hx.symm
  · exact Or.inr ⟨Shape.ofLane (d := ![16]) k, (hh 0).symm, e⟩

end Store

/-! ## The lanes' places -/

/-- The mirror lane. -/
def mir (x : S16.Idx) : S16.Idx := ix1 (n0 := 16) ⟨15 - (x 0).val, by omega⟩

theorem mir_mir (x : S16.Idx) : mir (mir x) = x := by
  have hx : (x 0).val < 16 := (x 0).isLt
  refine Eq.trans ?_ (ix1_eta (n0 := 16) x)
  show ix1 (n0 := 16) _ = _
  congr 1; apply Fin.ext
  show 15 - (15 - (x 0).val) = (x 0).val
  omega

theorem rev_at {α : Type} (v : S16.Idx → α) (x : S16.Idx) : v (idxAt (s := S16) (t := S16) ![rlane] rlane_inb x) = v (mir x) := by
  have h : ∀ x : S16.Idx, (rlane x).toNat = 15 - (x 0).val := by unfold rlane; decide +kernel
  congr 1
  funext a; apply Fin.ext
  obtain rfl : a = 0 := Subsingleton.elim _ _
  exact h x

/-- Each lane's row of its accumulator, and the two lanes of each row. -/
theorem laneOff_row (x : S16.Idx) : ∃ r : Fin 8, (laneOff x).toNat = 1024 * r.val := by
  have : ∀ x : S16.Idx, ∃ r : Fin 8, (laneOff x).toNat = 1024 * r.val := by unfold laneOff; decide +kernel
  exact this x

theorem laneOff_inj (x y : S16.Idx) (h : (laneOff x).toNat = (laneOff y).toNat) : y = x ∨ y = mir x := by
  have : ∀ a b : Fin 16, (laneOff (ix1 a)).toNat = (laneOff (ix1 b)).toNat → b = a ∨ b.val = 15 - a.val := by unfold laneOff; decide +kernel
  rcases this (x 0) (y 0) (by rw [ix1_eta (n0 := 16) x, ix1_eta (n0 := 16) y]; exact h) with e | e
  · left; rw [← ix1_eta (n0 := 16) x, ← ix1_eta (n0 := 16) y, e]
  · right
    rw [← ix1_eta (n0 := 16) y]
    exact congrArg (ix1 (n0 := 16)) (Fin.ext e)

/-! ## A group raises the segments' maxima -/

theorem bot_word : (Scalar.ofBits .f32 0xFF800000#32 : Ideal .f32) = (⊥ : EReal) := by
  show Ideal.ofBits .f32 0xFF800000#32 = ⊥
  simp [Ideal.ofBits, Ideal.ieee]

/-- `u` bounds everything an accumulator holds for segment `k`. -/
def Below (A : Vec Ideal S8192 .f32) (k : ℕ) (u : EReal) : Prop := ∀ j : S8192.Idx, (∃ r : Fin 8, (j 0).val = 1024 * r.val + k) → (A j : EReal) ≤ u

theorem below_raise {l : IVec S16 32} (hl : ∀ x, (l x).toNat < 1024) (hp : ∀ x, (places l x).toNat = (laneOff x).toNat + (l x).toNat) (v : FVec Ideal S16 .f32)
    (A : Vec Ideal S8192 .f32) (h : InAcc (places l)) {k : ℕ} (hk : k < 1024) (u : EReal) :
    Below (raise l v A h) k u ↔ Below A k u ∧ ∀ x : S16.Idx, (l x).toNat = k → (v x : EReal) ≤ u := by
  have same : ∀ x y : S16.Idx, (places l x).toNat = (places l y).toNat → (y = x ∨ y = mir x) ∧ (l x).toNat = (l y).toNat := by
    intro x y e
    rw [hp, hp] at e
    obtain ⟨r, hr⟩ := laneOff_row x
    obtain ⟨r', hr'⟩ := laneOff_row y
    have h1 := hl x
    have h2 := hl y
    rw [hr, hr'] at e
    exact ⟨laneOff_inj x y (by rw [hr, hr']; omega), by omega⟩
  have pv : ∀ x, (paired (cmpi .eq (places l) (revI Ideal (places l))) v x : EReal) = if places l x = places l (mir x) then max (v x : EReal) (v (mir x)) else v x := by
    intro x
    have ei : revI Ideal (places l) x = places l (mir x) := rev_at (places l) x
    have ef : revF v x = v (mir x) := rev_at v x
    show (if IntOp.cmpi .eq (places l x) (revI Ideal (places l) x) = 1#1 then (max (v x : EReal) (revF (F := Ideal) v x) : EReal) else v x) = _
    rw [ei, ef]
    by_cases e : places l x = places l (mir x)
    · rw [if_pos e, if_pos (by simp [IntOp.cmpi, e])]
    · rw [if_neg e, if_neg (by simp only [IntOp.cmpi, beq_false_of_ne e]; decide)]
  have stored : ∀ (x : S16.Idx) (j : S8192.Idx), (places l x).toNat = (j 0).val →
      (maximumf (gath A (places l) h) (paired (cmpi .eq (places l) (revI Ideal (places l))) v) x : EReal)
        = max (A j : EReal) (paired (cmpi .eq (places l) (revI Ideal (places l))) v x) := by
    intro x j e
    have : idxAt (s := S8192) ![places l] h x = j := by
      funext a; apply Fin.ext; obtain rfl : a = 0 := Subsingleton.elim _ _; exact e
    show max (A (idxAt (s := S8192) ![places l] h x) : EReal) _ = _
    rw [this]
  constructor
  · intro H
    refine ⟨fun j hj => ?_, fun x hx => ?_⟩
    · rcases scat_at A (places l) (maximumf (gath A (places l) h) (paired (cmpi .eq (places l) (revI Ideal (places l))) v)) h j with ⟨e, _⟩ | ⟨y, hy, e⟩
      · exact (le_of_eq e.symm).trans (H j hj)
      · refine le_trans ?_ (H j hj)
        refine le_trans ?_ (le_of_eq e.symm)
        rw [stored y j hy]
        exact le_max_left _ _
    · obtain ⟨r, hr⟩ := laneOff_row x
      have hlt : 1024 * r.val + k < 8192 := by omega
      let j : S8192.Idx := ix1 (n0 := 8192) ⟨1024 * r.val + k, hlt⟩
      have hxj : (places l x).toNat = (j 0).val := by rw [hp, hr, hx]; rfl
      rcases scat_at A (places l) (maximumf (gath A (places l) h) (paired (cmpi .eq (places l) (revI Ideal (places l))) v)) h j with ⟨_, hm⟩ | ⟨y, hy, e⟩
      · exact absurd hxj (hm x)
      · refine le_trans ?_ (H j ⟨r, rfl⟩)
        refine le_trans ?_ (le_of_eq e.symm)
        rw [stored y j hy, pv]
        refine le_trans ?_ (le_max_right _ _)
        rcases (same x y (hxj.trans hy.symm)).1 with rfl | rfl
        · split
          · exact le_max_left _ _
          · exact le_refl _
        · rw [mir_mir, if_pos (BitVec.eq_of_toNat_eq (hy.trans hxj.symm))]
          exact le_max_right _ _
  · rintro ⟨HA, HV⟩ j hj
    rcases scat_at A (places l) (maximumf (gath A (places l) h) (paired (cmpi .eq (places l) (revI Ideal (places l))) v)) h j with ⟨e, _⟩ | ⟨y, hy, e⟩
    · exact (le_of_eq e).trans (HA j hj)
    · refine (le_of_eq e).trans ?_
      rw [stored y j hy, pv]
      obtain ⟨r, hr⟩ := hj
      obtain ⟨r', hr'⟩ := laneOff_row y
      have hy' := hp y
      have hly := hl y
      have hky : (l y).toNat = k := by omega
      refine max_le (HA j ⟨r, hr⟩) ?_
      split
      · rename_i e2
        exact max_le (HV y hky) (HV _ ((same y (mir y) (congrArg BitVec.toNat e2)).2 ▸ hky))
      · exact HV y hky

/-! ## A pass over an image -/

/-- After `n` groups the three accumulators of a plane hold, for segment `k`, the pixels labelled `k` among the first `16 n`. -/
theorem below_acc {L : ℕ → BitVec 32} (hL : Labels L) (G : Fin 3 → ℕ → Ideal .f32) (p : Fin 3) {k : ℕ} (hk : k < 1024) (u : EReal) (n : ℕ) :
    (∀ a < 3, Below (acc L G n p a) k u) ↔ ∀ i < 16 * n, (L i).toNat = k → (G p i : EReal) ≤ u := by
  induction n with
  | zero =>
    refine ⟨fun _ i hi => absurd hi (by omega), fun _ a _ j _ => ?_⟩
    show (Scalar.ofBits .f32 0xFF800000#32 : Ideal .f32) ≤ u
    rw [bot_word]; exact bot_le
  | succ n ih =>
    have hr := below_raise (l := w16 L (16 * n)) (fun x => hL _) (fun x => places_toNat hL _ x) (w16 (G p) (16 * n)) (acc L G n p (n % 8 % 3)) (inAcc_of hL _) hk u
    have h3 : n % 8 % 3 < 3 := Nat.mod_lt _ (by decide)
    constructor
    · intro H
      have h0 := H (n % 8 % 3) h3
      rw [acc_hit hL G rfl p, hr] at h0
      have hold : ∀ a < 3, Below (acc L G n p a) k u := by
        intro a ha
        by_cases e : a = n % 8 % 3
        · subst e; exact h0.1
        · have := H a ha; rw [acc_miss L G e p] at this; exact this
      intro i hi hik
      by_cases hlt : i < 16 * n
      · exact ih.1 hold i hlt hik
      · have := h0.2 (ix1 (n0 := 16) ⟨i - 16 * n, by omega⟩)
        have ei : 16 * n + (i - 16 * n) = i := by omega
        have e1 : w16 L (16 * n) (ix1 (n0 := 16) ⟨i - 16 * n, by omega⟩) = L i := congrArg L ei
        have e2 : w16 (G p) (16 * n) (ix1 (n0 := 16) ⟨i - 16 * n, by omega⟩) = G p i := congrArg (G p) ei
        rw [e1, e2] at this
        exact this hik
    · intro H a ha
      have hold := ih.2 fun i hi => H i (by omega)
      by_cases e : a = n % 8 % 3
      · subst e
        rw [acc_hit hL G rfl p, hr]
        refine ⟨hold _ ha, fun x hx => H (16 * n + (x 0).val) ?_ hx⟩
        have : (x 0).val < 16 := (x 0).isLt
        omega
      · rw [acc_miss L G e p]; exact hold a ha

theorem fold8_le (A : Vec Ideal S8192 .f32) {k : ℕ} (hk : k < 1024) (v : Ideal .f32) (u : EReal) :
    (fold8 A k v : EReal) ≤ u ↔ (v : EReal) ≤ u ∧ Below A k u := by
  have hc : ∀ r : Fin 8, ∃ h : 1024 * r.val + k < 8192, cell A r k = A (ix1 (n0 := 8192) ⟨1024 * r.val + k, h⟩) := by
    intro r
    have h : 1024 * r.val + k < 8192 := by omega
    exact ⟨h, dif_pos h⟩
  have hb : Below A k u ↔ ∀ r : Fin 8, (cell A r k : EReal) ≤ u := by
    constructor
    · intro H r
      obtain ⟨h, e⟩ := hc r
      rw [e]; exact H _ ⟨r, rfl⟩
    · rintro H j ⟨r, hr⟩
      obtain ⟨h, e⟩ := hc r
      have ej : j = ix1 (n0 := 8192) ⟨1024 * r.val + k, h⟩ := (ix1_eta (n0 := 8192) j).symm.trans (congrArg _ (Fin.ext hr))
      rw [ej, ← e]; exact H r
  have hm : ∀ (l : List (Fin 8)) (v : EReal), (l.foldl (fun (v : EReal) r => max v (cell A r k : EReal)) v ≤ u) ↔ v ≤ u ∧ ∀ r ∈ l, (cell A r k : EReal) ≤ u := by
    intro l
    induction l with
    | nil => intro v; simp
    | cons r l ih => intro v; rw [List.foldl_cons, ih, max_le_iff, List.forall_mem_cons]; tauto
  rw [hb]
  refine (hm [0, 1, 2, 3, 4, 5, 6, 7] v).trans (and_congr_right fun _ => ⟨fun H r => H r ?_, fun H r _ => H r⟩)
  revert r; decide

theorem rowOf_le (A : ℕ → Vec Ideal S8192 .f32) (k : Fin 1024) (u : EReal) :
    (rowOf (A 0) (A 1) (A 2) (ix1 (n0 := 1024) k) : EReal) ≤ u ↔ ∀ a < 3, Below (A a) k.val u := by
  show (fold8 (F := Ideal) (A 2) k.val (fold8 (A 1) k.val (fold8 (A 0) k.val (Scalar.ofBits .f32 0xFF800000#32))) : EReal) ≤ u ↔ _
  rw [fold8_le _ k.isLt, fold8_le _ k.isLt, fold8_le _ k.isLt, bot_word]
  constructor
  · rintro ⟨⟨⟨_, h0⟩, h1⟩, h2⟩ a ha
    match a, ha with
    | 0, _ => exact h0
    | 1, _ => exact h1
    | 2, _ => exact h2
  · intro H
    exact ⟨⟨⟨bot_le, H 0 (by decide)⟩, H 1 (by decide)⟩, H 2 (by decide)⟩

/-- A row's word `k` is the maximum of the plane's pixels labelled `k`, by its upper bounds. -/
theorem result_le {L : ℕ → BitVec 32} (hL : Labels L) (g : ℕ → Ideal .f32) (k : Fin 1024) (u : EReal) :
    (result L g (ix1 (n0 := 1024) k) : EReal) ≤ u ↔ ∀ i < 262144, (L i).toNat = k.val → (g i : EReal) ≤ u := by
  have key := below_acc hL (fun _ => g) 0 k.isLt u 16384
  rw [show 16 * 16384 = 262144 from rfl] at key
  rw [← key]
  exact rowOf_le (fun a => acc L (fun _ => g) 16384 0 a) k u

end Cert.Proof.Tile
-- ==== Proof.Value.lean ====
/-
  The equation: the reference's result and the kernel's are the same maxima, each described by its upper bounds.
-/
module

public import proofs.«01_k».proof.Proof.Launch
public import proofs.«01_k».proof.Proof.Raise
public import proofs.«01_k».proof.Proof.Gen.ReferenceIdeal
public import Idealize.ShloMosaic.Lib.Pointwise

@[expose] public section

set_option maxRecDepth 16384

noncomputable section

namespace Cert.Proof.Value

open Idealize.ShloMosaic Cert.ReferenceIdeal Cert.ReferenceIdeal.Gen

/-- The pixels of each plane where they have the segment's label, minus infinity elsewhere. -/
def masked (X : FVec Ideal S2x96x262144 .f32) (Y : IVec S2x262144 32) : FVec Ideal S2x96x1024x262144 .f32 :=
  select (broadcastInDim S2x96x1024x262144 ![0, 1, 2, 3] bcast_S2x1x1024x262144_S2x96x1024x262144_0_1_2_3 (broadcastInDim S2x1x1024x262144 ![0, 2, 3] bcast_S2x1024x262144_S2x1x1024x262144_0_2_3
      (cmpi .eq (broadcastInDim S2x1024x262144 ![0, 1, 2] bcast_S2x1x262144_S2x1024x262144_0_1_2 (broadcastInDim S2x1x262144 ![0, 2] bcast_S2x262144_S2x1x262144_0_2 Y))
        (broadcastInDim S2x1024x262144 ![0, 1, 2] bcast_S1x1024x1_S2x1024x262144_0_1_2 (broadcastInDim S1x1024x1 ![1] bcast_S1024_S1x1024x1_1 (iotaInDim S1024 32 0))))))
    (broadcastInDim S2x96x1024x262144 ![0, 1, 2, 3] bcast_S2x96x1x262144_S2x96x1024x262144_0_1_2_3 (broadcastInDim S2x96x1x262144 ![0, 1, 3] bcast_S2x96x262144_S2x96x1x262144_0_1_3 X))
    (broadcastInDim S2x96x1024x262144 ![] bcast_S_S2x96x1024x262144 (id (constant S_ .f32 0xFF800000#32)))

theorem masked_at (X : FVec Ideal S2x96x262144 .f32) (Y : IVec S2x262144 32) (b : Fin 2) (c : Fin 96) (k : Fin 1024) (n : Fin 262144) :
    masked X Y (ix4 b c k n) = if Y (ix2 b n) = BitVec.ofNat 32 k.val then (X (ix3 b c n) : EReal) else ⊥ := by
  have h : masked X Y (ix4 b c k n) = if IntOp.cmpi .eq (Y (ix2 b n)) (BitVec.ofNat 32 k.val) = 1#1 then (X (ix3 b c n) : EReal) else (Scalar.ofBits .f32 0xFF800000#32 : Ideal .f32) := by
    unfold masked
    pointwise
    rfl
  rw [h, Cert.Proof.Tile.bot_word]
  by_cases e : Y (ix2 b n) = BitVec.ofNat 32 k.val
  · rw [if_pos e, if_pos (by simp [IntOp.cmpi, e])]
  · rw [if_neg e, if_neg (by simp only [IntOp.cmpi, beq_false_of_ne e]; decide)]

/-- Each segment's maximum. -/
def maxima (X : FVec Ideal S2x96x262144 .f32) (Y : IVec S2x262144 32) : FVec Ideal S2x96x1024 .f32 :=
  Host.reduce FloatOps.maximumf (masked X Y) (constant (F := Ideal) S_ .f32 0xFF800000#32) reducesTo_S2x96x1024x262144_S2x96x1024_d3 h_S_

/-- The reference's result, by its upper bounds. -/
theorem ref_le (X : FVec Ideal S2x96x262144 .f32) (Y : IVec S2x262144 32) (b : Fin 2) (c : Fin 96) (k : Fin 1024) (u : EReal) :
    (maxima X Y (ix3 b c k) : EReal) ≤ u
      ↔ ∀ n : Fin 262144, Y (ix2 b n) = BitVec.ofNat 32 k.val → (X (ix3 b c n) : EReal) ≤ u := by
  unfold maxima
  rw [Host.reduce_eq_fold]
  have hm : ∀ i : S2x96x1024x262144.Idx, reducesTo_S2x96x1024x262144_S2x96x1024_d3.drop i = ix3 b c k ↔ ∃ n : Fin 262144, i = ix4 b c k n := by
    intro i
    have d0 := reducesTo_S2x96x1024x262144_S2x96x1024_d3.drop_apply_val_of_eq i 0 0
    have d1 := reducesTo_S2x96x1024x262144_S2x96x1024_d3.drop_apply_val_of_eq i 1 1
    have d2 := reducesTo_S2x96x1024x262144_S2x96x1024_d3.drop_apply_val_of_eq i 2 2
    constructor
    · intro h
      rw [h] at d0 d1 d2
      refine ⟨i 3, (ix4_eta (n0 := 2) (n1 := 96) (n2 := 1024) (n3 := 262144) i).symm.trans ?_⟩
      have e0 : i 0 = b := Fin.ext d0.symm
      have e1 : i 1 = c := Fin.ext d1.symm
      have e2 : i 2 = k := Fin.ext d2.symm
      rw [e0, e1, e2]
    · rintro ⟨n, rfl⟩
      funext a
      match a with
      | ⟨0, _⟩ => exact Fin.ext d0
      | ⟨1, _⟩ => exact Fin.ext d1
      | ⟨2, _⟩ => exact Fin.ext d2
  refine (Finset.fold_max_le (α := S2x96x1024x262144.Idx) (β := EReal) u).trans ?_
  constructor
  · rintro ⟨_, H⟩ n hn
    have := H (ix4 b c k n) (Finset.mem_filter.2 ⟨Finset.mem_univ _, (hm _).2 ⟨n, rfl⟩⟩)
    rw [masked_at, if_pos hn] at this
    exact this
  · intro H
    refine ⟨?_, fun i hi => ?_⟩
    · show (Scalar.ofBits .f32 0xFF800000#32 : Ideal .f32) ≤ u
      rw [Cert.Proof.Tile.bot_word]; exact bot_le
    · obtain ⟨n, rfl⟩ := (hm i).1 (Finset.mem_filter.1 hi).2
      rw [masked_at]
      split
      · exact H n ‹_›
      · exact bot_le

/-- The planes follow one another, a batch's 96 together. -/
theorem plane_at (x : FVec Ideal S2x96x512x512 .f32) (b : Fin 2) (c : Fin 96) (n : Fin 262144) :
    shapeCast Cert.KernelIdeal.S192x262144 x Cert.KernelIdeal.Gen.shapeCasts_S2x96x512x512_S192x262144 (ix2 ⟨96 * b.val + c.val, by omega⟩ n)
      = shapeCast S2x96x262144 x shapeCasts_S2x96x512x512_S2x96x262144 (ix3 b c n) := by
  refine shapeCast_apply x _ _ (S2x96x512x512.rowMajor.symm (Fin.cast shapeCasts_S2x96x512x512_S2x96x262144.symm (S2x96x262144.rowMajor (ix3 b c n)))) ?_
  rw [Equiv.apply_symm_apply, Shape.rowMajor_val_two]
  show (S2x96x262144.rowMajor (ix3 b c n)).val = _
  rw [Shape.rowMajor_val_three]
  show (b.val * 96 + c.val) * 262144 + n.val = (96 * b.val + c.val) * 262144 + n.val
  omega

/-- So do the rows of the result. -/
theorem row_at (z : FVec Ideal Cert.KernelIdeal.S192x1024 .f32) (b : Fin 2) (c : Fin 96) (k : Fin 1024) :
    shapeCast Cert.KernelIdeal.S2x96x1024 z Cert.KernelIdeal.Gen.shapeCasts_S192x1024_S2x96x1024 (ix3 b c k) = z (ix2 ⟨96 * b.val + c.val, by omega⟩ k) := by
  refine shapeCast_apply z _ _ _ ?_
  rw [Shape.rowMajor_val_two, Shape.rowMajor_val_three]
  show (96 * b.val + c.val) * 1024 + k.val = (b.val * 96 + c.val) * 1024 + k.val
  omega

/-- The kernel's buffer, by its upper bounds. -/
theorem kernel_le (A : IVec Cert.KernelIdeal.S2x262144 32) (B : FVec Ideal Cert.KernelIdeal.S192x262144 .f32) (hA : ∀ i, (A i).toNat < 1024)
    (b : Fin 2) (c : Fin 96) (k : Fin 1024) (u : EReal) :
    (Cert.Proof.Tile.outBuf (F := Ideal) A B (ix2 ⟨96 * b.val + c.val, by omega⟩ k) : EReal) ≤ u
      ↔ ∀ n : Fin 262144, A (ix2 b n) = BitVec.ofNat 32 k.val → (B (ix2 ⟨96 * b.val + c.val, by omega⟩ n) : EReal) ≤ u := by
  have hP : (96 * b.val + c.val) / 96 = b.val := by omega
  have hr : 96 * b.val + c.val + (0 : Fin 3).val < 192 := by simp; omega
  have hL : Cert.Proof.Tile.Labels (Cert.Proof.Tile.Lr A b.val) := by
    intro n
    unfold Cert.Proof.Tile.Lr
    split
    · exact hA _
    · decide
  show (Cert.Proof.Tile.result (F := Ideal) (Cert.Proof.Tile.Lr A ((96 * b.val + c.val) / 96)) (Cert.Proof.Tile.Dr B (96 * b.val + c.val) 0) (ix1 (n0 := 1024) k) : EReal) ≤ u ↔ _
  rw [hP, Cert.Proof.Tile.result_le hL]
  have l : ∀ n : Fin 262144, Cert.Proof.Tile.Lr A b.val n.val = A (ix2 b n) := fun n => dif_pos ⟨b.isLt, n.isLt⟩
  have d : ∀ n : Fin 262144, Cert.Proof.Tile.Dr B (96 * b.val + c.val) 0 n.val = B (ix2 ⟨96 * b.val + c.val, by omega⟩ n) := fun n => dif_pos ⟨hr, n.isLt⟩
  have e : ∀ w : BitVec 32, w.toNat = k.val ↔ w = BitVec.ofNat 32 k.val := fun w => by
    rw [← BitVec.toNat_inj, BitVec.toNat_ofNat, Nat.mod_eq_of_lt (by omega)]
  constructor
  · intro H n hn
    have := H n.val n.isLt (by rw [l, e]; exact hn)
    rwa [d] at this
  · intro H i hi hk
    rw [l ⟨i, hi⟩, e] at hk
    rw [d ⟨i, hi⟩]
    exact H ⟨i, hi⟩ hk

/-- The reference's result is the kernel's. -/
theorem value (x : FVec Ideal S2x96x512x512 .f32) (y : IVec S2x512x512 32) (hy : ∀ i, (y i).toNat < 1024) :
    maxima (shapeCast S2x96x262144 x shapeCasts_S2x96x512x512_S2x96x262144) (shapeCast S2x262144 y shapeCasts_S2x512x512_S2x262144)
      = shapeCast Cert.KernelIdeal.S2x96x1024
          (Cert.Proof.Tile.outBuf (shapeCast Cert.KernelIdeal.S2x262144 y Cert.KernelIdeal.Gen.shapeCasts_S2x512x512_S2x262144)
            (shapeCast Cert.KernelIdeal.S192x262144 x Cert.KernelIdeal.Gen.shapeCasts_S2x96x512x512_S192x262144))
          Cert.KernelIdeal.Gen.shapeCasts_S192x1024_S2x96x1024 := by
  funext j
  obtain ⟨b, c, k, rfl⟩ : ∃ (b : Fin 2) (c : Fin 96) (k : Fin 1024), j = ix3 b c k := ⟨j 0, j 1, j 2, eq_ix3 (n0 := 2) (n1 := 96) (n2 := 1024) j⟩
  rw [row_at]
  refine eq_of_forall_ge_iff (α := EReal) fun u => (ref_le _ _ b c k u).trans (Iff.trans ?_ (kernel_le _ _ (fun i => hy _) b c k u).symm)
  refine forall_congr' fun n => ?_
  rw [plane_at]
  exact Iff.rfl

end Cert.Proof.Value
-- ==== Proof.lean ====
/-
  The certificate: the kernel's run (`Launch.run_main`) at the machine's floats and at the extended reals, the reference's run,
  and the one equation between the two results (`Value.value`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_labels_in_range
public import proofs.«01_k».proof.Proof.Launch
public import proofs.«01_k».proof.Proof.Value
public import Idealize.ShloMosaic.Lib.ReduceAll
public import Idealize.ShloMosaic.Lib.WordCmp
public import Idealize.ShloMosaic.Adequacy
public import Idealize.ShloMosaic.Init

@[expose] public section

noncomputable section

namespace Cert.Proof

open Idealize.ShloMosaic Idealize.SL.Sem

theorem bit_true {b : Bool} (h : BitVec.ofBool b = 1#1) : b = true := by revert h; cases b <;> decide

/-- What the precondition says: every label is below 1024. -/
theorem below {F : FTy → Type} [FloatOps F] {x : FVec F Cert.Pre_labels_in_range.S2x96x512x512 .f32} {y : IVec Cert.Pre_labels_in_range.S2x512x512 32}
    (h : Cert.Pre_labels_in_range.fn x y = fun _ => 1#1) (i : Cert.Pre_labels_in_range.S2x512x512.Idx) : (y i).toNat < 1024 := by
  have e := congrFun h (fun a => a.elim0)
  simp only [Cert.Pre_labels_in_range.fn] at e
  haveI : Subsingleton Cert.Pre_labels_in_range.S_.Idx := ⟨fun _ _ => funext fun a => a.elim0⟩
  have e' := Host.reduce_andi_all _ _ _ _ _ e i
  simp only [andi, cmpi, broadcastInDim, constantI] at e'
  exact of_decide_eq_true <| bit_true ((WordCmp.andi_sge_zero_slt_ofNat (w := 32) (k := 1024) (by decide) (y i)).symm.trans e')

/-- So every label of the padded rows the tiles read is below 1024. -/
theorem inRange {F : FTy → Type} (m : (ℓ : Loc Cert.KernelIdeal.nD Cert.KernelIdeal.τ Cert.KernelIdeal.sig) → Buf (Elt F) ℓ)
    (h : ∀ d i, ((m (Launch.segLoc d) : IVec Cert.KernelIdeal.S2x512x512 32) i).toNat < 1024) : Launch.InRange m := by
  intro d b _ n
  unfold Tile.Lr
  split
  · exact h d _
  · decide

theorem frame_kernel : Cert.quiescent_Kernel := fun m ρ hp =>
  (θ_run (Cert.KernelIdeal.defs (F := Bits)) _ _).mono (fun _ h => ⟨fun c => (h.1 c).2, h.2⟩)
    (Launch.run_main (F := Bits) m ρ (inRange (F := Bits) m fun d => below (hp d)))

theorem frame_ideal : Cert.quiescent_KernelIdeal := fun m ρ hp =>
  (θ_run (Cert.KernelIdeal.defs (F := Ideal)) _ _).mono (fun _ h => ⟨fun c => (h.1 c).2, h.2⟩)
    (Launch.run_main (F := Ideal) m ρ (inRange m fun d => below (hp d)))

theorem frame_reference : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_in_range : Cert.quiescent_ReferenceIdeal_pre_labels_in_range := fun m ρ _ => frame_reference m ρ trivial

theorem algebraic : Cert.algebraic_KernelIdeal_ReferenceIdeal := by
  intro m ρ m' ρ' hp hag
  refine ⟨fun c => Launch.res m c, (θ_run (Cert.KernelIdeal.defs (F := Ideal)) _ _).mono (fun _ h c => h.1 c)
    (Launch.run_main (F := Ideal) m ρ (inRange m fun d => below (hp d))), ?_⟩
  refine (θ_run (Cert.ReferenceIdeal.defs (F := Ideal)) _ _).mono (fun _ h c => ⟨(h c).1.trans ?_, (h c).2⟩) (Cert.ReferenceIdeal.Value.run (F := Ideal) m' ρ')
  rw [(hag c).1, (hag c).2]
  exact Value.value _ _ (below (hp c))

theorem claim : Cert.Claim := ⟨Cert.Kernel.Gen.facts, Cert.KernelIdeal.Gen.facts, Cert.ReferenceIdeal.Gen.facts, Cert.Pre_labels_in_range.Gen.facts,
  frame_kernel, frame_ideal, frame_reference, frame_reference_in_range, trivial, algebraic⟩

end Cert.Proof

end
